-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![4, 1024, 8, 128]⟩ ⟨4, ![4, 1024, 64, 128]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![4, 1024, 8, 128]⟩ ⟨4, ![4, 1024, 64, 128]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v32) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S4x256x1024 : Shape := ⟨3, ![4, 256, 1024]⟩
abbrev S1024x1024 : Shape := ⟨2, ![1024, 1024]⟩
abbrev S4x1024x8x128 : Shape := ⟨4, ![4, 1024, 8, 128]⟩
abbrev S_ : Shape := ⟨0, ![]⟩

class Facts : Prop where
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4x1024x8x128 : S_.BroadcastsInDim S4x1024x8x128 (![] : Fin 0 → Fin S4x1024x8x128.rank)
  reducesTo_S4x1024x8x128_S_d0_1_2_3 : S4x1024x8x128.ReducesTo [0, 1, 2, 3] S_

variable [Facts]

def fn {F : FTy → Type} [FloatOps F] (main_arg0 : FVec F S4x256x1024 .f32) (main_arg1 : FVec F S1024x1024 .f32) (main_arg2 : FVec F S4x1024x8x128 .f32) (main_arg3 : FVec F S4x1024x8x128 .f32) (main_arg4 : FVec F S1024x1024 .f32) : IVec S_ 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_c : IVec S_ 1 := constantI S_ 1 1#1
  let main_v3 : IVec S_ 1 := (fun x v => Host.reduce IntOp.andi x v reducesTo_S4x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4x1024x8x128 .f32 := Host.absf main_arg2
  let main_cst_2 : FVec F S_ .f32 := constant S_ .f32 0x7F800000#32
  let main_v10 : FVec F S4x1024x8x128 .f32 := broadcastInDim S4x1024x8x128 ![] bcast_S_S4x1024x8x128 main_cst_2
  let main_v11 : IVec S4x1024x8x128 1 := cmpf .olt main_v9 main_v10
  let main_c_3 : IVec S_ 1 := constantI S_ 1 1#1
  let main_v12 : IVec S_ 1 := (fun x v => Host.reduce IntOp.andi x v reducesTo_S4x1024x8x128_S_d0_1_2_3 h_S_) main_v11 main_c_3
  let main_v13 : IVec S_ 1 := andi main_v8 main_v12
  main_v13
-- ==== Pre_finite_ReferenceIdeal.lean ====
abbrev S4x256x1024 : Shape := ⟨3, ![4, 256, 1024]⟩
abbrev S1024x8192 : Shape := ⟨2, ![1024, 8192]⟩
abbrev S4x1024x64x128 : Shape := ⟨4, ![4, 1024, 64, 128]⟩
abbrev S8192x1024 : Shape := ⟨2, ![8192, 1024]⟩
abbrev S_ : Shape := ⟨0, ![]⟩

class Facts : Prop where
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S4x1024x64x128 : S_.BroadcastsInDim S4x1024x64x128 (![] : Fin 0 → Fin S4x1024x64x128.rank)
  reducesTo_S4x1024x64x128_S_d0_1_2_3 : S4x1024x64x128.ReducesTo [0, 1, 2, 3] S_

variable [Facts]

def fn {F : FTy → Type} [FloatOps F] (main_arg0 : FVec F S4x256x1024 .f32) (main_arg1 : FVec F S1024x8192 .f32) (main_arg2 : FVec F S4x1024x64x128 .f32) (main_arg3 : FVec F S4x1024x64x128 .f32) (main_arg4 : FVec F S8192x1024 .f32) : IVec S_ 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_c : IVec S_ 1 := constantI S_ 1 1#1
  let main_v3 : IVec S_ 1 := (fun x v => Host.reduce IntOp.andi x v reducesTo_S4x256x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S4x1024x64x128 .f32 := Host.absf main_arg2
  let main_cst_2 : FVec F S_ .f32 := constant S_ .f32 0x7F800000#32
  let main_v10 : FVec F S4x1024x64x128 .f32 := broadcastInDim S4x1024x64x128 ![] bcast_S_S4x1024x64x128 main_cst_2
  let main_v11 : IVec S4x1024x64x128 1 := cmpf .olt main_v9 main_v10
  let main_c_3 : IVec S_ 1 := constantI S_ 1 1#1
  let main_v12 : IVec S_ 1 := (fun x v => Host.reduce IntOp.andi x v reducesTo_S4x1024x64x128_S_d0_1_2_3 h_S_) main_v11 main_c_3
  let main_v13 : IVec S_ 1 := andi main_v8 main_v12
  main_v13
-- ==== Kernel.lean ====
abbrev S4x256x1024 : Shape := ⟨3, ![4, 256, 1024]⟩
abbrev S1024x1024 : Shape := ⟨2, ![1024, 1024]⟩
abbrev S4x1024x8x128 : Shape := ⟨4, ![4, 1024, 8, 128]⟩
abbrev S2x512x1024 : Shape := ⟨3, ![2, 512, 1024]⟩
abbrev S4x1024x128 : Shape := ⟨3, ![4, 1024, 128]⟩
abbrev S10 : Shape := ⟨1, ![10]⟩
abbrev S4 : Shape := ⟨1, ![4]⟩
abbrev S_ : Shape := ⟨0, ![]⟩
abbrev S1 : Shape := ⟨1, ![1]⟩
abbrev S1x1024x128 : Shape := ⟨3, ![1, 1024, 128]⟩
abbrev S1024x128 : Shape := ⟨2, ![1024, 128]⟩
abbrev S1x1024x1x128 : Shape := ⟨4, ![1, 1024, 1, 128]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S512x1024 : Shape := ⟨2, ![512, 1024]⟩
abbrev S1x512x1024 : Shape := ⟨3, ![1, 512, 1024]⟩
abbrev S1x256x1024 : Shape := ⟨3, ![1, 256, 1024]⟩
abbrev S1x128x1024 : Shape := ⟨3, ![1, 128, 1024]⟩
abbrev S128x1024 : Shape := ⟨2, ![128, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S4x1024x8x128, .f32⟩
  | .hbm, ⟨3, _⟩ => ⟨S4x1024x8x128, .f32⟩
  | .hbm, ⟨4, _⟩ => ⟨S1024x1024, .f32⟩
  | .hbm, ⟨5, _⟩ => ⟨S1024x1024, .bf16⟩
  | .local _ .vmem, ⟨0, _⟩ => ⟨S4x256x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S2x512x1024, .bf16⟩
  | .local _ .vmem, ⟨7, _⟩ => ⟨S4x1024x128, .f32⟩
  | .local _ .vmem, ⟨8, _⟩ => ⟨S4x1024x128, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.xori v2 c1_i32_4
  let c1_i32_6 : BitVec 32 := 1#32
  let v10 : BitVec 32 := Scalar.muli v9 c1_i32_6
  let v11 : BitVec 32 := Scalar.addi c0_i32 v10
  v11.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.xori v2 c3_i32
  let c1_i32_8 : BitVec 32 := 1#32
  let v13 : BitVec 32 := Scalar.muli v12 c1_i32_8
  let v14 : BitVec 32 := Scalar.addi c0_i32_9 v13
  v14.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v15 : BitVec 32 := Scalar.xori v2 c4_i32
  let c1_i32_11 : BitVec 32 := 1#32
  let v16 : BitVec 32 := Scalar.muli v15 c1_i32_11
  let v17 : BitVec 32 := Scalar.addi c0_i32_12 v16
  v17.toNat
def k0_off1 (d0 : Dev nD) : Fin 4 → Nat :=
  let c2_i32_19 : BitVec 32 := 2#32
  let c1_i32_18 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v28 : BitVec 32 := Scalar.subi c1_i32_18 v7
  let v29 : BitVec 32 := Scalar.muli c2_i32_19 v28
  let c0_i32_42 : BitVec 32 := 0#32
  let c0_i32_37 : BitVec 32 := 0#32
  let c0_i32_43 : BitVec 32 := 0#32
  ![v29.toNat, 0, 0, 0]
def k0_off2 (d0 : Dev nD) : Fin 4 → Nat :=
  let c2_i32_19 : BitVec 32 := 2#32
  let c1_i32_18 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v28 : BitVec 32 := Scalar.subi c1_i32_18 v7
  let v29 : BitVec 32 := Scalar.muli c2_i32_19 v28
  let c0_i32_56 : BitVec 32 := 0#32
  let c1_i32_51 : BitVec 32 := 1#32
  let c0_i32_57 : BitVec 32 := 0#32
  ![v29.toNat, 0, 1, 0]
def k0_off3 (d0 : Dev nD) : Fin 4 → Nat :=
  let c2_i32_19 : BitVec 32 := 2#32
  let c1_i32_18 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v28 : BitVec 32 := Scalar.subi c1_i32_18 v7
  let v29 : BitVec 32 := Scalar.muli c2_i32_19 v28
  let c0_i32_70 : BitVec 32 := 0#32
  let c2_i32_65 : BitVec 32 := 2#32
  let c0_i32_71 : BitVec 32 := 0#32
  ![v29.toNat, 0, 2, 0]
def k0_off4 (d0 : Dev nD) : Fin 4 → Nat :=
  let c2_i32_19 : BitVec 32 := 2#32
  let c1_i32_18 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v28 : BitVec 32 := Scalar.subi c1_i32_18 v7
  let v29 : BitVec 32 := Scalar.muli c2_i32_19 v28
  let c0_i32_94 : BitVec 32 := 0#32
  let c3_i32_89 : BitVec 32 := 3#32
  let c0_i32_95 : BitVec 32 := 0#32
  ![v29.toNat, 0, 3, 0]
def k0_off5 (d0 : Dev nD) : Fin 2 → Nat :=
  let c2_i32_19 : BitVec 32 := 2#32
  let c1_i32_18 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v28 : BitVec 32 := Scalar.subi c1_i32_18 v7
  let v29 : BitVec 32 := Scalar.muli c2_i32_19 v28
  let c256_i32_88 : BitVec 32 := 256#32
  let v120 : BitVec 32 := Scalar.muli v29 c256_i32_88
  let v151 : Index := Scalar.indexCast v120
  let c0_123 : Index := 0#32
  ![v151.toNat, 0]
def k0_off6 (d0 : Dev nD) : Fin 4 → Nat :=
  let c2_i32_19 : BitVec 32 := 2#32
  let c1_i32_18 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v28 : BitVec 32 := Scalar.subi c1_i32_18 v7
  let v29 : BitVec 32 := Scalar.muli c2_i32_19 v28
  let c0_i32_133 : BitVec 32 := 0#32
  let c4_i32_128 : BitVec 32 := 4#32
  let c0_i32_134 : BitVec 32 := 0#32
  ![v29.toNat, 0, 4, 0]
def k0_off7 (d0 : Dev nD) : Fin 2 → Nat :=
  let c2_i32_19 : BitVec 32 := 2#32
  let c1_i32_18 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v28 : BitVec 32 := Scalar.subi c1_i32_18 v7
  let v29 : BitVec 32 := Scalar.muli c2_i32_19 v28
  let c256_i32_88 : BitVec 32 := 256#32
  let v120 : BitVec 32 := Scalar.muli v29 c256_i32_88
  let v196 : Index := Scalar.indexCast v120
  let c128 : Index := 128#32
  ![v196.toNat, 128]
def k0_off8 (d0 : Dev nD) : Fin 4 → Nat :=
  let c2_i32_19 : BitVec 32 := 2#32
  let c1_i32_18 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v28 : BitVec 32 := Scalar.subi c1_i32_18 v7
  let v29 : BitVec 32 := Scalar.muli c2_i32_19 v28
  let c0_i32_169 : BitVec 32 := 0#32
  let c5_i32 : BitVec 32 := 5#32
  let c0_i32_170 : BitVec 32 := 0#32
  ![v29.toNat, 0, 5, 0]
def k0_off9 (d0 : Dev nD) : Fin 2 → Nat :=
  let c2_i32_19 : BitVec 32 := 2#32
  let c1_i32_18 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v28 : BitVec 32 := Scalar.subi c1_i32_18 v7
  let v29 : BitVec 32 := Scalar.muli c2_i32_19 v28
  let c256_i32_88 : BitVec 32 := 256#32
  let v120 : BitVec 32 := Scalar.muli v29 c256_i32_88
  let v241 : Index := Scalar.indexCast v120
  let c256 : Index := 256#32
  ![v241.toNat, 256]
def k0_off10 (d0 : Dev nD) : Fin 4 → Nat :=
  let c2_i32_19 : BitVec 32 := 2#32
  let c1_i32_18 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v28 : BitVec 32 := Scalar.subi c1_i32_18 v7
  let v29 : BitVec 32 := Scalar.muli c2_i32_19 v28
  let c0_i32_205 : BitVec 32 := 0#32
  let c6_i32 : BitVec 32 := 6#32
  let c0_i32_206 : BitVec 32 := 0#32
  ![v29.toNat, 0, 6, 0]
def k0_off11 (d0 : Dev nD) : Fin 2 → Nat :=
  let c2_i32_19 : BitVec 32 := 2#32
  let c1_i32_18 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v28 : BitVec 32 := Scalar.subi c1_i32_18 v7
  let v29 : BitVec 32 := Scalar.muli c2_i32_19 v28
  let c256_i32_88 : BitVec 32 := 256#32
  let v120 : BitVec 32 := Scalar.muli v29 c256_i32_88
  let v286 : Index := Scalar.indexCast v120
  let c384 : Index := 384#32
  ![v286.toNat, 384]
def k0_off12 (d0 : Dev nD) : Fin 4 → Nat :=
  let c2_i32_19 : BitVec 32 := 2#32
  let c1_i32_18 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v28 : BitVec 32 := Scalar.subi c1_i32_18 v7
  let v29 : BitVec 32 := Scalar.muli c2_i32_19 v28
  let c0_i32_241 : BitVec 32 := 0#32
  let c7_i32 : BitVec 32 := 7#32
  let c0_i32_242 : BitVec 32 := 0#32
  ![v29.toNat, 0, 7, 0]
def k0_off13 (d0 : Dev nD) : Fin 2 → Nat :=
  let c2_i32_19 : BitVec 32 := 2#32
  let c1_i32_18 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v28 : BitVec 32 := Scalar.subi c1_i32_18 v7
  let v29 : BitVec 32 := Scalar.muli c2_i32_19 v28
  let c256_i32_88 : BitVec 32 := 256#32
  let v120 : BitVec 32 := Scalar.muli v29 c256_i32_88
  let v331 : Index := Scalar.indexCast v120
  let c512 : Index := 512#32
  ![v331.toNat, 512]
def k0_off14 (d0 : Dev nD) : Fin 4 → Nat :=
  let c2_i32_21 : BitVec 32 := 2#32
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v30 : BitVec 32 := Scalar.subi c1_i32_20 v7
  let v31 : BitVec 32 := Scalar.muli c2_i32_21 v30
  let c1_i32_22 : BitVec 32 := 1#32
  let v32 : BitVec 32 := Scalar.addi v31 c1_i32_22
  let c0_i32_279 : BitVec 32 := 0#32
  let c0_i32_274 : BitVec 32 := 0#32
  let c0_i32_280 : BitVec 32 := 0#32
  ![v32.toNat, 0, 0, 0]
def k0_off15 (d0 : Dev nD) : Fin 2 → Nat :=
  let c2_i32_19 : BitVec 32 := 2#32
  let c1_i32_18 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v28 : BitVec 32 := Scalar.subi c1_i32_18 v7
  let v29 : BitVec 32 := Scalar.muli c2_i32_19 v28
  let c256_i32_88 : BitVec 32 := 256#32
  let v120 : BitVec 32 := Scalar.muli v29 c256_i32_88
  let v376 : Index := Scalar.indexCast v120
  let c640 : Index := 640#32
  ![v376.toNat, 640]
def k0_off16 (d0 : Dev nD) : Fin 4 → Nat :=
  let c2_i32_21 : BitVec 32 := 2#32
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v30 : BitVec 32 := Scalar.subi c1_i32_20 v7
  let v31 : BitVec 32 := Scalar.muli c2_i32_21 v30
  let c1_i32_22 : BitVec 32 := 1#32
  let v32 : BitVec 32 := Scalar.addi v31 c1_i32_22
  let c0_i32_317 : BitVec 32 := 0#32
  let c1_i32_312 : BitVec 32 := 1#32
  let c0_i32_318 : BitVec 32 := 0#32
  ![v32.toNat, 0, 1, 0]
def k0_off17 (d0 : Dev nD) : Fin 2 → Nat :=
  let c2_i32_19 : BitVec 32 := 2#32
  let c1_i32_18 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v28 : BitVec 32 := Scalar.subi c1_i32_18 v7
  let v29 : BitVec 32 := Scalar.muli c2_i32_19 v28
  let c256_i32_88 : BitVec 32 := 256#32
  let v120 : BitVec 32 := Scalar.muli v29 c256_i32_88
  let v421 : Index := Scalar.indexCast v120
  let c768 : Index := 768#32
  ![v421.toNat, 768]
def k0_off18 (d0 : Dev nD) : Fin 4 → Nat :=
  let c2_i32_21 : BitVec 32 := 2#32
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v30 : BitVec 32 := Scalar.subi c1_i32_20 v7
  let v31 : BitVec 32 := Scalar.muli c2_i32_21 v30
  let c1_i32_22 : BitVec 32 := 1#32
  let v32 : BitVec 32 := Scalar.addi v31 c1_i32_22
  let c0_i32_355 : BitVec 32 := 0#32
  let c2_i32_350 : BitVec 32 := 2#32
  let c0_i32_356 : BitVec 32 := 0#32
  ![v32.toNat, 0, 2, 0]
def k0_off19 (d0 : Dev nD) : Fin 2 → Nat :=
  let c2_i32_19 : BitVec 32 := 2#32
  let c1_i32_18 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v28 : BitVec 32 := Scalar.subi c1_i32_18 v7
  let v29 : BitVec 32 := Scalar.muli c2_i32_19 v28
  let c256_i32_88 : BitVec 32 := 256#32
  let v120 : BitVec 32 := Scalar.muli v29 c256_i32_88
  let v466 : Index := Scalar.indexCast v120
  let c896 : Index := 896#32
  ![v466.toNat, 896]
def k0_off20 (d0 : Dev nD) : Fin 4 → Nat :=
  let c2_i32_21 : BitVec 32 := 2#32
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v30 : BitVec 32 := Scalar.subi c1_i32_20 v7
  let v31 : BitVec 32 := Scalar.muli c2_i32_21 v30
  let c1_i32_22 : BitVec 32 := 1#32
  let v32 : BitVec 32 := Scalar.addi v31 c1_i32_22
  let c0_i32_394 : BitVec 32 := 0#32
  let c3_i32_389 : BitVec 32 := 3#32
  let c0_i32_395 : BitVec 32 := 0#32
  ![v32.toNat, 0, 3, 0]
def k0_off21 (d0 : Dev nD) : Fin 2 → Nat :=
  let c2_i32_21 : BitVec 32 := 2#32
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v30 : BitVec 32 := Scalar.subi c1_i32_20 v7
  let v31 : BitVec 32 := Scalar.muli c2_i32_21 v30
  let c1_i32_22 : BitVec 32 := 1#32
  let v32 : BitVec 32 := Scalar.addi v31 c1_i32_22
  let c256_i32_388 : BitVec 32 := 256#32
  let v481 : BitVec 32 := Scalar.muli v32 c256_i32_388
  let v512 : Index := Scalar.indexCast v481
  let c0_423 : Index := 0#32
  ![v512.toNat, 0]
def k0_off22 (d0 : Dev nD) : Fin 4 → Nat :=
  let c2_i32_21 : BitVec 32 := 2#32
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v30 : BitVec 32 := Scalar.subi c1_i32_20 v7
  let v31 : BitVec 32 := Scalar.muli c2_i32_21 v30
  let c1_i32_22 : BitVec 32 := 1#32
  let v32 : BitVec 32 := Scalar.addi v31 c1_i32_22
  let c0_i32_433 : BitVec 32 := 0#32
  let c4_i32_428 : BitVec 32 := 4#32
  let c0_i32_434 : BitVec 32 := 0#32
  ![v32.toNat, 0, 4, 0]
def k0_off23 (d0 : Dev nD) : Fin 2 → Nat :=
  let c2_i32_21 : BitVec 32 := 2#32
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v30 : BitVec 32 := Scalar.subi c1_i32_20 v7
  let v31 : BitVec 32 := Scalar.muli c2_i32_21 v30
  let c1_i32_22 : BitVec 32 := 1#32
  let v32 : BitVec 32 := Scalar.addi v31 c1_i32_22
  let c256_i32_388 : BitVec 32 := 256#32
  let v481 : BitVec 32 := Scalar.muli v32 c256_i32_388
  let v557 : Index := Scalar.indexCast v481
  let c128_462 : Index := 128#32
  ![v557.toNat, 128]
def k0_off24 (d0 : Dev nD) : Fin 4 → Nat :=
  let c2_i32_21 : BitVec 32 := 2#32
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v30 : BitVec 32 := Scalar.subi c1_i32_20 v7
  let v31 : BitVec 32 := Scalar.muli c2_i32_21 v30
  let c1_i32_22 : BitVec 32 := 1#32
  let v32 : BitVec 32 := Scalar.addi v31 c1_i32_22
  let c0_i32_472 : BitVec 32 := 0#32
  let c5_i32_467 : BitVec 32 := 5#32
  let c0_i32_473 : BitVec 32 := 0#32
  ![v32.toNat, 0, 5, 0]
def k0_off25 (d0 : Dev nD) : Fin 2 → Nat :=
  let c2_i32_21 : BitVec 32 := 2#32
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v30 : BitVec 32 := Scalar.subi c1_i32_20 v7
  let v31 : BitVec 32 := Scalar.muli c2_i32_21 v30
  let c1_i32_22 : BitVec 32 := 1#32
  let v32 : BitVec 32 := Scalar.addi v31 c1_i32_22
  let c256_i32_388 : BitVec 32 := 256#32
  let v481 : BitVec 32 := Scalar.muli v32 c256_i32_388
  let v602 : Index := Scalar.indexCast v481
  let c256_501 : Index := 256#32
  ![v602.toNat, 256]
def k0_off26 (d0 : Dev nD) : Fin 4 → Nat :=
  let c2_i32_21 : BitVec 32 := 2#32
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v30 : BitVec 32 := Scalar.subi c1_i32_20 v7
  let v31 : BitVec 32 := Scalar.muli c2_i32_21 v30
  let c1_i32_22 : BitVec 32 := 1#32
  let v32 : BitVec 32 := Scalar.addi v31 c1_i32_22
  let c0_i32_511 : BitVec 32 := 0#32
  let c6_i32_506 : BitVec 32 := 6#32
  let c0_i32_512 : BitVec 32 := 0#32
  ![v32.toNat, 0, 6, 0]
def k0_off27 (d0 : Dev nD) : Fin 2 → Nat :=
  let c2_i32_21 : BitVec 32 := 2#32
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v30 : BitVec 32 := Scalar.subi c1_i32_20 v7
  let v31 : BitVec 32 := Scalar.muli c2_i32_21 v30
  let c1_i32_22 : BitVec 32 := 1#32
  let v32 : BitVec 32 := Scalar.addi v31 c1_i32_22
  let c256_i32_388 : BitVec 32 := 256#32
  let v481 : BitVec 32 := Scalar.muli v32 c256_i32_388
  let v647 : Index := Scalar.indexCast v481
  let c384_540 : Index := 384#32
  ![v647.toNat, 384]
def k0_off28 (d0 : Dev nD) : Fin 4 → Nat :=
  let c2_i32_21 : BitVec 32 := 2#32
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v30 : BitVec 32 := Scalar.subi c1_i32_20 v7
  let v31 : BitVec 32 := Scalar.muli c2_i32_21 v30
  let c1_i32_22 : BitVec 32 := 1#32
  let v32 : BitVec 32 := Scalar.addi v31 c1_i32_22
  let c0_i32_550 : BitVec 32 := 0#32
  let c7_i32_545 : BitVec 32 := 7#32
  let c0_i32_551 : BitVec 32 := 0#32
  ![v32.toNat, 0, 7, 0]
def k0_off29 (d0 : Dev nD) : Fin 2 → Nat :=
  let c2_i32_21 : BitVec 32 := 2#32
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v30 : BitVec 32 := Scalar.subi c1_i32_20 v7
  let v31 : BitVec 32 := Scalar.muli c2_i32_21 v30
  let c1_i32_22 : BitVec 32 := 1#32
  let v32 : BitVec 32 := Scalar.addi v31 c1_i32_22
  let c256_i32_388 : BitVec 32 := 256#32
  let v481 : BitVec 32 := Scalar.muli v32 c256_i32_388
  let v692 : Index := Scalar.indexCast v481
  let c512_579 : Index := 512#32
  ![v692.toNat, 512]
def k0_off30 (d0 : Dev nD) : Fin 4 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32_17 : BitVec 32 := 256#32
  let c1_i32_16 : BitVec 32 := 1#32
  let c1_i32_1 : BitVec 32 := 1#32
  let v4 : BitVec 32 := Scalar.shrsi v2 c1_i32_1
  let c1_i32_2 : BitVec 32 := 1#32
  let v5 : BitVec 32 := Scalar.andi v4 c1_i32_2
  let v25 : BitVec 32 := Scalar.subi c1_i32_16 v5
  let v26 : BitVec 32 := Scalar.muli c256_i32_17 v25
  let v27 : BitVec 32 := Scalar.addi v18 v26
  let c0_i32_24 : BitVec 32 := 0#32
  let v34 : BitVec 1 := Scalar.cmpi .sgt v27 c0_i32_24
  let v35 : BitVec 32 := Scalar.extui v34
  let c0_i32_25 : BitVec 32 := 0#32
  let v36 : BitVec 1 := Scalar.cmpi .slt v27 c0_i32_25
  let v37 : BitVec 32 := Scalar.extui v36
  let v38 : BitVec 32 := Scalar.subi v35 v37
  let c256_i32_23 : BitVec 32 := 256#32
  let c0_i32_26 : BitVec 32 := 0#32
  let v39 : BitVec 1 := Scalar.cmpi .sgt c256_i32_23 c0_i32_26
  let v40 : BitVec 32 := Scalar.extui v39
  let c0_i32_27 : BitVec 32 := 0#32
  let v41 : BitVec 1 := Scalar.cmpi .slt c256_i32_23 c0_i32_27
  let v42 : BitVec 32 := Scalar.extui v41
  let v43 : BitVec 32 := Scalar.subi v40 v42
  let v44 : BitVec 1 := Scalar.cmpi .ne v38 v43
  let v45 : BitVec 32 := Scalar.remsi v27 c256_i32_23
  let c0_i32_28 : BitVec 32 := 0#32
  let v46 : BitVec 1 := Scalar.cmpi .ne v45 c0_i32_28
  let v47 : BitVec 1 := Scalar.andi v44 v46
  let v33 : BitVec 32 := Scalar.divsi v27 c256_i32_23
  let c1_i32_29 : BitVec 32 := 1#32
  let v48 : BitVec 32 := Scalar.subi v33 c1_i32_29
  let v49 : BitVec 32 := Scalar.select v47 v48 v33
  let c0_i32_589 : BitVec 32 := 0#32
  let c0_i32_584 : BitVec 32 := 0#32
  let c0_i32_590 : BitVec 32 := 0#32
  ![v49.toNat, 0, 0, 0]
def k0_off31 (d0 : Dev nD) : Fin 2 → Nat :=
  let c2_i32_21 : BitVec 32 := 2#32
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v30 : BitVec 32 := Scalar.subi c1_i32_20 v7
  let v31 : BitVec 32 := Scalar.muli c2_i32_21 v30
  let c1_i32_22 : BitVec 32 := 1#32
  let v32 : BitVec 32 := Scalar.addi v31 c1_i32_22
  let c256_i32_388 : BitVec 32 := 256#32
  let v481 : BitVec 32 := Scalar.muli v32 c256_i32_388
  let v737 : Index := Scalar.indexCast v481
  let c640_618 : Index := 640#32
  ![v737.toNat, 640]
def k0_off32 (d0 : Dev nD) : Fin 4 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32_17 : BitVec 32 := 256#32
  let c1_i32_16 : BitVec 32 := 1#32
  let c1_i32_1 : BitVec 32 := 1#32
  let v4 : BitVec 32 := Scalar.shrsi v2 c1_i32_1
  let c1_i32_2 : BitVec 32 := 1#32
  let v5 : BitVec 32 := Scalar.andi v4 c1_i32_2
  let v25 : BitVec 32 := Scalar.subi c1_i32_16 v5
  let v26 : BitVec 32 := Scalar.muli c256_i32_17 v25
  let v27 : BitVec 32 := Scalar.addi v18 v26
  let c0_i32_24 : BitVec 32 := 0#32
  let v34 : BitVec 1 := Scalar.cmpi .sgt v27 c0_i32_24
  let v35 : BitVec 32 := Scalar.extui v34
  let c0_i32_25 : BitVec 32 := 0#32
  let v36 : BitVec 1 := Scalar.cmpi .slt v27 c0_i32_25
  let v37 : BitVec 32 := Scalar.extui v36
  let v38 : BitVec 32 := Scalar.subi v35 v37
  let c256_i32_23 : BitVec 32 := 256#32
  let c0_i32_26 : BitVec 32 := 0#32
  let v39 : BitVec 1 := Scalar.cmpi .sgt c256_i32_23 c0_i32_26
  let v40 : BitVec 32 := Scalar.extui v39
  let c0_i32_27 : BitVec 32 := 0#32
  let v41 : BitVec 1 := Scalar.cmpi .slt c256_i32_23 c0_i32_27
  let v42 : BitVec 32 := Scalar.extui v41
  let v43 : BitVec 32 := Scalar.subi v40 v42
  let v44 : BitVec 1 := Scalar.cmpi .ne v38 v43
  let v45 : BitVec 32 := Scalar.remsi v27 c256_i32_23
  let c0_i32_28 : BitVec 32 := 0#32
  let v46 : BitVec 1 := Scalar.cmpi .ne v45 c0_i32_28
  let v47 : BitVec 1 := Scalar.andi v44 v46
  let v33 : BitVec 32 := Scalar.divsi v27 c256_i32_23
  let c1_i32_29 : BitVec 32 := 1#32
  let v48 : BitVec 32 := Scalar.subi v33 c1_i32_29
  let v49 : BitVec 32 := Scalar.select v47 v48 v33
  let c0_i32_628 : BitVec 32 := 0#32
  let c1_i32_623 : BitVec 32 := 1#32
  let c0_i32_629 : BitVec 32 := 0#32
  ![v49.toNat, 0, 1, 0]
def k0_off33 (d0 : Dev nD) : Fin 2 → Nat :=
  let c2_i32_21 : BitVec 32 := 2#32
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v30 : BitVec 32 := Scalar.subi c1_i32_20 v7
  let v31 : BitVec 32 := Scalar.muli c2_i32_21 v30
  let c1_i32_22 : BitVec 32 := 1#32
  let v32 : BitVec 32 := Scalar.addi v31 c1_i32_22
  let c256_i32_388 : BitVec 32 := 256#32
  let v481 : BitVec 32 := Scalar.muli v32 c256_i32_388
  let v782 : Index := Scalar.indexCast v481
  let c768_657 : Index := 768#32
  ![v782.toNat, 768]
def k0_off34 (d0 : Dev nD) : Fin 4 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32_17 : BitVec 32 := 256#32
  let c1_i32_16 : BitVec 32 := 1#32
  let c1_i32_1 : BitVec 32 := 1#32
  let v4 : BitVec 32 := Scalar.shrsi v2 c1_i32_1
  let c1_i32_2 : BitVec 32 := 1#32
  let v5 : BitVec 32 := Scalar.andi v4 c1_i32_2
  let v25 : BitVec 32 := Scalar.subi c1_i32_16 v5
  let v26 : BitVec 32 := Scalar.muli c256_i32_17 v25
  let v27 : BitVec 32 := Scalar.addi v18 v26
  let c0_i32_24 : BitVec 32 := 0#32
  let v34 : BitVec 1 := Scalar.cmpi .sgt v27 c0_i32_24
  let v35 : BitVec 32 := Scalar.extui v34
  let c0_i32_25 : BitVec 32 := 0#32
  let v36 : BitVec 1 := Scalar.cmpi .slt v27 c0_i32_25
  let v37 : BitVec 32 := Scalar.extui v36
  let v38 : BitVec 32 := Scalar.subi v35 v37
  let c256_i32_23 : BitVec 32 := 256#32
  let c0_i32_26 : BitVec 32 := 0#32
  let v39 : BitVec 1 := Scalar.cmpi .sgt c256_i32_23 c0_i32_26
  let v40 : BitVec 32 := Scalar.extui v39
  let c0_i32_27 : BitVec 32 := 0#32
  let v41 : BitVec 1 := Scalar.cmpi .slt c256_i32_23 c0_i32_27
  let v42 : BitVec 32 := Scalar.extui v41
  let v43 : BitVec 32 := Scalar.subi v40 v42
  let v44 : BitVec 1 := Scalar.cmpi .ne v38 v43
  let v45 : BitVec 32 := Scalar.remsi v27 c256_i32_23
  let c0_i32_28 : BitVec 32 := 0#32
  let v46 : BitVec 1 := Scalar.cmpi .ne v45 c0_i32_28
  let v47 : BitVec 1 := Scalar.andi v44 v46
  let v33 : BitVec 32 := Scalar.divsi v27 c256_i32_23
  let c1_i32_29 : BitVec 32 := 1#32
  let v48 : BitVec 32 := Scalar.subi v33 c1_i32_29
  let v49 : BitVec 32 := Scalar.select v47 v48 v33
  let c0_i32_667 : BitVec 32 := 0#32
  let c2_i32_662 : BitVec 32 := 2#32
  let c0_i32_668 : BitVec 32 := 0#32
  ![v49.toNat, 0, 2, 0]
def k0_off35 (d0 : Dev nD) : Fin 2 → Nat :=
  let c2_i32_21 : BitVec 32 := 2#32
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v30 : BitVec 32 := Scalar.subi c1_i32_20 v7
  let v31 : BitVec 32 := Scalar.muli c2_i32_21 v30
  let c1_i32_22 : BitVec 32 := 1#32
  let v32 : BitVec 32 := Scalar.addi v31 c1_i32_22
  let c256_i32_388 : BitVec 32 := 256#32
  let v481 : BitVec 32 := Scalar.muli v32 c256_i32_388
  let v827 : Index := Scalar.indexCast v481
  let c896_696 : Index := 896#32
  ![v827.toNat, 896]
def k0_off36 (d0 : Dev nD) : Fin 2 → Nat :=
  let c512_i32_15 : BitVec 32 := 512#32
  let c1_i32_14 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v23 : BitVec 32 := Scalar.subi c1_i32_14 v7
  let v24 : BitVec 32 := Scalar.muli c512_i32_15 v23
  let v842 : Index := Scalar.indexCast v24
  let c0_701 : Index := 0#32
  ![v842.toNat, 0]
def k0_off37 (d0 : Dev nD) : Fin 2 → Nat :=
  let c512_i32_15 : BitVec 32 := 512#32
  let c1_i32_14 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v23 : BitVec 32 := Scalar.subi c1_i32_14 v7
  let v24 : BitVec 32 := Scalar.muli c512_i32_15 v23
  let c0_i32_712 : BitVec 32 := 0#32
  ![v24.toNat, 0]
def k0_dev4 (d0 : Dev nD) : Nat :=
  let c0_i32_709 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_704 : BitVec 32 := 4#32
  let v848 : BitVec 32 := Scalar.xori v2 c4_i32_704
  let c1_i32_708 : BitVec 32 := 1#32
  let v849 : BitVec 32 := Scalar.muli v848 c1_i32_708
  let v850 : BitVec 32 := Scalar.addi c0_i32_709 v849
  v850.toNat
def k0_off38 (d0 : Dev nD) : Fin 4 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32_17 : BitVec 32 := 256#32
  let c1_i32_16 : BitVec 32 := 1#32
  let c1_i32_1 : BitVec 32 := 1#32
  let v4 : BitVec 32 := Scalar.shrsi v2 c1_i32_1
  let c1_i32_2 : BitVec 32 := 1#32
  let v5 : BitVec 32 := Scalar.andi v4 c1_i32_2
  let v25 : BitVec 32 := Scalar.subi c1_i32_16 v5
  let v26 : BitVec 32 := Scalar.muli c256_i32_17 v25
  let v27 : BitVec 32 := Scalar.addi v18 v26
  let c0_i32_24 : BitVec 32 := 0#32
  let v34 : BitVec 1 := Scalar.cmpi .sgt v27 c0_i32_24
  let v35 : BitVec 32 := Scalar.extui v34
  let c0_i32_25 : BitVec 32 := 0#32
  let v36 : BitVec 1 := Scalar.cmpi .slt v27 c0_i32_25
  let v37 : BitVec 32 := Scalar.extui v36
  let v38 : BitVec 32 := Scalar.subi v35 v37
  let c256_i32_23 : BitVec 32 := 256#32
  let c0_i32_26 : BitVec 32 := 0#32
  let v39 : BitVec 1 := Scalar.cmpi .sgt c256_i32_23 c0_i32_26
  let v40 : BitVec 32 := Scalar.extui v39
  let c0_i32_27 : BitVec 32 := 0#32
  let v41 : BitVec 1 := Scalar.cmpi .slt c256_i32_23 c0_i32_27
  let v42 : BitVec 32 := Scalar.extui v41
  let v43 : BitVec 32 := Scalar.subi v40 v42
  let v44 : BitVec 1 := Scalar.cmpi .ne v38 v43
  let v45 : BitVec 32 := Scalar.remsi v27 c256_i32_23
  let c0_i32_28 : BitVec 32 := 0#32
  let v46 : BitVec 1 := Scalar.cmpi .ne v45 c0_i32_28
  let v47 : BitVec 1 := Scalar.andi v44 v46
  let v33 : BitVec 32 := Scalar.divsi v27 c256_i32_23
  let c1_i32_29 : BitVec 32 := 1#32
  let v48 : BitVec 32 := Scalar.subi v33 c1_i32_29
  let v49 : BitVec 32 := Scalar.select v47 v48 v33
  let c0_i32_719 : BitVec 32 := 0#32
  let c3_i32_714 : BitVec 32 := 3#32
  let c0_i32_720 : BitVec 32 := 0#32
  ![v49.toNat, 0, 3, 0]
def k0_off39 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32_17 : BitVec 32 := 256#32
  let c1_i32_16 : BitVec 32 := 1#32
  let c1_i32_1 : BitVec 32 := 1#32
  let v4 : BitVec 32 := Scalar.shrsi v2 c1_i32_1
  let c1_i32_2 : BitVec 32 := 1#32
  let v5 : BitVec 32 := Scalar.andi v4 c1_i32_2
  let v25 : BitVec 32 := Scalar.subi c1_i32_16 v5
  let v26 : BitVec 32 := Scalar.muli c256_i32_17 v25
  let v27 : BitVec 32 := Scalar.addi v18 v26
  let c0_i32_24 : BitVec 32 := 0#32
  let v34 : BitVec 1 := Scalar.cmpi .sgt v27 c0_i32_24
  let v35 : BitVec 32 := Scalar.extui v34
  let c0_i32_25 : BitVec 32 := 0#32
  let v36 : BitVec 1 := Scalar.cmpi .slt v27 c0_i32_25
  let v37 : BitVec 32 := Scalar.extui v36
  let v38 : BitVec 32 := Scalar.subi v35 v37
  let c256_i32_23 : BitVec 32 := 256#32
  let c0_i32_26 : BitVec 32 := 0#32
  let v39 : BitVec 1 := Scalar.cmpi .sgt c256_i32_23 c0_i32_26
  let v40 : BitVec 32 := Scalar.extui v39
  let c0_i32_27 : BitVec 32 := 0#32
  let v41 : BitVec 1 := Scalar.cmpi .slt c256_i32_23 c0_i32_27
  let v42 : BitVec 32 := Scalar.extui v41
  let v43 : BitVec 32 := Scalar.subi v40 v42
  let v44 : BitVec 1 := Scalar.cmpi .ne v38 v43
  let v45 : BitVec 32 := Scalar.remsi v27 c256_i32_23
  let c0_i32_28 : BitVec 32 := 0#32
  let v46 : BitVec 1 := Scalar.cmpi .ne v45 c0_i32_28
  let v47 : BitVec 1 := Scalar.andi v44 v46
  let v33 : BitVec 32 := Scalar.divsi v27 c256_i32_23
  let c1_i32_29 : BitVec 32 := 1#32
  let v48 : BitVec 32 := Scalar.subi v33 c1_i32_29
  let v49 : BitVec 32 := Scalar.select v47 v48 v33
  let c256_i32_713 : BitVec 32 := 256#32
  let v858 : BitVec 32 := Scalar.muli v49 c256_i32_713
  let v889 : Index := Scalar.indexCast v858
  let c0_748 : Index := 0#32
  ![v889.toNat, 0]
def k0_off40 (d0 : Dev nD) : Fin 4 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32_17 : BitVec 32 := 256#32
  let c1_i32_16 : BitVec 32 := 1#32
  let c1_i32_1 : BitVec 32 := 1#32
  let v4 : BitVec 32 := Scalar.shrsi v2 c1_i32_1
  let c1_i32_2 : BitVec 32 := 1#32
  let v5 : BitVec 32 := Scalar.andi v4 c1_i32_2
  let v25 : BitVec 32 := Scalar.subi c1_i32_16 v5
  let v26 : BitVec 32 := Scalar.muli c256_i32_17 v25
  let v27 : BitVec 32 := Scalar.addi v18 v26
  let c0_i32_24 : BitVec 32 := 0#32
  let v34 : BitVec 1 := Scalar.cmpi .sgt v27 c0_i32_24
  let v35 : BitVec 32 := Scalar.extui v34
  let c0_i32_25 : BitVec 32 := 0#32
  let v36 : BitVec 1 := Scalar.cmpi .slt v27 c0_i32_25
  let v37 : BitVec 32 := Scalar.extui v36
  let v38 : BitVec 32 := Scalar.subi v35 v37
  let c256_i32_23 : BitVec 32 := 256#32
  let c0_i32_26 : BitVec 32 := 0#32
  let v39 : BitVec 1 := Scalar.cmpi .sgt c256_i32_23 c0_i32_26
  let v40 : BitVec 32 := Scalar.extui v39
  let c0_i32_27 : BitVec 32 := 0#32
  let v41 : BitVec 1 := Scalar.cmpi .slt c256_i32_23 c0_i32_27
  let v42 : BitVec 32 := Scalar.extui v41
  let v43 : BitVec 32 := Scalar.subi v40 v42
  let v44 : BitVec 1 := Scalar.cmpi .ne v38 v43
  let v45 : BitVec 32 := Scalar.remsi v27 c256_i32_23
  let c0_i32_28 : BitVec 32 := 0#32
  let v46 : BitVec 1 := Scalar.cmpi .ne v45 c0_i32_28
  let v47 : BitVec 1 := Scalar.andi v44 v46
  let v33 : BitVec 32 := Scalar.divsi v27 c256_i32_23
  let c1_i32_29 : BitVec 32 := 1#32
  let v48 : BitVec 32 := Scalar.subi v33 c1_i32_29
  let v49 : BitVec 32 := Scalar.select v47 v48 v33
  let c0_i32_758 : BitVec 32 := 0#32
  let c4_i32_753 : BitVec 32 := 4#32
  let c0_i32_759 : BitVec 32 := 0#32
  ![v49.toNat, 0, 4, 0]
def k0_off41 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32_17 : BitVec 32 := 256#32
  let c1_i32_16 : BitVec 32 := 1#32
  let c1_i32_1 : BitVec 32 := 1#32
  let v4 : BitVec 32 := Scalar.shrsi v2 c1_i32_1
  let c1_i32_2 : BitVec 32 := 1#32
  let v5 : BitVec 32 := Scalar.andi v4 c1_i32_2
  let v25 : BitVec 32 := Scalar.subi c1_i32_16 v5
  let v26 : BitVec 32 := Scalar.muli c256_i32_17 v25
  let v27 : BitVec 32 := Scalar.addi v18 v26
  let c0_i32_24 : BitVec 32 := 0#32
  let v34 : BitVec 1 := Scalar.cmpi .sgt v27 c0_i32_24
  let v35 : BitVec 32 := Scalar.extui v34
  let c0_i32_25 : BitVec 32 := 0#32
  let v36 : BitVec 1 := Scalar.cmpi .slt v27 c0_i32_25
  let v37 : BitVec 32 := Scalar.extui v36
  let v38 : BitVec 32 := Scalar.subi v35 v37
  let c256_i32_23 : BitVec 32 := 256#32
  let c0_i32_26 : BitVec 32 := 0#32
  let v39 : BitVec 1 := Scalar.cmpi .sgt c256_i32_23 c0_i32_26
  let v40 : BitVec 32 := Scalar.extui v39
  let c0_i32_27 : BitVec 32 := 0#32
  let v41 : BitVec 1 := Scalar.cmpi .slt c256_i32_23 c0_i32_27
  let v42 : BitVec 32 := Scalar.extui v41
  let v43 : BitVec 32 := Scalar.subi v40 v42
  let v44 : BitVec 1 := Scalar.cmpi .ne v38 v43
  let v45 : BitVec 32 := Scalar.remsi v27 c256_i32_23
  let c0_i32_28 : BitVec 32 := 0#32
  let v46 : BitVec 1 := Scalar.cmpi .ne v45 c0_i32_28
  let v47 : BitVec 1 := Scalar.andi v44 v46
  let v33 : BitVec 32 := Scalar.divsi v27 c256_i32_23
  let c1_i32_29 : BitVec 32 := 1#32
  let v48 : BitVec 32 := Scalar.subi v33 c1_i32_29
  let v49 : BitVec 32 := Scalar.select v47 v48 v33
  let c256_i32_713 : BitVec 32 := 256#32
  let v858 : BitVec 32 := Scalar.muli v49 c256_i32_713
  let v934 : Index := Scalar.indexCast v858
  let c128_787 : Index := 128#32
  ![v934.toNat, 128]
def k0_off42 (d0 : Dev nD) : Fin 4 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32_17 : BitVec 32 := 256#32
  let c1_i32_16 : BitVec 32 := 1#32
  let c1_i32_1 : BitVec 32 := 1#32
  let v4 : BitVec 32 := Scalar.shrsi v2 c1_i32_1
  let c1_i32_2 : BitVec 32 := 1#32
  let v5 : BitVec 32 := Scalar.andi v4 c1_i32_2
  let v25 : BitVec 32 := Scalar.subi c1_i32_16 v5
  let v26 : BitVec 32 := Scalar.muli c256_i32_17 v25
  let v27 : BitVec 32 := Scalar.addi v18 v26
  let c0_i32_24 : BitVec 32 := 0#32
  let v34 : BitVec 1 := Scalar.cmpi .sgt v27 c0_i32_24
  let v35 : BitVec 32 := Scalar.extui v34
  let c0_i32_25 : BitVec 32 := 0#32
  let v36 : BitVec 1 := Scalar.cmpi .slt v27 c0_i32_25
  let v37 : BitVec 32 := Scalar.extui v36
  let v38 : BitVec 32 := Scalar.subi v35 v37
  let c256_i32_23 : BitVec 32 := 256#32
  let c0_i32_26 : BitVec 32 := 0#32
  let v39 : BitVec 1 := Scalar.cmpi .sgt c256_i32_23 c0_i32_26
  let v40 : BitVec 32 := Scalar.extui v39
  let c0_i32_27 : BitVec 32 := 0#32
  let v41 : BitVec 1 := Scalar.cmpi .slt c256_i32_23 c0_i32_27
  let v42 : BitVec 32 := Scalar.extui v41
  let v43 : BitVec 32 := Scalar.subi v40 v42
  let v44 : BitVec 1 := Scalar.cmpi .ne v38 v43
  let v45 : BitVec 32 := Scalar.remsi v27 c256_i32_23
  let c0_i32_28 : BitVec 32 := 0#32
  let v46 : BitVec 1 := Scalar.cmpi .ne v45 c0_i32_28
  let v47 : BitVec 1 := Scalar.andi v44 v46
  let v33 : BitVec 32 := Scalar.divsi v27 c256_i32_23
  let c1_i32_29 : BitVec 32 := 1#32
  let v48 : BitVec 32 := Scalar.subi v33 c1_i32_29
  let v49 : BitVec 32 := Scalar.select v47 v48 v33
  let c0_i32_797 : BitVec 32 := 0#32
  let c5_i32_792 : BitVec 32 := 5#32
  let c0_i32_798 : BitVec 32 := 0#32
  ![v49.toNat, 0, 5, 0]
def k0_off43 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32_17 : BitVec 32 := 256#32
  let c1_i32_16 : BitVec 32 := 1#32
  let c1_i32_1 : BitVec 32 := 1#32
  let v4 : BitVec 32 := Scalar.shrsi v2 c1_i32_1
  let c1_i32_2 : BitVec 32 := 1#32
  let v5 : BitVec 32 := Scalar.andi v4 c1_i32_2
  let v25 : BitVec 32 := Scalar.subi c1_i32_16 v5
  let v26 : BitVec 32 := Scalar.muli c256_i32_17 v25
  let v27 : BitVec 32 := Scalar.addi v18 v26
  let c0_i32_24 : BitVec 32 := 0#32
  let v34 : BitVec 1 := Scalar.cmpi .sgt v27 c0_i32_24
  let v35 : BitVec 32 := Scalar.extui v34
  let c0_i32_25 : BitVec 32 := 0#32
  let v36 : BitVec 1 := Scalar.cmpi .slt v27 c0_i32_25
  let v37 : BitVec 32 := Scalar.extui v36
  let v38 : BitVec 32 := Scalar.subi v35 v37
  let c256_i32_23 : BitVec 32 := 256#32
  let c0_i32_26 : BitVec 32 := 0#32
  let v39 : BitVec 1 := Scalar.cmpi .sgt c256_i32_23 c0_i32_26
  let v40 : BitVec 32 := Scalar.extui v39
  let c0_i32_27 : BitVec 32 := 0#32
  let v41 : BitVec 1 := Scalar.cmpi .slt c256_i32_23 c0_i32_27
  let v42 : BitVec 32 := Scalar.extui v41
  let v43 : BitVec 32 := Scalar.subi v40 v42
  let v44 : BitVec 1 := Scalar.cmpi .ne v38 v43
  let v45 : BitVec 32 := Scalar.remsi v27 c256_i32_23
  let c0_i32_28 : BitVec 32 := 0#32
  let v46 : BitVec 1 := Scalar.cmpi .ne v45 c0_i32_28
  let v47 : BitVec 1 := Scalar.andi v44 v46
  let v33 : BitVec 32 := Scalar.divsi v27 c256_i32_23
  let c1_i32_29 : BitVec 32 := 1#32
  let v48 : BitVec 32 := Scalar.subi v33 c1_i32_29
  let v49 : BitVec 32 := Scalar.select v47 v48 v33
  let c256_i32_713 : BitVec 32 := 256#32
  let v858 : BitVec 32 := Scalar.muli v49 c256_i32_713
  let v979 : Index := Scalar.indexCast v858
  let c256_826 : Index := 256#32
  ![v979.toNat, 256]
def k0_off44 (d0 : Dev nD) : Fin 4 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32_17 : BitVec 32 := 256#32
  let c1_i32_16 : BitVec 32 := 1#32
  let c1_i32_1 : BitVec 32 := 1#32
  let v4 : BitVec 32 := Scalar.shrsi v2 c1_i32_1
  let c1_i32_2 : BitVec 32 := 1#32
  let v5 : BitVec 32 := Scalar.andi v4 c1_i32_2
  let v25 : BitVec 32 := Scalar.subi c1_i32_16 v5
  let v26 : BitVec 32 := Scalar.muli c256_i32_17 v25
  let v27 : BitVec 32 := Scalar.addi v18 v26
  let c0_i32_24 : BitVec 32 := 0#32
  let v34 : BitVec 1 := Scalar.cmpi .sgt v27 c0_i32_24
  let v35 : BitVec 32 := Scalar.extui v34
  let c0_i32_25 : BitVec 32 := 0#32
  let v36 : BitVec 1 := Scalar.cmpi .slt v27 c0_i32_25
  let v37 : BitVec 32 := Scalar.extui v36
  let v38 : BitVec 32 := Scalar.subi v35 v37
  let c256_i32_23 : BitVec 32 := 256#32
  let c0_i32_26 : BitVec 32 := 0#32
  let v39 : BitVec 1 := Scalar.cmpi .sgt c256_i32_23 c0_i32_26
  let v40 : BitVec 32 := Scalar.extui v39
  let c0_i32_27 : BitVec 32 := 0#32
  let v41 : BitVec 1 := Scalar.cmpi .slt c256_i32_23 c0_i32_27
  let v42 : BitVec 32 := Scalar.extui v41
  let v43 : BitVec 32 := Scalar.subi v40 v42
  let v44 : BitVec 1 := Scalar.cmpi .ne v38 v43
  let v45 : BitVec 32 := Scalar.remsi v27 c256_i32_23
  let c0_i32_28 : BitVec 32 := 0#32
  let v46 : BitVec 1 := Scalar.cmpi .ne v45 c0_i32_28
  let v47 : BitVec 1 := Scalar.andi v44 v46
  let v33 : BitVec 32 := Scalar.divsi v27 c256_i32_23
  let c1_i32_29 : BitVec 32 := 1#32
  let v48 : BitVec 32 := Scalar.subi v33 c1_i32_29
  let v49 : BitVec 32 := Scalar.select v47 v48 v33
  let c0_i32_836 : BitVec 32 := 0#32
  let c6_i32_831 : BitVec 32 := 6#32
  let c0_i32_837 : BitVec 32 := 0#32
  ![v49.toNat, 0, 6, 0]
def k0_off45 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32_17 : BitVec 32 := 256#32
  let c1_i32_16 : BitVec 32 := 1#32
  let c1_i32_1 : BitVec 32 := 1#32
  let v4 : BitVec 32 := Scalar.shrsi v2 c1_i32_1
  let c1_i32_2 : BitVec 32 := 1#32
  let v5 : BitVec 32 := Scalar.andi v4 c1_i32_2
  let v25 : BitVec 32 := Scalar.subi c1_i32_16 v5
  let v26 : BitVec 32 := Scalar.muli c256_i32_17 v25
  let v27 : BitVec 32 := Scalar.addi v18 v26
  let c0_i32_24 : BitVec 32 := 0#32
  let v34 : BitVec 1 := Scalar.cmpi .sgt v27 c0_i32_24
  let v35 : BitVec 32 := Scalar.extui v34
  let c0_i32_25 : BitVec 32 := 0#32
  let v36 : BitVec 1 := Scalar.cmpi .slt v27 c0_i32_25
  let v37 : BitVec 32 := Scalar.extui v36
  let v38 : BitVec 32 := Scalar.subi v35 v37
  let c256_i32_23 : BitVec 32 := 256#32
  let c0_i32_26 : BitVec 32 := 0#32
  let v39 : BitVec 1 := Scalar.cmpi .sgt c256_i32_23 c0_i32_26
  let v40 : BitVec 32 := Scalar.extui v39
  let c0_i32_27 : BitVec 32 := 0#32
  let v41 : BitVec 1 := Scalar.cmpi .slt c256_i32_23 c0_i32_27
  let v42 : BitVec 32 := Scalar.extui v41
  let v43 : BitVec 32 := Scalar.subi v40 v42
  let v44 : BitVec 1 := Scalar.cmpi .ne v38 v43
  let v45 : BitVec 32 := Scalar.remsi v27 c256_i32_23
  let c0_i32_28 : BitVec 32 := 0#32
  let v46 : BitVec 1 := Scalar.cmpi .ne v45 c0_i32_28
  let v47 : BitVec 1 := Scalar.andi v44 v46
  let v33 : BitVec 32 := Scalar.divsi v27 c256_i32_23
  let c1_i32_29 : BitVec 32 := 1#32
  let v48 : BitVec 32 := Scalar.subi v33 c1_i32_29
  let v49 : BitVec 32 := Scalar.select v47 v48 v33
  let c256_i32_713 : BitVec 32 := 256#32
  let v858 : BitVec 32 := Scalar.muli v49 c256_i32_713
  let v1024 : Index := Scalar.indexCast v858
  let c384_865 : Index := 384#32
  ![v1024.toNat, 384]
def k0_off46 (d0 : Dev nD) : Fin 4 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32_17 : BitVec 32 := 256#32
  let c1_i32_16 : BitVec 32 := 1#32
  let c1_i32_1 : BitVec 32 := 1#32
  let v4 : BitVec 32 := Scalar.shrsi v2 c1_i32_1
  let c1_i32_2 : BitVec 32 := 1#32
  let v5 : BitVec 32 := Scalar.andi v4 c1_i32_2
  let v25 : BitVec 32 := Scalar.subi c1_i32_16 v5
  let v26 : BitVec 32 := Scalar.muli c256_i32_17 v25
  let v27 : BitVec 32 := Scalar.addi v18 v26
  let c0_i32_24 : BitVec 32 := 0#32
  let v34 : BitVec 1 := Scalar.cmpi .sgt v27 c0_i32_24
  let v35 : BitVec 32 := Scalar.extui v34
  let c0_i32_25 : BitVec 32 := 0#32
  let v36 : BitVec 1 := Scalar.cmpi .slt v27 c0_i32_25
  let v37 : BitVec 32 := Scalar.extui v36
  let v38 : BitVec 32 := Scalar.subi v35 v37
  let c256_i32_23 : BitVec 32 := 256#32
  let c0_i32_26 : BitVec 32 := 0#32
  let v39 : BitVec 1 := Scalar.cmpi .sgt c256_i32_23 c0_i32_26
  let v40 : BitVec 32 := Scalar.extui v39
  let c0_i32_27 : BitVec 32 := 0#32
  let v41 : BitVec 1 := Scalar.cmpi .slt c256_i32_23 c0_i32_27
  let v42 : BitVec 32 := Scalar.extui v41
  let v43 : BitVec 32 := Scalar.subi v40 v42
  let v44 : BitVec 1 := Scalar.cmpi .ne v38 v43
  let v45 : BitVec 32 := Scalar.remsi v27 c256_i32_23
  let c0_i32_28 : BitVec 32 := 0#32
  let v46 : BitVec 1 := Scalar.cmpi .ne v45 c0_i32_28
  let v47 : BitVec 1 := Scalar.andi v44 v46
  let v33 : BitVec 32 := Scalar.divsi v27 c256_i32_23
  let c1_i32_29 : BitVec 32 := 1#32
  let v48 : BitVec 32 := Scalar.subi v33 c1_i32_29
  let v49 : BitVec 32 := Scalar.select v47 v48 v33
  let c0_i32_875 : BitVec 32 := 0#32
  let c7_i32_870 : BitVec 32 := 7#32
  let c0_i32_876 : BitVec 32 := 0#32
  ![v49.toNat, 0, 7, 0]
def k0_off47 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32_17 : BitVec 32 := 256#32
  let c1_i32_16 : BitVec 32 := 1#32
  let c1_i32_1 : BitVec 32 := 1#32
  let v4 : BitVec 32 := Scalar.shrsi v2 c1_i32_1
  let c1_i32_2 : BitVec 32 := 1#32
  let v5 : BitVec 32 := Scalar.andi v4 c1_i32_2
  let v25 : BitVec 32 := Scalar.subi c1_i32_16 v5
  let v26 : BitVec 32 := Scalar.muli c256_i32_17 v25
  let v27 : BitVec 32 := Scalar.addi v18 v26
  let c0_i32_24 : BitVec 32 := 0#32
  let v34 : BitVec 1 := Scalar.cmpi .sgt v27 c0_i32_24
  let v35 : BitVec 32 := Scalar.extui v34
  let c0_i32_25 : BitVec 32 := 0#32
  let v36 : BitVec 1 := Scalar.cmpi .slt v27 c0_i32_25
  let v37 : BitVec 32 := Scalar.extui v36
  let v38 : BitVec 32 := Scalar.subi v35 v37
  let c256_i32_23 : BitVec 32 := 256#32
  let c0_i32_26 : BitVec 32 := 0#32
  let v39 : BitVec 1 := Scalar.cmpi .sgt c256_i32_23 c0_i32_26
  let v40 : BitVec 32 := Scalar.extui v39
  let c0_i32_27 : BitVec 32 := 0#32
  let v41 : BitVec 1 := Scalar.cmpi .slt c256_i32_23 c0_i32_27
  let v42 : BitVec 32 := Scalar.extui v41
  let v43 : BitVec 32 := Scalar.subi v40 v42
  let v44 : BitVec 1 := Scalar.cmpi .ne v38 v43
  let v45 : BitVec 32 := Scalar.remsi v27 c256_i32_23
  let c0_i32_28 : BitVec 32 := 0#32
  let v46 : BitVec 1 := Scalar.cmpi .ne v45 c0_i32_28
  let v47 : BitVec 1 := Scalar.andi v44 v46
  let v33 : BitVec 32 := Scalar.divsi v27 c256_i32_23
  let c1_i32_29 : BitVec 32 := 1#32
  let v48 : BitVec 32 := Scalar.subi v33 c1_i32_29
  let v49 : BitVec 32 := Scalar.select v47 v48 v33
  let c256_i32_713 : BitVec 32 := 256#32
  let v858 : BitVec 32 := Scalar.muli v49 c256_i32_713
  let v1069 : Index := Scalar.indexCast v858
  let c512_904 : Index := 512#32
  ![v1069.toNat, 512]
def k0_off48 (d0 : Dev nD) : Fin 4 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32 : BitVec 32 := 256#32
  let c1_i32_1 : BitVec 32 := 1#32
  let v4 : BitVec 32 := Scalar.shrsi v2 c1_i32_1
  let c1_i32_2 : BitVec 32 := 1#32
  let v5 : BitVec 32 := Scalar.andi v4 c1_i32_2
  let v19 : BitVec 32 := Scalar.muli c256_i32 v5
  let v20 : BitVec 32 := Scalar.addi v18 v19
  let c0_i32_31 : BitVec 32 := 0#32
  let v51 : BitVec 1 := Scalar.cmpi .sgt v20 c0_i32_31
  let v52 : BitVec 32 := Scalar.extui v51
  let c0_i32_32 : BitVec 32 := 0#32
  let v53 : BitVec 1 := Scalar.cmpi .slt v20 c0_i32_32
  let v54 : BitVec 32 := Scalar.extui v53
  let v55 : BitVec 32 := Scalar.subi v52 v54
  let c256_i32_30 : BitVec 32 := 256#32
  let c0_i32_33 : BitVec 32 := 0#32
  let v56 : BitVec 1 := Scalar.cmpi .sgt c256_i32_30 c0_i32_33
  let v57 : BitVec 32 := Scalar.extui v56
  let c0_i32_34 : BitVec 32 := 0#32
  let v58 : BitVec 1 := Scalar.cmpi .slt c256_i32_30 c0_i32_34
  let v59 : BitVec 32 := Scalar.extui v58
  let v60 : BitVec 32 := Scalar.subi v57 v59
  let v61 : BitVec 1 := Scalar.cmpi .ne v55 v60
  let v62 : BitVec 32 := Scalar.remsi v20 c256_i32_30
  let c0_i32_35 : BitVec 32 := 0#32
  let v63 : BitVec 1 := Scalar.cmpi .ne v62 c0_i32_35
  let v64 : BitVec 1 := Scalar.andi v61 v63
  let v50 : BitVec 32 := Scalar.divsi v20 c256_i32_30
  let c1_i32_36 : BitVec 32 := 1#32
  let v65 : BitVec 32 := Scalar.subi v50 c1_i32_36
  let v66 : BitVec 32 := Scalar.select v64 v65 v50
  let c0_i32_914 : BitVec 32 := 0#32
  let c0_i32_909 : BitVec 32 := 0#32
  let c0_i32_915 : BitVec 32 := 0#32
  ![v66.toNat, 0, 0, 0]
def k0_off49 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32_17 : BitVec 32 := 256#32
  let c1_i32_16 : BitVec 32 := 1#32
  let c1_i32_1 : BitVec 32 := 1#32
  let v4 : BitVec 32 := Scalar.shrsi v2 c1_i32_1
  let c1_i32_2 : BitVec 32 := 1#32
  let v5 : BitVec 32 := Scalar.andi v4 c1_i32_2
  let v25 : BitVec 32 := Scalar.subi c1_i32_16 v5
  let v26 : BitVec 32 := Scalar.muli c256_i32_17 v25
  let v27 : BitVec 32 := Scalar.addi v18 v26
  let c0_i32_24 : BitVec 32 := 0#32
  let v34 : BitVec 1 := Scalar.cmpi .sgt v27 c0_i32_24
  let v35 : BitVec 32 := Scalar.extui v34
  let c0_i32_25 : BitVec 32 := 0#32
  let v36 : BitVec 1 := Scalar.cmpi .slt v27 c0_i32_25
  let v37 : BitVec 32 := Scalar.extui v36
  let v38 : BitVec 32 := Scalar.subi v35 v37
  let c256_i32_23 : BitVec 32 := 256#32
  let c0_i32_26 : BitVec 32 := 0#32
  let v39 : BitVec 1 := Scalar.cmpi .sgt c256_i32_23 c0_i32_26
  let v40 : BitVec 32 := Scalar.extui v39
  let c0_i32_27 : BitVec 32 := 0#32
  let v41 : BitVec 1 := Scalar.cmpi .slt c256_i32_23 c0_i32_27
  let v42 : BitVec 32 := Scalar.extui v41
  let v43 : BitVec 32 := Scalar.subi v40 v42
  let v44 : BitVec 1 := Scalar.cmpi .ne v38 v43
  let v45 : BitVec 32 := Scalar.remsi v27 c256_i32_23
  let c0_i32_28 : BitVec 32 := 0#32
  let v46 : BitVec 1 := Scalar.cmpi .ne v45 c0_i32_28
  let v47 : BitVec 1 := Scalar.andi v44 v46
  let v33 : BitVec 32 := Scalar.divsi v27 c256_i32_23
  let c1_i32_29 : BitVec 32 := 1#32
  let v48 : BitVec 32 := Scalar.subi v33 c1_i32_29
  let v49 : BitVec 32 := Scalar.select v47 v48 v33
  let c256_i32_713 : BitVec 32 := 256#32
  let v858 : BitVec 32 := Scalar.muli v49 c256_i32_713
  let v1114 : Index := Scalar.indexCast v858
  let c640_943 : Index := 640#32
  ![v1114.toNat, 640]
def k0_off50 (d0 : Dev nD) : Fin 4 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32 : BitVec 32 := 256#32
  let c1_i32_1 : BitVec 32 := 1#32
  let v4 : BitVec 32 := Scalar.shrsi v2 c1_i32_1
  let c1_i32_2 : BitVec 32 := 1#32
  let v5 : BitVec 32 := Scalar.andi v4 c1_i32_2
  let v19 : BitVec 32 := Scalar.muli c256_i32 v5
  let v20 : BitVec 32 := Scalar.addi v18 v19
  let c0_i32_31 : BitVec 32 := 0#32
  let v51 : BitVec 1 := Scalar.cmpi .sgt v20 c0_i32_31
  let v52 : BitVec 32 := Scalar.extui v51
  let c0_i32_32 : BitVec 32 := 0#32
  let v53 : BitVec 1 := Scalar.cmpi .slt v20 c0_i32_32
  let v54 : BitVec 32 := Scalar.extui v53
  let v55 : BitVec 32 := Scalar.subi v52 v54
  let c256_i32_30 : BitVec 32 := 256#32
  let c0_i32_33 : BitVec 32 := 0#32
  let v56 : BitVec 1 := Scalar.cmpi .sgt c256_i32_30 c0_i32_33
  let v57 : BitVec 32 := Scalar.extui v56
  let c0_i32_34 : BitVec 32 := 0#32
  let v58 : BitVec 1 := Scalar.cmpi .slt c256_i32_30 c0_i32_34
  let v59 : BitVec 32 := Scalar.extui v58
  let v60 : BitVec 32 := Scalar.subi v57 v59
  let v61 : BitVec 1 := Scalar.cmpi .ne v55 v60
  let v62 : BitVec 32 := Scalar.remsi v20 c256_i32_30
  let c0_i32_35 : BitVec 32 := 0#32
  let v63 : BitVec 1 := Scalar.cmpi .ne v62 c0_i32_35
  let v64 : BitVec 1 := Scalar.andi v61 v63
  let v50 : BitVec 32 := Scalar.divsi v20 c256_i32_30
  let c1_i32_36 : BitVec 32 := 1#32
  let v65 : BitVec 32 := Scalar.subi v50 c1_i32_36
  let v66 : BitVec 32 := Scalar.select v64 v65 v50
  let c0_i32_953 : BitVec 32 := 0#32
  let c1_i32_948 : BitVec 32 := 1#32
  let c0_i32_954 : BitVec 32 := 0#32
  ![v66.toNat, 0, 1, 0]
def k0_off51 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32_17 : BitVec 32 := 256#32
  let c1_i32_16 : BitVec 32 := 1#32
  let c1_i32_1 : BitVec 32 := 1#32
  let v4 : BitVec 32 := Scalar.shrsi v2 c1_i32_1
  let c1_i32_2 : BitVec 32 := 1#32
  let v5 : BitVec 32 := Scalar.andi v4 c1_i32_2
  let v25 : BitVec 32 := Scalar.subi c1_i32_16 v5
  let v26 : BitVec 32 := Scalar.muli c256_i32_17 v25
  let v27 : BitVec 32 := Scalar.addi v18 v26
  let c0_i32_24 : BitVec 32 := 0#32
  let v34 : BitVec 1 := Scalar.cmpi .sgt v27 c0_i32_24
  let v35 : BitVec 32 := Scalar.extui v34
  let c0_i32_25 : BitVec 32 := 0#32
  let v36 : BitVec 1 := Scalar.cmpi .slt v27 c0_i32_25
  let v37 : BitVec 32 := Scalar.extui v36
  let v38 : BitVec 32 := Scalar.subi v35 v37
  let c256_i32_23 : BitVec 32 := 256#32
  let c0_i32_26 : BitVec 32 := 0#32
  let v39 : BitVec 1 := Scalar.cmpi .sgt c256_i32_23 c0_i32_26
  let v40 : BitVec 32 := Scalar.extui v39
  let c0_i32_27 : BitVec 32 := 0#32
  let v41 : BitVec 1 := Scalar.cmpi .slt c256_i32_23 c0_i32_27
  let v42 : BitVec 32 := Scalar.extui v41
  let v43 : BitVec 32 := Scalar.subi v40 v42
  let v44 : BitVec 1 := Scalar.cmpi .ne v38 v43
  let v45 : BitVec 32 := Scalar.remsi v27 c256_i32_23
  let c0_i32_28 : BitVec 32 := 0#32
  let v46 : BitVec 1 := Scalar.cmpi .ne v45 c0_i32_28
  let v47 : BitVec 1 := Scalar.andi v44 v46
  let v33 : BitVec 32 := Scalar.divsi v27 c256_i32_23
  let c1_i32_29 : BitVec 32 := 1#32
  let v48 : BitVec 32 := Scalar.subi v33 c1_i32_29
  let v49 : BitVec 32 := Scalar.select v47 v48 v33
  let c256_i32_713 : BitVec 32 := 256#32
  let v858 : BitVec 32 := Scalar.muli v49 c256_i32_713
  let v1159 : Index := Scalar.indexCast v858
  let c768_982 : Index := 768#32
  ![v1159.toNat, 768]
def k0_off52 (d0 : Dev nD) : Fin 4 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32 : BitVec 32 := 256#32
  let c1_i32_1 : BitVec 32 := 1#32
  let v4 : BitVec 32 := Scalar.shrsi v2 c1_i32_1
  let c1_i32_2 : BitVec 32 := 1#32
  let v5 : BitVec 32 := Scalar.andi v4 c1_i32_2
  let v19 : BitVec 32 := Scalar.muli c256_i32 v5
  let v20 : BitVec 32 := Scalar.addi v18 v19
  let c0_i32_31 : BitVec 32 := 0#32
  let v51 : BitVec 1 := Scalar.cmpi .sgt v20 c0_i32_31
  let v52 : BitVec 32 := Scalar.extui v51
  let c0_i32_32 : BitVec 32 := 0#32
  let v53 : BitVec 1 := Scalar.cmpi .slt v20 c0_i32_32
  let v54 : BitVec 32 := Scalar.extui v53
  let v55 : BitVec 32 := Scalar.subi v52 v54
  let c256_i32_30 : BitVec 32 := 256#32
  let c0_i32_33 : BitVec 32 := 0#32
  let v56 : BitVec 1 := Scalar.cmpi .sgt c256_i32_30 c0_i32_33
  let v57 : BitVec 32 := Scalar.extui v56
  let c0_i32_34 : BitVec 32 := 0#32
  let v58 : BitVec 1 := Scalar.cmpi .slt c256_i32_30 c0_i32_34
  let v59 : BitVec 32 := Scalar.extui v58
  let v60 : BitVec 32 := Scalar.subi v57 v59
  let v61 : BitVec 1 := Scalar.cmpi .ne v55 v60
  let v62 : BitVec 32 := Scalar.remsi v20 c256_i32_30
  let c0_i32_35 : BitVec 32 := 0#32
  let v63 : BitVec 1 := Scalar.cmpi .ne v62 c0_i32_35
  let v64 : BitVec 1 := Scalar.andi v61 v63
  let v50 : BitVec 32 := Scalar.divsi v20 c256_i32_30
  let c1_i32_36 : BitVec 32 := 1#32
  let v65 : BitVec 32 := Scalar.subi v50 c1_i32_36
  let v66 : BitVec 32 := Scalar.select v64 v65 v50
  let c0_i32_992 : BitVec 32 := 0#32
  let c2_i32_987 : BitVec 32 := 2#32
  let c0_i32_993 : BitVec 32 := 0#32
  ![v66.toNat, 0, 2, 0]
def k0_off53 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32_17 : BitVec 32 := 256#32
  let c1_i32_16 : BitVec 32 := 1#32
  let c1_i32_1 : BitVec 32 := 1#32
  let v4 : BitVec 32 := Scalar.shrsi v2 c1_i32_1
  let c1_i32_2 : BitVec 32 := 1#32
  let v5 : BitVec 32 := Scalar.andi v4 c1_i32_2
  let v25 : BitVec 32 := Scalar.subi c1_i32_16 v5
  let v26 : BitVec 32 := Scalar.muli c256_i32_17 v25
  let v27 : BitVec 32 := Scalar.addi v18 v26
  let c0_i32_24 : BitVec 32 := 0#32
  let v34 : BitVec 1 := Scalar.cmpi .sgt v27 c0_i32_24
  let v35 : BitVec 32 := Scalar.extui v34
  let c0_i32_25 : BitVec 32 := 0#32
  let v36 : BitVec 1 := Scalar.cmpi .slt v27 c0_i32_25
  let v37 : BitVec 32 := Scalar.extui v36
  let v38 : BitVec 32 := Scalar.subi v35 v37
  let c256_i32_23 : BitVec 32 := 256#32
  let c0_i32_26 : BitVec 32 := 0#32
  let v39 : BitVec 1 := Scalar.cmpi .sgt c256_i32_23 c0_i32_26
  let v40 : BitVec 32 := Scalar.extui v39
  let c0_i32_27 : BitVec 32 := 0#32
  let v41 : BitVec 1 := Scalar.cmpi .slt c256_i32_23 c0_i32_27
  let v42 : BitVec 32 := Scalar.extui v41
  let v43 : BitVec 32 := Scalar.subi v40 v42
  let v44 : BitVec 1 := Scalar.cmpi .ne v38 v43
  let v45 : BitVec 32 := Scalar.remsi v27 c256_i32_23
  let c0_i32_28 : BitVec 32 := 0#32
  let v46 : BitVec 1 := Scalar.cmpi .ne v45 c0_i32_28
  let v47 : BitVec 1 := Scalar.andi v44 v46
  let v33 : BitVec 32 := Scalar.divsi v27 c256_i32_23
  let c1_i32_29 : BitVec 32 := 1#32
  let v48 : BitVec 32 := Scalar.subi v33 c1_i32_29
  let v49 : BitVec 32 := Scalar.select v47 v48 v33
  let c256_i32_713 : BitVec 32 := 256#32
  let v858 : BitVec 32 := Scalar.muli v49 c256_i32_713
  let v1204 : Index := Scalar.indexCast v858
  let c896_1021 : Index := 896#32
  ![v1204.toNat, 896]
def k0_off54 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32_17 : BitVec 32 := 256#32
  let c1_i32_16 : BitVec 32 := 1#32
  let c1_i32_1 : BitVec 32 := 1#32
  let v4 : BitVec 32 := Scalar.shrsi v2 c1_i32_1
  let c1_i32_2 : BitVec 32 := 1#32
  let v5 : BitVec 32 := Scalar.andi v4 c1_i32_2
  let v25 : BitVec 32 := Scalar.subi c1_i32_16 v5
  let v26 : BitVec 32 := Scalar.muli c256_i32_17 v25
  let v27 : BitVec 32 := Scalar.addi v18 v26
  let v1219 : Index := Scalar.indexCast v27
  let c0_1026 : Index := 0#32
  ![v1219.toNat, 0]
def k0_off55 (d0 : Dev nD) : Fin 3 → Nat :=
  let c0_1040 : Index := 0#32
  let c256_i32_1039 : BitVec 32 := 256#32
  let c1_i32_1038 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v1236 : BitVec 32 := Scalar.subi c1_i32_1038 v5
  let v1237 : BitVec 32 := Scalar.muli c256_i32_1039 v1236
  let v1238 : Index := Scalar.indexCast v1237
  let c0_1041 : Index := 0#32
  ![0, v1238.toNat, 0]
def k0_off56 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32_17 : BitVec 32 := 256#32
  let c1_i32_16 : BitVec 32 := 1#32
  let c1_i32_1 : BitVec 32 := 1#32
  let v4 : BitVec 32 := Scalar.shrsi v2 c1_i32_1
  let c1_i32_2 : BitVec 32 := 1#32
  let v5 : BitVec 32 := Scalar.andi v4 c1_i32_2
  let v25 : BitVec 32 := Scalar.subi c1_i32_16 v5
  let v26 : BitVec 32 := Scalar.muli c256_i32_17 v25
  let v27 : BitVec 32 := Scalar.addi v18 v26
  let c0_i32_1051 : BitVec 32 := 0#32
  ![v27.toNat, 0]
def k0_dev5 (d0 : Dev nD) : Nat :=
  let c0_i32_1048 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1043 : BitVec 32 := 3#32
  let v1246 : BitVec 32 := Scalar.xori v2 c3_i32_1043
  let c1_i32_1047 : BitVec 32 := 1#32
  let v1247 : BitVec 32 := Scalar.muli v1246 c1_i32_1047
  let v1248 : BitVec 32 := Scalar.addi c0_i32_1048 v1247
  v1248.toNat
def k0_off57 (d0 : Dev nD) : Fin 4 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32 : BitVec 32 := 256#32
  let c1_i32_1 : BitVec 32 := 1#32
  let v4 : BitVec 32 := Scalar.shrsi v2 c1_i32_1
  let c1_i32_2 : BitVec 32 := 1#32
  let v5 : BitVec 32 := Scalar.andi v4 c1_i32_2
  let v19 : BitVec 32 := Scalar.muli c256_i32 v5
  let v20 : BitVec 32 := Scalar.addi v18 v19
  let c0_i32_31 : BitVec 32 := 0#32
  let v51 : BitVec 1 := Scalar.cmpi .sgt v20 c0_i32_31
  let v52 : BitVec 32 := Scalar.extui v51
  let c0_i32_32 : BitVec 32 := 0#32
  let v53 : BitVec 1 := Scalar.cmpi .slt v20 c0_i32_32
  let v54 : BitVec 32 := Scalar.extui v53
  let v55 : BitVec 32 := Scalar.subi v52 v54
  let c256_i32_30 : BitVec 32 := 256#32
  let c0_i32_33 : BitVec 32 := 0#32
  let v56 : BitVec 1 := Scalar.cmpi .sgt c256_i32_30 c0_i32_33
  let v57 : BitVec 32 := Scalar.extui v56
  let c0_i32_34 : BitVec 32 := 0#32
  let v58 : BitVec 1 := Scalar.cmpi .slt c256_i32_30 c0_i32_34
  let v59 : BitVec 32 := Scalar.extui v58
  let v60 : BitVec 32 := Scalar.subi v57 v59
  let v61 : BitVec 1 := Scalar.cmpi .ne v55 v60
  let v62 : BitVec 32 := Scalar.remsi v20 c256_i32_30
  let c0_i32_35 : BitVec 32 := 0#32
  let v63 : BitVec 1 := Scalar.cmpi .ne v62 c0_i32_35
  let v64 : BitVec 1 := Scalar.andi v61 v63
  let v50 : BitVec 32 := Scalar.divsi v20 c256_i32_30
  let c1_i32_36 : BitVec 32 := 1#32
  let v65 : BitVec 32 := Scalar.subi v50 c1_i32_36
  let v66 : BitVec 32 := Scalar.select v64 v65 v50
  let c0_i32_1058 : BitVec 32 := 0#32
  let c3_i32_1053 : BitVec 32 := 3#32
  let c0_i32_1059 : BitVec 32 := 0#32
  ![v66.toNat, 0, 3, 0]
def k0_off58 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32 : BitVec 32 := 256#32
  let c1_i32_1 : BitVec 32 := 1#32
  let v4 : BitVec 32 := Scalar.shrsi v2 c1_i32_1
  let c1_i32_2 : BitVec 32 := 1#32
  let v5 : BitVec 32 := Scalar.andi v4 c1_i32_2
  let v19 : BitVec 32 := Scalar.muli c256_i32 v5
  let v20 : BitVec 32 := Scalar.addi v18 v19
  let c0_i32_31 : BitVec 32 := 0#32
  let v51 : BitVec 1 := Scalar.cmpi .sgt v20 c0_i32_31
  let v52 : BitVec 32 := Scalar.extui v51
  let c0_i32_32 : BitVec 32 := 0#32
  let v53 : BitVec 1 := Scalar.cmpi .slt v20 c0_i32_32
  let v54 : BitVec 32 := Scalar.extui v53
  let v55 : BitVec 32 := Scalar.subi v52 v54
  let c256_i32_30 : BitVec 32 := 256#32
  let c0_i32_33 : BitVec 32 := 0#32
  let v56 : BitVec 1 := Scalar.cmpi .sgt c256_i32_30 c0_i32_33
  let v57 : BitVec 32 := Scalar.extui v56
  let c0_i32_34 : BitVec 32 := 0#32
  let v58 : BitVec 1 := Scalar.cmpi .slt c256_i32_30 c0_i32_34
  let v59 : BitVec 32 := Scalar.extui v58
  let v60 : BitVec 32 := Scalar.subi v57 v59
  let v61 : BitVec 1 := Scalar.cmpi .ne v55 v60
  let v62 : BitVec 32 := Scalar.remsi v20 c256_i32_30
  let c0_i32_35 : BitVec 32 := 0#32
  let v63 : BitVec 1 := Scalar.cmpi .ne v62 c0_i32_35
  let v64 : BitVec 1 := Scalar.andi v61 v63
  let v50 : BitVec 32 := Scalar.divsi v20 c256_i32_30
  let c1_i32_36 : BitVec 32 := 1#32
  let v65 : BitVec 32 := Scalar.subi v50 c1_i32_36
  let v66 : BitVec 32 := Scalar.select v64 v65 v50
  let c256_i32_1052 : BitVec 32 := 256#32
  let v1256 : BitVec 32 := Scalar.muli v66 c256_i32_1052
  let v1287 : Index := Scalar.indexCast v1256
  let c0_1087 : Index := 0#32
  ![v1287.toNat, 0]
def k0_off59 (d0 : Dev nD) : Fin 4 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32 : BitVec 32 := 256#32
  let c1_i32_1 : BitVec 32 := 1#32
  let v4 : BitVec 32 := Scalar.shrsi v2 c1_i32_1
  let c1_i32_2 : BitVec 32 := 1#32
  let v5 : BitVec 32 := Scalar.andi v4 c1_i32_2
  let v19 : BitVec 32 := Scalar.muli c256_i32 v5
  let v20 : BitVec 32 := Scalar.addi v18 v19
  let c0_i32_31 : BitVec 32 := 0#32
  let v51 : BitVec 1 := Scalar.cmpi .sgt v20 c0_i32_31
  let v52 : BitVec 32 := Scalar.extui v51
  let c0_i32_32 : BitVec 32 := 0#32
  let v53 : BitVec 1 := Scalar.cmpi .slt v20 c0_i32_32
  let v54 : BitVec 32 := Scalar.extui v53
  let v55 : BitVec 32 := Scalar.subi v52 v54
  let c256_i32_30 : BitVec 32 := 256#32
  let c0_i32_33 : BitVec 32 := 0#32
  let v56 : BitVec 1 := Scalar.cmpi .sgt c256_i32_30 c0_i32_33
  let v57 : BitVec 32 := Scalar.extui v56
  let c0_i32_34 : BitVec 32 := 0#32
  let v58 : BitVec 1 := Scalar.cmpi .slt c256_i32_30 c0_i32_34
  let v59 : BitVec 32 := Scalar.extui v58
  let v60 : BitVec 32 := Scalar.subi v57 v59
  let v61 : BitVec 1 := Scalar.cmpi .ne v55 v60
  let v62 : BitVec 32 := Scalar.remsi v20 c256_i32_30
  let c0_i32_35 : BitVec 32 := 0#32
  let v63 : BitVec 1 := Scalar.cmpi .ne v62 c0_i32_35
  let v64 : BitVec 1 := Scalar.andi v61 v63
  let v50 : BitVec 32 := Scalar.divsi v20 c256_i32_30
  let c1_i32_36 : BitVec 32 := 1#32
  let v65 : BitVec 32 := Scalar.subi v50 c1_i32_36
  let v66 : BitVec 32 := Scalar.select v64 v65 v50
  let c0_i32_1097 : BitVec 32 := 0#32
  let c4_i32_1092 : BitVec 32 := 4#32
  let c0_i32_1098 : BitVec 32 := 0#32
  ![v66.toNat, 0, 4, 0]
def k0_off60 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32 : BitVec 32 := 256#32
  let c1_i32_1 : BitVec 32 := 1#32
  let v4 : BitVec 32 := Scalar.shrsi v2 c1_i32_1
  let c1_i32_2 : BitVec 32 := 1#32
  let v5 : BitVec 32 := Scalar.andi v4 c1_i32_2
  let v19 : BitVec 32 := Scalar.muli c256_i32 v5
  let v20 : BitVec 32 := Scalar.addi v18 v19
  let c0_i32_31 : BitVec 32 := 0#32
  let v51 : BitVec 1 := Scalar.cmpi .sgt v20 c0_i32_31
  let v52 : BitVec 32 := Scalar.extui v51
  let c0_i32_32 : BitVec 32 := 0#32
  let v53 : BitVec 1 := Scalar.cmpi .slt v20 c0_i32_32
  let v54 : BitVec 32 := Scalar.extui v53
  let v55 : BitVec 32 := Scalar.subi v52 v54
  let c256_i32_30 : BitVec 32 := 256#32
  let c0_i32_33 : BitVec 32 := 0#32
  let v56 : BitVec 1 := Scalar.cmpi .sgt c256_i32_30 c0_i32_33
  let v57 : BitVec 32 := Scalar.extui v56
  let c0_i32_34 : BitVec 32 := 0#32
  let v58 : BitVec 1 := Scalar.cmpi .slt c256_i32_30 c0_i32_34
  let v59 : BitVec 32 := Scalar.extui v58
  let v60 : BitVec 32 := Scalar.subi v57 v59
  let v61 : BitVec 1 := Scalar.cmpi .ne v55 v60
  let v62 : BitVec 32 := Scalar.remsi v20 c256_i32_30
  let c0_i32_35 : BitVec 32 := 0#32
  let v63 : BitVec 1 := Scalar.cmpi .ne v62 c0_i32_35
  let v64 : BitVec 1 := Scalar.andi v61 v63
  let v50 : BitVec 32 := Scalar.divsi v20 c256_i32_30
  let c1_i32_36 : BitVec 32 := 1#32
  let v65 : BitVec 32 := Scalar.subi v50 c1_i32_36
  let v66 : BitVec 32 := Scalar.select v64 v65 v50
  let c256_i32_1052 : BitVec 32 := 256#32
  let v1256 : BitVec 32 := Scalar.muli v66 c256_i32_1052
  let v1332 : Index := Scalar.indexCast v1256
  let c128_1126 : Index := 128#32
  ![v1332.toNat, 128]
def k0_off61 (d0 : Dev nD) : Fin 4 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32 : BitVec 32 := 256#32
  let c1_i32_1 : BitVec 32 := 1#32
  let v4 : BitVec 32 := Scalar.shrsi v2 c1_i32_1
  let c1_i32_2 : BitVec 32 := 1#32
  let v5 : BitVec 32 := Scalar.andi v4 c1_i32_2
  let v19 : BitVec 32 := Scalar.muli c256_i32 v5
  let v20 : BitVec 32 := Scalar.addi v18 v19
  let c0_i32_31 : BitVec 32 := 0#32
  let v51 : BitVec 1 := Scalar.cmpi .sgt v20 c0_i32_31
  let v52 : BitVec 32 := Scalar.extui v51
  let c0_i32_32 : BitVec 32 := 0#32
  let v53 : BitVec 1 := Scalar.cmpi .slt v20 c0_i32_32
  let v54 : BitVec 32 := Scalar.extui v53
  let v55 : BitVec 32 := Scalar.subi v52 v54
  let c256_i32_30 : BitVec 32 := 256#32
  let c0_i32_33 : BitVec 32 := 0#32
  let v56 : BitVec 1 := Scalar.cmpi .sgt c256_i32_30 c0_i32_33
  let v57 : BitVec 32 := Scalar.extui v56
  let c0_i32_34 : BitVec 32 := 0#32
  let v58 : BitVec 1 := Scalar.cmpi .slt c256_i32_30 c0_i32_34
  let v59 : BitVec 32 := Scalar.extui v58
  let v60 : BitVec 32 := Scalar.subi v57 v59
  let v61 : BitVec 1 := Scalar.cmpi .ne v55 v60
  let v62 : BitVec 32 := Scalar.remsi v20 c256_i32_30
  let c0_i32_35 : BitVec 32 := 0#32
  let v63 : BitVec 1 := Scalar.cmpi .ne v62 c0_i32_35
  let v64 : BitVec 1 := Scalar.andi v61 v63
  let v50 : BitVec 32 := Scalar.divsi v20 c256_i32_30
  let c1_i32_36 : BitVec 32 := 1#32
  let v65 : BitVec 32 := Scalar.subi v50 c1_i32_36
  let v66 : BitVec 32 := Scalar.select v64 v65 v50
  let c0_i32_1136 : BitVec 32 := 0#32
  let c5_i32_1131 : BitVec 32 := 5#32
  let c0_i32_1137 : BitVec 32 := 0#32
  ![v66.toNat, 0, 5, 0]
def k0_off62 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32 : BitVec 32 := 256#32
  let c1_i32_1 : BitVec 32 := 1#32
  let v4 : BitVec 32 := Scalar.shrsi v2 c1_i32_1
  let c1_i32_2 : BitVec 32 := 1#32
  let v5 : BitVec 32 := Scalar.andi v4 c1_i32_2
  let v19 : BitVec 32 := Scalar.muli c256_i32 v5
  let v20 : BitVec 32 := Scalar.addi v18 v19
  let c0_i32_31 : BitVec 32 := 0#32
  let v51 : BitVec 1 := Scalar.cmpi .sgt v20 c0_i32_31
  let v52 : BitVec 32 := Scalar.extui v51
  let c0_i32_32 : BitVec 32 := 0#32
  let v53 : BitVec 1 := Scalar.cmpi .slt v20 c0_i32_32
  let v54 : BitVec 32 := Scalar.extui v53
  let v55 : BitVec 32 := Scalar.subi v52 v54
  let c256_i32_30 : BitVec 32 := 256#32
  let c0_i32_33 : BitVec 32 := 0#32
  let v56 : BitVec 1 := Scalar.cmpi .sgt c256_i32_30 c0_i32_33
  let v57 : BitVec 32 := Scalar.extui v56
  let c0_i32_34 : BitVec 32 := 0#32
  let v58 : BitVec 1 := Scalar.cmpi .slt c256_i32_30 c0_i32_34
  let v59 : BitVec 32 := Scalar.extui v58
  let v60 : BitVec 32 := Scalar.subi v57 v59
  let v61 : BitVec 1 := Scalar.cmpi .ne v55 v60
  let v62 : BitVec 32 := Scalar.remsi v20 c256_i32_30
  let c0_i32_35 : BitVec 32 := 0#32
  let v63 : BitVec 1 := Scalar.cmpi .ne v62 c0_i32_35
  let v64 : BitVec 1 := Scalar.andi v61 v63
  let v50 : BitVec 32 := Scalar.divsi v20 c256_i32_30
  let c1_i32_36 : BitVec 32 := 1#32
  let v65 : BitVec 32 := Scalar.subi v50 c1_i32_36
  let v66 : BitVec 32 := Scalar.select v64 v65 v50
  let c256_i32_1052 : BitVec 32 := 256#32
  let v1256 : BitVec 32 := Scalar.muli v66 c256_i32_1052
  let v1377 : Index := Scalar.indexCast v1256
  let c256_1165 : Index := 256#32
  ![v1377.toNat, 256]
def k0_off63 (d0 : Dev nD) : Fin 4 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32 : BitVec 32 := 256#32
  let c1_i32_1 : BitVec 32 := 1#32
  let v4 : BitVec 32 := Scalar.shrsi v2 c1_i32_1
  let c1_i32_2 : BitVec 32 := 1#32
  let v5 : BitVec 32 := Scalar.andi v4 c1_i32_2
  let v19 : BitVec 32 := Scalar.muli c256_i32 v5
  let v20 : BitVec 32 := Scalar.addi v18 v19
  let c0_i32_31 : BitVec 32 := 0#32
  let v51 : BitVec 1 := Scalar.cmpi .sgt v20 c0_i32_31
  let v52 : BitVec 32 := Scalar.extui v51
  let c0_i32_32 : BitVec 32 := 0#32
  let v53 : BitVec 1 := Scalar.cmpi .slt v20 c0_i32_32
  let v54 : BitVec 32 := Scalar.extui v53
  let v55 : BitVec 32 := Scalar.subi v52 v54
  let c256_i32_30 : BitVec 32 := 256#32
  let c0_i32_33 : BitVec 32 := 0#32
  let v56 : BitVec 1 := Scalar.cmpi .sgt c256_i32_30 c0_i32_33
  let v57 : BitVec 32 := Scalar.extui v56
  let c0_i32_34 : BitVec 32 := 0#32
  let v58 : BitVec 1 := Scalar.cmpi .slt c256_i32_30 c0_i32_34
  let v59 : BitVec 32 := Scalar.extui v58
  let v60 : BitVec 32 := Scalar.subi v57 v59
  let v61 : BitVec 1 := Scalar.cmpi .ne v55 v60
  let v62 : BitVec 32 := Scalar.remsi v20 c256_i32_30
  let c0_i32_35 : BitVec 32 := 0#32
  let v63 : BitVec 1 := Scalar.cmpi .ne v62 c0_i32_35
  let v64 : BitVec 1 := Scalar.andi v61 v63
  let v50 : BitVec 32 := Scalar.divsi v20 c256_i32_30
  let c1_i32_36 : BitVec 32 := 1#32
  let v65 : BitVec 32 := Scalar.subi v50 c1_i32_36
  let v66 : BitVec 32 := Scalar.select v64 v65 v50
  let c0_i32_1175 : BitVec 32 := 0#32
  let c6_i32_1170 : BitVec 32 := 6#32
  let c0_i32_1176 : BitVec 32 := 0#32
  ![v66.toNat, 0, 6, 0]
def k0_off64 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32 : BitVec 32 := 256#32
  let c1_i32_1 : BitVec 32 := 1#32
  let v4 : BitVec 32 := Scalar.shrsi v2 c1_i32_1
  let c1_i32_2 : BitVec 32 := 1#32
  let v5 : BitVec 32 := Scalar.andi v4 c1_i32_2
  let v19 : BitVec 32 := Scalar.muli c256_i32 v5
  let v20 : BitVec 32 := Scalar.addi v18 v19
  let c0_i32_31 : BitVec 32 := 0#32
  let v51 : BitVec 1 := Scalar.cmpi .sgt v20 c0_i32_31
  let v52 : BitVec 32 := Scalar.extui v51
  let c0_i32_32 : BitVec 32 := 0#32
  let v53 : BitVec 1 := Scalar.cmpi .slt v20 c0_i32_32
  let v54 : BitVec 32 := Scalar.extui v53
  let v55 : BitVec 32 := Scalar.subi v52 v54
  let c256_i32_30 : BitVec 32 := 256#32
  let c0_i32_33 : BitVec 32 := 0#32
  let v56 : BitVec 1 := Scalar.cmpi .sgt c256_i32_30 c0_i32_33
  let v57 : BitVec 32 := Scalar.extui v56
  let c0_i32_34 : BitVec 32 := 0#32
  let v58 : BitVec 1 := Scalar.cmpi .slt c256_i32_30 c0_i32_34
  let v59 : BitVec 32 := Scalar.extui v58
  let v60 : BitVec 32 := Scalar.subi v57 v59
  let v61 : BitVec 1 := Scalar.cmpi .ne v55 v60
  let v62 : BitVec 32 := Scalar.remsi v20 c256_i32_30
  let c0_i32_35 : BitVec 32 := 0#32
  let v63 : BitVec 1 := Scalar.cmpi .ne v62 c0_i32_35
  let v64 : BitVec 1 := Scalar.andi v61 v63
  let v50 : BitVec 32 := Scalar.divsi v20 c256_i32_30
  let c1_i32_36 : BitVec 32 := 1#32
  let v65 : BitVec 32 := Scalar.subi v50 c1_i32_36
  let v66 : BitVec 32 := Scalar.select v64 v65 v50
  let c256_i32_1052 : BitVec 32 := 256#32
  let v1256 : BitVec 32 := Scalar.muli v66 c256_i32_1052
  let v1422 : Index := Scalar.indexCast v1256
  let c384_1204 : Index := 384#32
  ![v1422.toNat, 384]
def k0_off65 (d0 : Dev nD) : Fin 4 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32 : BitVec 32 := 256#32
  let c1_i32_1 : BitVec 32 := 1#32
  let v4 : BitVec 32 := Scalar.shrsi v2 c1_i32_1
  let c1_i32_2 : BitVec 32 := 1#32
  let v5 : BitVec 32 := Scalar.andi v4 c1_i32_2
  let v19 : BitVec 32 := Scalar.muli c256_i32 v5
  let v20 : BitVec 32 := Scalar.addi v18 v19
  let c0_i32_31 : BitVec 32 := 0#32
  let v51 : BitVec 1 := Scalar.cmpi .sgt v20 c0_i32_31
  let v52 : BitVec 32 := Scalar.extui v51
  let c0_i32_32 : BitVec 32 := 0#32
  let v53 : BitVec 1 := Scalar.cmpi .slt v20 c0_i32_32
  let v54 : BitVec 32 := Scalar.extui v53
  let v55 : BitVec 32 := Scalar.subi v52 v54
  let c256_i32_30 : BitVec 32 := 256#32
  let c0_i32_33 : BitVec 32 := 0#32
  let v56 : BitVec 1 := Scalar.cmpi .sgt c256_i32_30 c0_i32_33
  let v57 : BitVec 32 := Scalar.extui v56
  let c0_i32_34 : BitVec 32 := 0#32
  let v58 : BitVec 1 := Scalar.cmpi .slt c256_i32_30 c0_i32_34
  let v59 : BitVec 32 := Scalar.extui v58
  let v60 : BitVec 32 := Scalar.subi v57 v59
  let v61 : BitVec 1 := Scalar.cmpi .ne v55 v60
  let v62 : BitVec 32 := Scalar.remsi v20 c256_i32_30
  let c0_i32_35 : BitVec 32 := 0#32
  let v63 : BitVec 1 := Scalar.cmpi .ne v62 c0_i32_35
  let v64 : BitVec 1 := Scalar.andi v61 v63
  let v50 : BitVec 32 := Scalar.divsi v20 c256_i32_30
  let c1_i32_36 : BitVec 32 := 1#32
  let v65 : BitVec 32 := Scalar.subi v50 c1_i32_36
  let v66 : BitVec 32 := Scalar.select v64 v65 v50
  let c0_i32_1214 : BitVec 32 := 0#32
  let c7_i32_1209 : BitVec 32 := 7#32
  let c0_i32_1215 : BitVec 32 := 0#32
  ![v66.toNat, 0, 7, 0]
def k0_off66 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32 : BitVec 32 := 256#32
  let c1_i32_1 : BitVec 32 := 1#32
  let v4 : BitVec 32 := Scalar.shrsi v2 c1_i32_1
  let c1_i32_2 : BitVec 32 := 1#32
  let v5 : BitVec 32 := Scalar.andi v4 c1_i32_2
  let v19 : BitVec 32 := Scalar.muli c256_i32 v5
  let v20 : BitVec 32 := Scalar.addi v18 v19
  let c0_i32_31 : BitVec 32 := 0#32
  let v51 : BitVec 1 := Scalar.cmpi .sgt v20 c0_i32_31
  let v52 : BitVec 32 := Scalar.extui v51
  let c0_i32_32 : BitVec 32 := 0#32
  let v53 : BitVec 1 := Scalar.cmpi .slt v20 c0_i32_32
  let v54 : BitVec 32 := Scalar.extui v53
  let v55 : BitVec 32 := Scalar.subi v52 v54
  let c256_i32_30 : BitVec 32 := 256#32
  let c0_i32_33 : BitVec 32 := 0#32
  let v56 : BitVec 1 := Scalar.cmpi .sgt c256_i32_30 c0_i32_33
  let v57 : BitVec 32 := Scalar.extui v56
  let c0_i32_34 : BitVec 32 := 0#32
  let v58 : BitVec 1 := Scalar.cmpi .slt c256_i32_30 c0_i32_34
  let v59 : BitVec 32 := Scalar.extui v58
  let v60 : BitVec 32 := Scalar.subi v57 v59
  let v61 : BitVec 1 := Scalar.cmpi .ne v55 v60
  let v62 : BitVec 32 := Scalar.remsi v20 c256_i32_30
  let c0_i32_35 : BitVec 32 := 0#32
  let v63 : BitVec 1 := Scalar.cmpi .ne v62 c0_i32_35
  let v64 : BitVec 1 := Scalar.andi v61 v63
  let v50 : BitVec 32 := Scalar.divsi v20 c256_i32_30
  let c1_i32_36 : BitVec 32 := 1#32
  let v65 : BitVec 32 := Scalar.subi v50 c1_i32_36
  let v66 : BitVec 32 := Scalar.select v64 v65 v50
  let c256_i32_1052 : BitVec 32 := 256#32
  let v1256 : BitVec 32 := Scalar.muli v66 c256_i32_1052
  let v1467 : Index := Scalar.indexCast v1256
  let c512_1243 : Index := 512#32
  ![v1467.toNat, 512]
def k0_off67 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32 : BitVec 32 := 256#32
  let c1_i32_1 : BitVec 32 := 1#32
  let v4 : BitVec 32 := Scalar.shrsi v2 c1_i32_1
  let c1_i32_2 : BitVec 32 := 1#32
  let v5 : BitVec 32 := Scalar.andi v4 c1_i32_2
  let v19 : BitVec 32 := Scalar.muli c256_i32 v5
  let v20 : BitVec 32 := Scalar.addi v18 v19
  let c0_i32_31 : BitVec 32 := 0#32
  let v51 : BitVec 1 := Scalar.cmpi .sgt v20 c0_i32_31
  let v52 : BitVec 32 := Scalar.extui v51
  let c0_i32_32 : BitVec 32 := 0#32
  let v53 : BitVec 1 := Scalar.cmpi .slt v20 c0_i32_32
  let v54 : BitVec 32 := Scalar.extui v53
  let v55 : BitVec 32 := Scalar.subi v52 v54
  let c256_i32_30 : BitVec 32 := 256#32
  let c0_i32_33 : BitVec 32 := 0#32
  let v56 : BitVec 1 := Scalar.cmpi .sgt c256_i32_30 c0_i32_33
  let v57 : BitVec 32 := Scalar.extui v56
  let c0_i32_34 : BitVec 32 := 0#32
  let v58 : BitVec 1 := Scalar.cmpi .slt c256_i32_30 c0_i32_34
  let v59 : BitVec 32 := Scalar.extui v58
  let v60 : BitVec 32 := Scalar.subi v57 v59
  let v61 : BitVec 1 := Scalar.cmpi .ne v55 v60
  let v62 : BitVec 32 := Scalar.remsi v20 c256_i32_30
  let c0_i32_35 : BitVec 32 := 0#32
  let v63 : BitVec 1 := Scalar.cmpi .ne v62 c0_i32_35
  let v64 : BitVec 1 := Scalar.andi v61 v63
  let v50 : BitVec 32 := Scalar.divsi v20 c256_i32_30
  let c1_i32_36 : BitVec 32 := 1#32
  let v65 : BitVec 32 := Scalar.subi v50 c1_i32_36
  let v66 : BitVec 32 := Scalar.select v64 v65 v50
  let c256_i32_1052 : BitVec 32 := 256#32
  let v1256 : BitVec 32 := Scalar.muli v66 c256_i32_1052
  let v1500 : Index := Scalar.indexCast v1256
  let c640_1268 : Index := 640#32
  ![v1500.toNat, 640]
def k0_off68 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32 : BitVec 32 := 256#32
  let c1_i32_1 : BitVec 32 := 1#32
  let v4 : BitVec 32 := Scalar.shrsi v2 c1_i32_1
  let c1_i32_2 : BitVec 32 := 1#32
  let v5 : BitVec 32 := Scalar.andi v4 c1_i32_2
  let v19 : BitVec 32 := Scalar.muli c256_i32 v5
  let v20 : BitVec 32 := Scalar.addi v18 v19
  let c0_i32_31 : BitVec 32 := 0#32
  let v51 : BitVec 1 := Scalar.cmpi .sgt v20 c0_i32_31
  let v52 : BitVec 32 := Scalar.extui v51
  let c0_i32_32 : BitVec 32 := 0#32
  let v53 : BitVec 1 := Scalar.cmpi .slt v20 c0_i32_32
  let v54 : BitVec 32 := Scalar.extui v53
  let v55 : BitVec 32 := Scalar.subi v52 v54
  let c256_i32_30 : BitVec 32 := 256#32
  let c0_i32_33 : BitVec 32 := 0#32
  let v56 : BitVec 1 := Scalar.cmpi .sgt c256_i32_30 c0_i32_33
  let v57 : BitVec 32 := Scalar.extui v56
  let c0_i32_34 : BitVec 32 := 0#32
  let v58 : BitVec 1 := Scalar.cmpi .slt c256_i32_30 c0_i32_34
  let v59 : BitVec 32 := Scalar.extui v58
  let v60 : BitVec 32 := Scalar.subi v57 v59
  let v61 : BitVec 1 := Scalar.cmpi .ne v55 v60
  let v62 : BitVec 32 := Scalar.remsi v20 c256_i32_30
  let c0_i32_35 : BitVec 32 := 0#32
  let v63 : BitVec 1 := Scalar.cmpi .ne v62 c0_i32_35
  let v64 : BitVec 1 := Scalar.andi v61 v63
  let v50 : BitVec 32 := Scalar.divsi v20 c256_i32_30
  let c1_i32_36 : BitVec 32 := 1#32
  let v65 : BitVec 32 := Scalar.subi v50 c1_i32_36
  let v66 : BitVec 32 := Scalar.select v64 v65 v50
  let c256_i32_1052 : BitVec 32 := 256#32
  let v1256 : BitVec 32 := Scalar.muli v66 c256_i32_1052
  let v1533 : Index := Scalar.indexCast v1256
  let c768_1293 : Index := 768#32
  ![v1533.toNat, 768]
def k0_off69 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32 : BitVec 32 := 256#32
  let c1_i32_1 : BitVec 32 := 1#32
  let v4 : BitVec 32 := Scalar.shrsi v2 c1_i32_1
  let c1_i32_2 : BitVec 32 := 1#32
  let v5 : BitVec 32 := Scalar.andi v4 c1_i32_2
  let v19 : BitVec 32 := Scalar.muli c256_i32 v5
  let v20 : BitVec 32 := Scalar.addi v18 v19
  let c0_i32_31 : BitVec 32 := 0#32
  let v51 : BitVec 1 := Scalar.cmpi .sgt v20 c0_i32_31
  let v52 : BitVec 32 := Scalar.extui v51
  let c0_i32_32 : BitVec 32 := 0#32
  let v53 : BitVec 1 := Scalar.cmpi .slt v20 c0_i32_32
  let v54 : BitVec 32 := Scalar.extui v53
  let v55 : BitVec 32 := Scalar.subi v52 v54
  let c256_i32_30 : BitVec 32 := 256#32
  let c0_i32_33 : BitVec 32 := 0#32
  let v56 : BitVec 1 := Scalar.cmpi .sgt c256_i32_30 c0_i32_33
  let v57 : BitVec 32 := Scalar.extui v56
  let c0_i32_34 : BitVec 32 := 0#32
  let v58 : BitVec 1 := Scalar.cmpi .slt c256_i32_30 c0_i32_34
  let v59 : BitVec 32 := Scalar.extui v58
  let v60 : BitVec 32 := Scalar.subi v57 v59
  let v61 : BitVec 1 := Scalar.cmpi .ne v55 v60
  let v62 : BitVec 32 := Scalar.remsi v20 c256_i32_30
  let c0_i32_35 : BitVec 32 := 0#32
  let v63 : BitVec 1 := Scalar.cmpi .ne v62 c0_i32_35
  let v64 : BitVec 1 := Scalar.andi v61 v63
  let v50 : BitVec 32 := Scalar.divsi v20 c256_i32_30
  let c1_i32_36 : BitVec 32 := 1#32
  let v65 : BitVec 32 := Scalar.subi v50 c1_i32_36
  let v66 : BitVec 32 := Scalar.select v64 v65 v50
  let c256_i32_1052 : BitVec 32 := 256#32
  let v1256 : BitVec 32 := Scalar.muli v66 c256_i32_1052
  let v1566 : Index := Scalar.indexCast v1256
  let c896_1318 : Index := 896#32
  ![v1566.toNat, 896]
def k0_off70 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32 : BitVec 32 := 256#32
  let c1_i32_1 : BitVec 32 := 1#32
  let v4 : BitVec 32 := Scalar.shrsi v2 c1_i32_1
  let c1_i32_2 : BitVec 32 := 1#32
  let v5 : BitVec 32 := Scalar.andi v4 c1_i32_2
  let v19 : BitVec 32 := Scalar.muli c256_i32 v5
  let v20 : BitVec 32 := Scalar.addi v18 v19
  let v1581 : Index := Scalar.indexCast v20
  let c0_1323 : Index := 0#32
  ![v1581.toNat, 0]
def k0_off71 (d0 : Dev nD) : Fin 3 → Nat :=
  let c0_1336 : Index := 0#32
  let c256_i32_1335 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v1598 : BitVec 32 := Scalar.muli c256_i32_1335 v5
  let v1599 : Index := Scalar.indexCast v1598
  let c0_1337 : Index := 0#32
  ![0, v1599.toNat, 0]
def k0_off72 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32 : BitVec 32 := 256#32
  let c1_i32_1 : BitVec 32 := 1#32
  let v4 : BitVec 32 := Scalar.shrsi v2 c1_i32_1
  let c1_i32_2 : BitVec 32 := 1#32
  let v5 : BitVec 32 := Scalar.andi v4 c1_i32_2
  let v19 : BitVec 32 := Scalar.muli c256_i32 v5
  let v20 : BitVec 32 := Scalar.addi v18 v19
  let c128_i32_1343 : BitVec 32 := 128#32
  let c1_i32_1342 : BitVec 32 := 1#32
  let c1_i32_0 : BitVec 32 := 1#32
  let v3 : BitVec 32 := Scalar.andi v2 c1_i32_0
  let v1611 : BitVec 32 := Scalar.subi c1_i32_1342 v3
  let v1612 : BitVec 32 := Scalar.muli c128_i32_1343 v1611
  let v1613 : BitVec 32 := Scalar.addi v20 v1612
  let c0_i32_1352 : BitVec 32 := 0#32
  ![v1613.toNat, 0]
def k0_dev6 (d0 : Dev nD) : Nat :=
  let c0_i32_1349 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1344 : BitVec 32 := 1#32
  let v1614 : BitVec 32 := Scalar.xori v2 c1_i32_1344
  let c1_i32_1348 : BitVec 32 := 1#32
  let v1615 : BitVec 32 := Scalar.muli v1614 c1_i32_1348
  let v1616 : BitVec 32 := Scalar.addi c0_i32_1349 v1615
  v1616.toNat
def k0_off73 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32 : BitVec 32 := 256#32
  let c1_i32_1 : BitVec 32 := 1#32
  let v4 : BitVec 32 := Scalar.shrsi v2 c1_i32_1
  let c1_i32_2 : BitVec 32 := 1#32
  let v5 : BitVec 32 := Scalar.andi v4 c1_i32_2
  let v19 : BitVec 32 := Scalar.muli c256_i32 v5
  let v20 : BitVec 32 := Scalar.addi v18 v19
  let c128_i32 : BitVec 32 := 128#32
  let c1_i32_0 : BitVec 32 := 1#32
  let v3 : BitVec 32 := Scalar.andi v2 c1_i32_0
  let v21 : BitVec 32 := Scalar.muli c128_i32 v3
  let v22 : BitVec 32 := Scalar.addi v20 v21
  let v1631 : Index := Scalar.indexCast v22
  let c0_1361 : Index := 0#32
  ![v1631.toNat, 0]
def k0_off74 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v18 : BitVec 32 := Scalar.muli c512_i32 v7
  let c256_i32 : BitVec 32 := 256#32
  let c1_i32_1 : BitVec 32 := 1#32
  let v4 : BitVec 32 := Scalar.shrsi v2 c1_i32_1
  let c1_i32_2 : BitVec 32 := 1#32
  let v5 : BitVec 32 := Scalar.andi v4 c1_i32_2
  let v19 : BitVec 32 := Scalar.muli c256_i32 v5
  let v20 : BitVec 32 := Scalar.addi v18 v19
  let c128_i32 : BitVec 32 := 128#32
  let c1_i32_0 : BitVec 32 := 1#32
  let v3 : BitVec 32 := Scalar.andi v2 c1_i32_0
  let v21 : BitVec 32 := Scalar.muli c128_i32 v3
  let v22 : BitVec 32 := Scalar.addi v20 v21
  let c0_i32_1371 : BitVec 32 := 0#32
  ![v22.toNat, 0]
def k0_dev7 (d0 : Dev nD) : Nat :=
  let c0_i32_1370 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1366 : BitVec 32 := 6#32
  let v1642 : BitVec 32 := Scalar.xori v2 c6_i32_1366
  let c1_i32_1369 : BitVec 32 := 1#32
  let v1643 : BitVec 32 := Scalar.muli v1642 c1_i32_1369
  let v1644 : BitVec 32 := Scalar.addi c0_i32_1370 v1643
  v1644.toNat
def k0_dev8 (d0 : Dev nD) : Nat :=
  let c0_i32_1377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1373 : BitVec 32 := 2#32
  let v1651 : BitVec 32 := Scalar.xori v2 c2_i32_1373
  let c1_i32_1376 : BitVec 32 := 1#32
  let v1652 : BitVec 32 := Scalar.muli v1651 c1_i32_1376
  let v1653 : BitVec 32 := Scalar.addi c0_i32_1377 v1652
  v1653.toNat
def k0_dev9 (d0 : Dev nD) : Nat :=
  let c0_i32_1384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1380 : BitVec 32 := 5#32
  let v1660 : BitVec 32 := Scalar.xori v2 c5_i32_1380
  let c1_i32_1383 : BitVec 32 := 1#32
  let v1661 : BitVec 32 := Scalar.muli v1660 c1_i32_1383
  let v1662 : BitVec 32 := Scalar.addi c0_i32_1384 v1661
  v1662.toNat
def k0_dev10 (d0 : Dev nD) : Nat :=
  let c0_i32_1390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1387 : BitVec 32 := 7#32
  let v1669 : BitVec 32 := Scalar.xori v2 c7_i32_1387
  let c1_i32_1389 : BitVec 32 := 1#32
  let v1670 : BitVec 32 := Scalar.muli v1669 c1_i32_1389
  let v1671 : BitVec 32 := Scalar.addi c0_i32_1390 v1670
  v1671.toNat
def k0_dev11 (d0 : Dev nD) : Nat :=
  let c0_i32_1397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1393 : BitVec 32 := 1#32
  let v1678 : BitVec 32 := Scalar.xori v2 c1_i32_1393
  let c1_i32_1396 : BitVec 32 := 1#32
  let v1679 : BitVec 32 := Scalar.muli v1678 c1_i32_1396
  let v1680 : BitVec 32 := Scalar.addi c0_i32_1397 v1679
  v1680.toNat
def k0_dev12 (d0 : Dev nD) : Nat :=
  let c0_i32_1404 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1400 : BitVec 32 := 3#32
  let v1687 : BitVec 32 := Scalar.xori v2 c3_i32_1400
  let c1_i32_1403 : BitVec 32 := 1#32
  let v1688 : BitVec 32 := Scalar.muli v1687 c1_i32_1403
  let v1689 : BitVec 32 := Scalar.addi c0_i32_1404 v1688
  v1689.toNat
def k0_dev13 (d0 : Dev nD) : Nat :=
  let c0_i32_1411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1407 : BitVec 32 := 4#32
  let v1696 : BitVec 32 := Scalar.xori v2 c4_i32_1407
  let c1_i32_1410 : BitVec 32 := 1#32
  let v1697 : BitVec 32 := Scalar.muli v1696 c1_i32_1410
  let v1698 : BitVec 32 := Scalar.addi c0_i32_1411 v1697
  v1698.toNat
def k0_off75 (d0 : Dev nD) (c1_i32_1414 : BitVec 32) : Fin 2 → Nat :=
  let c128_i32_1415 : BitVec 32 := 128#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1705 : BitVec 32 := Scalar.xori v2 c1_i32_1414
  let v1706 : BitVec 32 := Scalar.muli c128_i32_1415 v1705
  let c0_i32_1421 : BitVec 32 := 0#32
  ![v1706.toNat, 0]
abbrev stage0_0 : Fin 1 → Memref sig .tc .vmem S4x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x256x1024 : Shape := ⟨3, ![4, 256, 1024]⟩
abbrev S1024x8192 : Shape := ⟨2, ![1024, 8192]⟩
abbrev S4x1024x64x128 : Shape := ⟨4, ![4, 1024, 64, 128]⟩
abbrev S8192x1024 : Shape := ⟨2, ![8192, 1024]⟩
abbrev S4x256x8192 : Shape := ⟨3, ![4, 256, 8192]⟩
abbrev S4x256x64x128 : Shape := ⟨4, ![4, 256, 64, 128]⟩
abbrev S_ : Shape := ⟨0, ![]⟩
abbrev S4x64x256x1 : Shape := ⟨4, ![4, 64, 256, 1]⟩
abbrev S4x64x256x1024 : Shape := ⟨4, ![4, 64, 256, 1024]⟩
abbrev S4x64x256 : Shape := ⟨3, ![4, 64, 256]⟩
abbrev S4x256x64x1 : Shape := ⟨4, ![4, 256, 64, 1]⟩
abbrev S4x64x128x256 : Shape := ⟨4, ![4, 64, 128, 256]⟩
abbrev S1024x1024 : Shape := ⟨2, ![1024, 1024]⟩

abbrev nBuf : Space → Nat
  | .hbm => 44
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x8192, .f32⟩
  | .hbm, ⟨2, _⟩ => ⟨S4x1024x64x128, .f32⟩
  | .hbm, ⟨3, _⟩ => ⟨S4x1024x64x128, .f32⟩
  | .hbm, ⟨4, _⟩ => ⟨S8192x1024, .f32⟩
  | .hbm, ⟨5, _⟩ => ⟨S4x256x8192, .f32⟩
  | .hbm, ⟨6, _⟩ => ⟨S4x256x64x128, .f32⟩
  | .hbm, ⟨7, _⟩ => ⟨S_, .f32⟩
  | .hbm, ⟨8, _⟩ => ⟨S4x256x64x128, .f32⟩
  | .hbm, ⟨9, _⟩ => ⟨S_, .f32⟩
  | .hbm, ⟨10, _⟩ => ⟨S4x64x256x1, .f32⟩
  | .hbm, ⟨11, _⟩ => ⟨S_, .f32⟩
  | .hbm, ⟨12, _⟩ => ⟨S4x64x256x1, .f32⟩
  | .hbm, ⟨13, _⟩ => ⟨S4x64x256x1024, .f32⟩
  | .hbm, ⟨14, _⟩ => ⟨S_, .f32⟩
  | .hbm, ⟨15, _⟩ => ⟨S4x64x256x1024, .f32⟩
  | .hbm, ⟨16, _⟩ => ⟨S4x64x256x1024, .f32⟩
  | .hbm, ⟨17, _⟩ => ⟨S_, .f32⟩
  | .hbm, ⟨18, _⟩ => ⟨S4x64x256, .f32⟩
  | .hbm, ⟨19, _⟩ => ⟨S4x64x256x1, .f32⟩
  | .hbm, ⟨20, _⟩ => ⟨S4x64x256x1, .f32⟩
  | .hbm, ⟨21, _⟩ => ⟨S4x64x256x1, .f32⟩
  | .hbm, ⟨22, _⟩ => ⟨S4x64x256x1, .f32⟩
  | .hbm, ⟨23, _⟩ => ⟨S4x64x256x1024, .f32⟩
  | .hbm, ⟨24, _⟩ => ⟨S4x64x256x1024, .f32⟩
  | .hbm, ⟨25, _⟩ => ⟨S4x64x256x1024, .f32⟩
  | .hbm, ⟨26, _⟩ => ⟨S4x64x256x1, .f32⟩
  | .hbm, ⟨27, _⟩ => ⟨S_, .f32⟩
  | .hbm, ⟨28, _⟩ => ⟨S4x64x256, .f32⟩
  | .hbm, ⟨29, _⟩ => ⟨S4x64x256x1, .f32⟩
  | .hbm, ⟨30, _⟩ => ⟨S4x64x256x1, .f32⟩
  | .hbm, ⟨31, _⟩ => ⟨S4x256x64x1, .f32⟩
  | .hbm, ⟨32, _⟩ => ⟨S4x256x64x128, .f32⟩
  | .hbm, ⟨33, _⟩ => ⟨S4x256x64x128, .f32⟩
  | .hbm, ⟨34, _⟩ => ⟨S4x64x128x256, .f32⟩
  | .hbm, ⟨35, _⟩ => ⟨S4x256x64x128, .f32⟩
  | .hbm, ⟨36, _⟩ => ⟨S4x256x64x128, .f32⟩
  | .hbm, ⟨37, _⟩ => ⟨S4x256x64x1, .f32⟩
  | .hbm, ⟨38, _⟩ => ⟨S4x256x64x128, .f32⟩
  | .hbm, ⟨39, _⟩ => ⟨S4x256x64x128, .f32⟩
  | .hbm, ⟨40, _⟩ => ⟨S4x256x8192, .f32⟩
  | .hbm, ⟨41, _⟩ => ⟨S4x256x1024, .f32⟩
  | .hbm, ⟨42, _⟩ => ⟨S1024x1024, .f32⟩
  | .hbm, ⟨43, _⟩ => ⟨S1024x1024, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Proof.Flat.lean ====
/- The kernel's body as one flat program over the launch's buffers, with the 32 attention heads of a device as ONE
   definition iterated: the staging of a head's K and V tiles, the wait for them, the head's attention and its store
   differ from head to head in offsets alone, which are tabled here. The kernel checks that the flat program is the
   printed body (`body_eq`), so everything after this module speaks of the flat program. -/
module

public import proofs.«01_k».proof.Proof.Gen.KernelIdeal.Skeleton
public import proofs.«01_k».proof.Proof.Gen.KernelIdeal.Launch

@[expose] public section

set_option maxRecDepth 16384

noncomputable section

namespace Cert.KernelIdeal.Mha

open Idealize.ShloMosaic Idealize.SL.Sem
open Cert.KernelIdeal Cert.KernelIdeal.Gen

variable {F : FTy → Type} [FloatOps F]

/-! ## The buffers -/

/-- The staged block of `x`, -/
abbrev bX : Memref sig .tc .vmem S4x256x1024 .f32 := Memref.whole cc0_stg0_0
/-- of `Wq`, -/
abbrev bWq : Memref sig .tc .vmem S1024x1024 .f32 := Memref.whole cc0_stg1_0
/-- of `Wo`, -/
abbrev bWo : Memref sig .tc .vmem S1024x1024 .f32 := Memref.whole cc0_stg2_0
/-- the device's blocks of `K` and `V`, in HBM, -/
abbrev bK : Memref sig .tc .hbm S4x1024x8x128 .f32 := Memref.whole main_arg2
abbrev bV : Memref sig .tc .hbm S4x1024x8x128 .f32 := Memref.whole main_arg3
/-- the result's staging buffer, -/
abbrev bOut : Memref sig .tc .vmem S1024x1024 .bf16 := Memref.whole cc0_stg3_0
/-- and the scratch: the queries, the heads' outputs, what the peers send in the reduction, the rings of K and V tiles. -/
abbrev bQ : Memref sig .tc .vmem S1024x1024 .bf16 := Memref.whole cc0_scratch0
abbrev bA : Memref sig .tc .vmem S1024x1024 .bf16 := Memref.whole cc0_scratch1
abbrev bR : Memref sig .tc .vmem S2x512x1024 .bf16 := Memref.whole cc0_scratch2
abbrev bKs : Memref sig .tc .vmem S4x1024x128 .f32 := Memref.whole cc0_scratch3
abbrev bVs : Memref sig .tc .vmem S4x1024x128 .f32 := Memref.whole cc0_scratch4

/-- The kernel's programs. -/
abbrev P (F : FTy → Type) [FloatOps F] := Prog (TpuEff nD τ sig (Elt F) Λ₀ .tc) PUnit

/-! ## The heads' offsets, head by head in the order the kernel takes them -/

/-- The start, in the device's block of K and of V, of the tile head `n` reads. -/
def kOff (d : Dev nD) (n : ℕ) : Fin 4 → ℕ := match n with
  | 0 => k0_off1 d
  | 1 => k0_off2 d
  | 2 => k0_off3 d
  | 3 => k0_off4 d
  | 4 => k0_off6 d
  | 5 => k0_off8 d
  | 6 => k0_off10 d
  | 7 => k0_off12 d
  | 8 => k0_off14 d
  | 9 => k0_off16 d
  | 10 => k0_off18 d
  | 11 => k0_off20 d
  | 12 => k0_off22 d
  | 13 => k0_off24 d
  | 14 => k0_off26 d
  | 15 => k0_off28 d
  | 16 => k0_off30 d
  | 17 => k0_off32 d
  | 18 => k0_off34 d
  | 19 => k0_off38 d
  | 20 => k0_off40 d
  | 21 => k0_off42 d
  | 22 => k0_off44 d
  | 23 => k0_off46 d
  | 24 => k0_off48 d
  | 25 => k0_off50 d
  | 26 => k0_off52 d
  | 27 => k0_off57 d
  | 28 => k0_off59 d
  | 29 => k0_off61 d
  | 30 => k0_off63 d
  | _ => k0_off65 d

/-- The start, in the queries and in the heads' outputs, of the block head `n` reads and writes. -/
def qOff (d : Dev nD) (n : ℕ) : Fin 2 → ℕ := match n with
  | 0 => k0_off5 d
  | 1 => k0_off7 d
  | 2 => k0_off9 d
  | 3 => k0_off11 d
  | 4 => k0_off13 d
  | 5 => k0_off15 d
  | 6 => k0_off17 d
  | 7 => k0_off19 d
  | 8 => k0_off21 d
  | 9 => k0_off23 d
  | 10 => k0_off25 d
  | 11 => k0_off27 d
  | 12 => k0_off29 d
  | 13 => k0_off31 d
  | 14 => k0_off33 d
  | 15 => k0_off35 d
  | 16 => k0_off39 d
  | 17 => k0_off41 d
  | 18 => k0_off43 d
  | 19 => k0_off45 d
  | 20 => k0_off47 d
  | 21 => k0_off49 d
  | 22 => k0_off51 d
  | 23 => k0_off53 d
  | 24 => k0_off58 d
  | 25 => k0_off60 d
  | 26 => k0_off62 d
  | 27 => k0_off64 d
  | 28 => k0_off66 d
  | 29 => k0_off67 d
  | 30 => k0_off68 d
  | _ => k0_off69 d

theorem kOff_inb (d : Dev nD) (n : ℕ) : ∀ a, kOff d n a + S1x1024x1x128.size a ≤ S4x1024x8x128.size a := match n with
  | 0 => k0_off1_inb d
  | 1 => k0_off2_inb d
  | 2 => k0_off3_inb d
  | 3 => k0_off4_inb d
  | 4 => k0_off6_inb d
  | 5 => k0_off8_inb d
  | 6 => k0_off10_inb d
  | 7 => k0_off12_inb d
  | 8 => k0_off14_inb d
  | 9 => k0_off16_inb d
  | 10 => k0_off18_inb d
  | 11 => k0_off20_inb d
  | 12 => k0_off22_inb d
  | 13 => k0_off24_inb d
  | 14 => k0_off26_inb d
  | 15 => k0_off28_inb d
  | 16 => k0_off30_inb d
  | 17 => k0_off32_inb d
  | 18 => k0_off34_inb d
  | 19 => k0_off38_inb d
  | 20 => k0_off40_inb d
  | 21 => k0_off42_inb d
  | 22 => k0_off44_inb d
  | 23 => k0_off46_inb d
  | 24 => k0_off48_inb d
  | 25 => k0_off50_inb d
  | 26 => k0_off52_inb d
  | 27 => k0_off57_inb d
  | 28 => k0_off59_inb d
  | 29 => k0_off61_inb d
  | 30 => k0_off63_inb d
  | _ + 31 => k0_off65_inb d

theorem qOff_inb (d : Dev nD) (n : ℕ) : ∀ a, qOff d n a + S256x128.size a ≤ S1024x1024.size a := match n with
  | 0 => k0_off5_inb d
  | 1 => k0_off7_inb d
  | 2 => k0_off9_inb d
  | 3 => k0_off11_inb d
  | 4 => k0_off13_inb d
  | 5 => k0_off15_inb d
  | 6 => k0_off17_inb d
  | 7 => k0_off19_inb d
  | 8 => k0_off21_inb d
  | 9 => k0_off23_inb d
  | 10 => k0_off25_inb d
  | 11 => k0_off27_inb d
  | 12 => k0_off29_inb d
  | 13 => k0_off31_inb d
  | 14 => k0_off33_inb d
  | 15 => k0_off35_inb d
  | 16 => k0_off39_inb d
  | 17 => k0_off41_inb d
  | 18 => k0_off43_inb d
  | 19 => k0_off45_inb d
  | 20 => k0_off47_inb d
  | 21 => k0_off49_inb d
  | 22 => k0_off51_inb d
  | 23 => k0_off53_inb d
  | 24 => k0_off58_inb d
  | 25 => k0_off60_inb d
  | 26 => k0_off62_inb d
  | 27 => k0_off64_inb d
  | 28 => k0_off66_inb d
  | 29 => k0_off67_inb d
  | 30 => k0_off68_inb d
  | _ + 31 => k0_off69_inb d

theorem qOff_packed (d : Dev nD) (n : ℕ) :
    (Rect.unit (s := S1024x1024) (qOff d n) S256x128.size (qOff_inb d n)).PackedRows (EltTy.packing .bf16) := match n with
  | 0 => k0_off5_packedbf16 d
  | 1 => k0_off7_packedbf16 d
  | 2 => k0_off9_packedbf16 d
  | 3 => k0_off11_packedbf16 d
  | 4 => k0_off13_packedbf16 d
  | 5 => k0_off15_packedbf16 d
  | 6 => k0_off17_packedbf16 d
  | 7 => k0_off19_packedbf16 d
  | 8 => k0_off21_packedbf16 d
  | 9 => k0_off23_packedbf16 d
  | 10 => k0_off25_packedbf16 d
  | 11 => k0_off27_packedbf16 d
  | 12 => k0_off29_packedbf16 d
  | 13 => k0_off31_packedbf16 d
  | 14 => k0_off33_packedbf16 d
  | 15 => k0_off35_packedbf16 d
  | 16 => k0_off39_packedbf16 d
  | 17 => k0_off41_packedbf16 d
  | 18 => k0_off43_packedbf16 d
  | 19 => k0_off45_packedbf16 d
  | 20 => k0_off47_packedbf16 d
  | 21 => k0_off49_packedbf16 d
  | 22 => k0_off51_packedbf16 d
  | 23 => k0_off53_packedbf16 d
  | 24 => k0_off58_packedbf16 d
  | 25 => k0_off60_packedbf16 d
  | 26 => k0_off62_packedbf16 d
  | 27 => k0_off64_packedbf16 d
  | 28 => k0_off66_packedbf16 d
  | 29 => k0_off67_packedbf16 d
  | 30 => k0_off68_packedbf16 d
  | _ + 31 => k0_off69_packedbf16 d

/-! ## The tiles and their slots -/

theorem slot_inb (n : ℕ) : ∀ a, (![n % 4, 0, 0] : Fin 3 → ℕ) a + S1x1024x128.size a ≤ S4x1024x128.size a := by
  have := Nat.mod_lt n (show 0 < 4 by decide)
  intro a; fin_cases a <;> simp [Matrix.cons_val] <;> omega

theorem slotSem_inb (n : ℕ) : ∀ a, (![n % 4] : Fin 1 → ℕ) a + S1.size a ≤ S4.size a := by
  have := Nat.mod_lt n (show 0 < 4 by decide)
  intro a; fin_cases a; simp; omega

/-- The rectangle of slot `n % 4` in a ring of four tiles. -/
abbrev slotRect (n : ℕ) : Rect S4x1024x128 := Rect.unit (s := S4x1024x128) ![n % 4, 0, 0] S1x1024x128.size (slot_inb n)

/-- The slot of head `n`'s tile in the ring `b`. -/
abbrev slotM (b : Memref sig .tc .vmem S4x1024x128 .f32) (n : ℕ) : Memref sig .tc .vmem S1024x128 .f32 :=
  (b.slice (slotRect n) (fun _ => rfl)).squeeze S1024x128 squeezes_S1x1024x128_S1024x128

/-- Head `n`'s tile of the array `b` (K or V). -/
abbrev tileM (b : Memref sig .tc .hbm S4x1024x8x128 .f32) (d : Dev nD) (n : ℕ) : Memref sig .tc .hbm S1024x128 .f32 :=
  (b.slice (Rect.unit (s := S4x1024x8x128) (kOff d n) S1x1024x1x128.size (kOff_inb d n)) (fun _ => rfl)).squeeze S1024x128 squeezes_S1x1024x1x128_S1024x128

/-- The semaphore of slot `n % 4`, K's and V's. -/
abbrev kSem (n : ℕ) : DmaSem sig := ((cc0_scratch7.slice (Rect.unit (s := S4) ![n % 4] S1.size (slotSem_inb n))).squeeze S_ squeezes_S1_S_).sem
abbrev vSem (n : ℕ) : DmaSem sig := ((cc0_scratch8.slice (Rect.unit (s := S4) ![n % 4] S1.size (slotSem_inb n))).squeeze S_ squeezes_S1_S_).sem

/-- Head `n`'s block of the queries and of the heads' outputs. -/
abbrev qRect (d : Dev nD) (n : ℕ) : Rect S1024x1024 := Rect.unit (s := S1024x1024) (qOff d n) S256x128.size (qOff_inb d n)

/-! ## The steps, each with the program that follows it -/

/-- Start the transfers of head `n`'s two tiles. -/
def start (d : Dev nD) (n : ℕ) (k : P F) : P F :=
  .op (.enqueueDma (tileM bK d n) (.here (slotM bKs n)) (.dma (kSem n)) ((View.wordExact_bits rfl).reshape _ _) ((View.wordExact_bits rfl).reshape _ _) ⟨Or.inl rfl, trivial⟩) fun _ =>
  .op (.enqueueDma (tileM bV d n) (.here (slotM bVs n)) (.dma (vSem n)) ((View.wordExact_bits rfl).reshape _ _) ((View.wordExact_bits rfl).reshape _ _) ⟨Or.inl rfl, trivial⟩) fun _ => k

/-- One head's attention: of its tile of K, its tile of V and its block of the queries, the block it stores. -/
abbrev headPay (kt vt : Vec F S1x1024x128 .f32) (qb : Vec F S256x128 .bf16) : FVec F S256x128 .bf16 := k0_pay5 kt vt qb

/-- Head `n`: start head `n + 3`'s tiles (if there is one), wait for its own, load them and its queries, store its output. -/
def head (d : Dev nD) (n : ℕ) (k : P F) : P F :=
  let rest : P F :=
    .op (.waitDma2 (kSem n) (tileM bK d n) (slotM bKs n) ((View.wordExact_bits rfl).reshape _ _) ((View.wordExact_bits rfl).reshape _ _)) fun _ =>
    .op (.waitDma2 (vSem n) (tileM bV d n) (slotM bVs n) ((View.wordExact_bits rfl).reshape _ _) ((View.wordExact_bits rfl).reshape _ _)) fun _ =>
    .op (.load bKs (slotRect n).toLoadRect (View.loadsAt_vmem h_S1x1024x128)) fun kt =>
    .op (.load bVs (slotRect n).toLoadRect (View.loadsAt_vmem h_S1x1024x128)) fun vt =>
    .op (.load bQ (qRect d n).toLoadRect (View.loadsAt_vmem h_S256x128)) fun qb =>
    .op (.load bA (qRect d n).toLoadRect (View.loadsAt_vmem h_S256x128)) fun _ =>
    .op (.store bA (qRect d n) (headPay kt vt qb) Finset.univ (View.stores_vmem h_S256x128 ((Memref.isWhole_whole cc0_scratch1).storeExact_slice rfl _ (qOff_packed d n)) (fun _ => rfl)) (.inl rfl)) fun _ => k
  match Nat.decLt (n + 3) 32 with
  | .isTrue _ => start d (n + 3) rest
  | .isFalse _ => rest

/-- `m` heads from head `n` on. -/
def heads (d : Dev nD) : ℕ → ℕ → P F → P F
  | 0, _, k => k
  | m + 1, n, k => head d n (heads d m (n + 1) k)

/-- The kernel's two semaphore arrays of the exchange, one entry. -/
abbrev sndSem (i : ℕ) (h : ∀ a, (![i] : Fin 1 → ℕ) a + S1.size a ≤ S10.size a) : DmaSem sig :=
  ((cc0_scratch5.slice (Rect.unit (s := S10) ![i] S1.size h)).squeeze S_ squeezes_S1_S_).sem
abbrev rcvSem (i : ℕ) (h : ∀ a, (![i] : Fin 1 → ℕ) a + S1.size a ≤ S10.size a) : DmaSem sig :=
  ((cc0_scratch6.slice (Rect.unit (s := S10) ![i] S1.size h)).squeeze S_ squeezes_S1_S_).sem

theorem sem_inb (i : Fin 10) : ∀ a, (![i.val] : Fin 1 → ℕ) a + S1.size a ≤ S10.size a := by
  intro a; fin_cases a; simp; omega

abbrev snd (i : Fin 10) : DmaSem sig := sndSem i.val (sem_inb i)
abbrev rcv (i : Fin 10) : DmaSem sig := rcvSem i.val (sem_inb i)

/-- The three regions of the receive buffer. -/
abbrev rM0 : Memref sig .tc .vmem S512x1024 .bf16 :=
  (bR.slice (Rect.unit (s := S2x512x1024) ![0, 0, 0] S1x512x1024.size inb_S2x512x1024_S1x512x1024_0_0_0) (fun _ => rfl)).squeeze S512x1024 squeezes_S1x512x1024_S512x1024
abbrev rM1 : Memref sig .tc .vmem S256x1024 .bf16 :=
  (bR.slice (Rect.unit (s := S2x512x1024) ![1, 0, 0] S1x256x1024.size inb_S2x512x1024_S1x256x1024_1_0_0) (fun _ => rfl)).squeeze S256x1024 squeezes_S1x256x1024_S256x1024
abbrev rM2 : Memref sig .tc .vmem S128x1024 .bf16 :=
  (bR.slice (Rect.unit (s := S2x512x1024) ![1, 256, 0] S1x128x1024.size inb_S2x512x1024_S1x128x1024_1_256_0) (fun _ => rfl)).squeeze S128x1024 squeezes_S1x128x1024_S128x1024

/-- The rows of the result the device sends in the three steps of the reduction, -/
abbrev oM37 (d : Dev nD) : Memref sig .tc .vmem S512x1024 .bf16 := bOut.slice (Rect.unit (s := S1024x1024) (k0_off37 d) S512x1024.size (k0_off37_inb d)) (fun _ => rfl)
abbrev oM56 (d : Dev nD) : Memref sig .tc .vmem S256x1024 .bf16 := bOut.slice (Rect.unit (s := S1024x1024) (k0_off56 d) S256x1024.size (k0_off56_inb d)) (fun _ => rfl)
abbrev oM72 (d : Dev nD) : Memref sig .tc .vmem S128x1024 .bf16 := bOut.slice (Rect.unit (s := S1024x1024) (k0_off72 d) S128x1024.size (k0_off72_inb d)) (fun _ => rfl)
/-- its own piece of the sum, which it sends to all, -/
abbrev oM74 (d : Dev nD) : Memref sig .tc .vmem S128x1024 .bf16 := bOut.slice (Rect.unit (s := S1024x1024) (k0_off74 d) S128x1024.size (k0_off74_inb d)) (fun _ => rfl)
/-- and the piece the device at exclusive-or `r + 1` sends it. -/
abbrev oM75 (d : Dev nD) (r : Fin 7) : Memref sig .tc .vmem S128x1024 .bf16 :=
  bOut.slice (Rect.unit (s := S1024x1024) (k0_off75 d (BitVec.ofNat 32 (1 + r.val))) S128x1024.size (k0_off75_inb d r)) (fun _ => rfl)

theorem hOut : (bOut : Memref sig .tc .vmem S1024x1024 .bf16).IsWhole := Memref.isWhole_whole _
theorem hR : (bR : Memref sig .tc .vmem S2x512x1024 .bf16).IsWhole := Memref.isWhole_whole _

/-- Send the device's piece of the sum to the device `e`, the two ends completing on entry `i` of the two arrays. -/
def agSend (d e : Dev nD) (i : Fin 10) (k : P F) : P F :=
  .op (.enqueueDma (oM74 d) (.remote (Dev.tc e) (oM74 d) (.dma (snd i))) (.dma (rcv i)) (hOut.wordExact_slice rfl _ (k0_off74_wordsbf16 d)) (hOut.wordExact_slice rfl _ (k0_off74_wordsbf16 d)) ⟨⟨rfl, Or.inl rfl⟩, trivial⟩) fun _ => k

/-- Wait for the piece of the device at exclusive-or `r + 1`, on entry `i`. -/
def agWait (d : Dev nD) (r : Fin 7) (i : Fin 10) (k : P F) : P F :=
  .op (.waitDma2 (rcv i) (oM74 d) (oM75 d r) (hOut.wordExact_slice rfl _ (k0_off74_wordsbf16 d)) (hOut.wordExact_slice rfl _ (k0_off75_wordsbf16 d r))) fun _ => k

/-- Wait until the device's own send on entry `i` has been read. -/
def agDone (d : Dev nD) (i : Fin 10) (k : P F) : P F :=
  .op (.waitDma2 (snd i) (oM74 d) (oM74 d) (hOut.wordExact_slice rfl _ (k0_off74_wordsbf16 d)) (hOut.wordExact_slice rfl _ (k0_off74_wordsbf16 d))) fun _ => k

/-- The exchange of the pieces: seven sends, seven waits for what is received, and the waits for what was sent. -/
def gatherProg (d : Dev nD) : P F :=
  agSend d ⟨k0_dev7 d, k0_dev7_lt d⟩ 8 <| agSend d ⟨k0_dev8 d, k0_dev8_lt d⟩ 4 <| agSend d ⟨k0_dev9 d, k0_dev9_lt d⟩ 7 <|
  agSend d ⟨k0_dev10 d, k0_dev10_lt d⟩ 9 <| agSend d ⟨k0_dev11 d, k0_dev11_lt d⟩ 3 <| agSend d ⟨k0_dev12 d, k0_dev12_lt d⟩ 5 <|
  agSend d ⟨k0_dev13 d, k0_dev13_lt d⟩ 6 <|
  agWait d 0 3 <| agWait d 2 5 <| agWait d 3 6 <| agWait d 1 4 <| agWait d 4 7 <| agWait d 6 9 <| agWait d 5 8 <|
  .op (.waitDma2 (snd 0) rM0 (oM37 d) ((hR.wordExact_slice rfl _ wordsbf16_S2x512x1024_S1x512x1024_0_0_0).reshape _ _) (hOut.wordExact_slice rfl _ (k0_off37_wordsbf16 d))) fun _ =>
  .op (.waitDma2 (snd 1) rM1 (oM56 d) ((hR.wordExact_slice rfl _ wordsbf16_S2x512x1024_S1x256x1024_1_0_0).reshape _ _) (hOut.wordExact_slice rfl _ (k0_off56_wordsbf16 d))) fun _ =>
  .op (.waitDma2 (snd 2) rM2 (oM72 d) ((hR.wordExact_slice rfl _ wordsbf16_S2x512x1024_S1x128x1024_1_256_0).reshape _ _) (hOut.wordExact_slice rfl _ (k0_off72_wordsbf16 d))) fun _ =>
  agDone d 8 <| agDone d 4 <| agDone d 7 <| agDone d 9 <| agDone d 3 <| agDone d 5 <| agDone d 6 <| .ret ⟨⟩

/-- The last third: project the device's last 256 rows, take in what the second step sent, pass on half of the sum, take in
    what the third step sent, and exchange the pieces. -/
def third (d : Dev nD) (wo : FVec F S1024x1024 .bf16) : P F :=
  .op (.load bA (Rect.unit (s := S1024x1024) (k0_off70 d) S256x1024.size (k0_off70_inb d)).toLoadRect (View.loadsAt_vmem h_S256x1024)) fun a =>
  .op (.load bOut (Rect.unit (s := S1024x1024) (k0_off70 d) S256x1024.size (k0_off70_inb d)).toLoadRect (View.loadsAt_vmem h_S256x1024)) fun _ =>
  .op (.store bOut (Rect.unit (s := S1024x1024) (k0_off70 d) S256x1024.size (k0_off70_inb d)) (k0_pay72 wo a) Finset.univ (View.stores_vmem h_S256x1024 (hOut.storeExact_slice rfl _ (k0_off70_packedbf16 d)) (fun _ => rfl)) (.inl rfl)) fun _ =>
  .op (.waitDma2 (rcv 1) (oM56 d) rM1 (hOut.wordExact_slice rfl _ (k0_off56_wordsbf16 d)) ((hR.wordExact_slice rfl _ wordsbf16_S2x512x1024_S1x256x1024_1_0_0).reshape _ _)) fun _ =>
  .op (.load bOut (Rect.unit (s := S1024x1024) (k0_off70 d) S256x1024.size (k0_off70_inb d)).toLoadRect (View.loadsAt_vmem h_S256x1024)) fun o =>
  .op (.load bR (Rect.unit (s := S2x512x1024) (k0_off71 d) S1x256x1024.size (k0_off71_inb d)).toLoadRect (View.loadsAt_vmem h_S1x256x1024)) fun r0 =>
  .op (.load bR (Rect.unit (s := S2x512x1024) ![1, 0, 0] S1x256x1024.size inb_S2x512x1024_S1x256x1024_1_0_0).toLoadRect (View.loadsAt_vmem h_S1x256x1024)) fun r1 =>
  .op (.load bOut (Rect.unit (s := S1024x1024) (k0_off70 d) S256x1024.size (k0_off70_inb d)).toLoadRect (View.loadsAt_vmem h_S256x1024)) fun _ =>
  .op (.store bOut (Rect.unit (s := S1024x1024) (k0_off70 d) S256x1024.size (k0_off70_inb d)) (k0_pay73 o r0 r1) Finset.univ (View.stores_vmem h_S256x1024 (hOut.storeExact_slice rfl _ (k0_off70_packedbf16 d)) (fun _ => rfl)) (.inl rfl)) fun _ =>
  .op (.enqueueDma (oM72 d) (.remote (Dev.tc (⟨k0_dev6 d, k0_dev6_lt d⟩ : Dev nD)) rM2 (.dma (snd 2))) (.dma (rcv 2)) (hOut.wordExact_slice rfl _ (k0_off72_wordsbf16 d)) ((hR.wordExact_slice rfl _ wordsbf16_S2x512x1024_S1x128x1024_1_256_0).reshape _ _) ⟨⟨rfl, Or.inl rfl⟩, trivial⟩) fun _ =>
  .op (.waitDma2 (rcv 2) (oM72 d) rM2 (hOut.wordExact_slice rfl _ (k0_off72_wordsbf16 d)) ((hR.wordExact_slice rfl _ wordsbf16_S2x512x1024_S1x128x1024_1_256_0).reshape _ _)) fun _ =>
  .op (.load bOut (Rect.unit (s := S1024x1024) (k0_off73 d) S128x1024.size (k0_off73_inb d)).toLoadRect (View.loadsAt_vmem h_S128x1024)) fun o =>
  .op (.load bR (Rect.unit (s := S2x512x1024) ![1, 256, 0] S1x128x1024.size inb_S2x512x1024_S1x128x1024_1_256_0).toLoadRect (View.loadsAt_vmem h_S1x128x1024)) fun r2 =>
  .op (.load bOut (Rect.unit (s := S1024x1024) (k0_off73 d) S128x1024.size (k0_off73_inb d)).toLoadRect (View.loadsAt_vmem h_S128x1024)) fun _ =>
  .op (.store bOut (Rect.unit (s := S1024x1024) (k0_off73 d) S128x1024.size (k0_off73_inb d)) (k0_pay74 o r2) Finset.univ (View.stores_vmem h_S128x1024 (hOut.storeExact_slice rfl _ (k0_off73_packedbf16 d)) (fun _ => rfl)) (.inl rfl)) fun _ =>
  gatherProg d

/-- The second third: project the 256 rows the device passes on in the second step, add what the first step sent, send. -/
def second (d : Dev nD) (wo : FVec F S1024x1024 .bf16) (k : P F) : P F :=
  .op (.load bA (Rect.unit (s := S1024x1024) (k0_off54 d) S256x1024.size (k0_off54_inb d)).toLoadRect (View.loadsAt_vmem h_S256x1024)) fun a =>
  .op (.load bOut (Rect.unit (s := S1024x1024) (k0_off54 d) S256x1024.size (k0_off54_inb d)).toLoadRect (View.loadsAt_vmem h_S256x1024)) fun _ =>
  .op (.store bOut (Rect.unit (s := S1024x1024) (k0_off54 d) S256x1024.size (k0_off54_inb d)) (k0_pay55 wo a) Finset.univ (View.stores_vmem h_S256x1024 (hOut.storeExact_slice rfl _ (k0_off54_packedbf16 d)) (fun _ => rfl)) (.inl rfl)) fun _ =>
  .op (.waitDma2 (rcv 0) (oM37 d) rM0 (hOut.wordExact_slice rfl _ (k0_off37_wordsbf16 d)) ((hR.wordExact_slice rfl _ wordsbf16_S2x512x1024_S1x512x1024_0_0_0).reshape _ _)) fun _ =>
  .op (.load bOut (Rect.unit (s := S1024x1024) (k0_off54 d) S256x1024.size (k0_off54_inb d)).toLoadRect (View.loadsAt_vmem h_S256x1024)) fun o =>
  .op (.load bR (Rect.unit (s := S2x512x1024) (k0_off55 d) S1x256x1024.size (k0_off55_inb d)).toLoadRect (View.loadsAt_vmem h_S1x256x1024)) fun r0 =>
  .op (.load bOut (Rect.unit (s := S1024x1024) (k0_off54 d) S256x1024.size (k0_off54_inb d)).toLoadRect (View.loadsAt_vmem h_S256x1024)) fun _ =>
  .op (.store bOut (Rect.unit (s := S1024x1024) (k0_off54 d) S256x1024.size (k0_off54_inb d)) (k0_pay56 o r0) Finset.univ (View.stores_vmem h_S256x1024 (hOut.storeExact_slice rfl _ (k0_off54_packedbf16 d)) (fun _ => rfl)) (.inl rfl)) fun _ =>
  .op (.enqueueDma (oM56 d) (.remote (Dev.tc (⟨k0_dev5 d, k0_dev5_lt d⟩ : Dev nD)) rM1 (.dma (snd 1))) (.dma (rcv 1)) (hOut.wordExact_slice rfl _ (k0_off56_wordsbf16 d)) ((hR.wordExact_slice rfl _ wordsbf16_S2x512x1024_S1x256x1024_1_0_0).reshape _ _) ⟨⟨rfl, Or.inl rfl⟩, trivial⟩) fun _ => k

/-- The first third: project the 512 rows the device gives away in the first step and send them. -/
def first (d : Dev nD) (wo : FVec F S1024x1024 .bf16) (k : P F) : P F :=
  .op (.load bA (Rect.unit (s := S1024x1024) (k0_off36 d) S512x1024.size (k0_off36_inb d)).toLoadRect (View.loadsAt_vmem h_S512x1024)) fun a =>
  .op (.load bOut (Rect.unit (s := S1024x1024) (k0_off36 d) S512x1024.size (k0_off36_inb d)).toLoadRect (View.loadsAt_vmem h_S512x1024)) fun _ =>
  .op (.store bOut (Rect.unit (s := S1024x1024) (k0_off36 d) S512x1024.size (k0_off36_inb d)) (k0_pay37 wo a) Finset.univ (View.stores_vmem h_S512x1024 (hOut.storeExact_slice rfl _ (k0_off36_packedbf16 d)) (fun _ => rfl)) (.inl rfl)) fun _ =>
  .op (.enqueueDma (oM37 d) (.remote (Dev.tc (⟨k0_dev4 d, k0_dev4_lt d⟩ : Dev nD)) rM0 (.dma (snd 0))) (.dma (rcv 0)) (hOut.wordExact_slice rfl _ (k0_off37_wordsbf16 d)) ((hR.wordExact_slice rfl _ wordsbf16_S2x512x1024_S1x512x1024_0_0_0).reshape _ _) ⟨⟨rfl, Or.inl rfl⟩, trivial⟩) fun _ => k

/-- The launch's barrier semaphore. -/
abbrev barS : Sem sig := (SemArray.scalar (sig.barrier 0 rfl) : Sems sig S_).sem

/-- The queries: the two operands' load, the projection's store, and the load of the output weights the rest runs under. -/
def queries (k : FVec F S1024x1024 .bf16 → P F) : P F :=
  .op (.load bWq (Rect.unit (s := S1024x1024) ![0, 0] S1024x1024.size inb_S1024x1024_S1024x1024_0_0).toLoadRect (View.loadsAt_vmem h_S1024x1024)) fun wq =>
  .op (.load bX (Rect.unit (s := S4x256x1024) ![0, 0, 0] S4x256x1024.size inb_S4x256x1024_S4x256x1024_0_0_0).toLoadRect (View.loadsAt_vmem h_S4x256x1024)) fun x =>
  .op (.load bQ (Rect.unit (s := S1024x1024) ![0, 0] S1024x1024.size inb_S1024x1024_S1024x1024_0_0).toLoadRect (View.loadsAt_vmem h_S1024x1024)) fun _ =>
  .op (.store bQ (Rect.unit (s := S1024x1024) ![0, 0] S1024x1024.size inb_S1024x1024_S1024x1024_0_0) (k0_pay1 wq x) Finset.univ (View.stores_vmem h_S1024x1024 ((Memref.isWhole_whole cc0_scratch0).storeExact_slice rfl _ packedbf16_S1024x1024_S1024x1024_0_0) (fun _ => rfl)) (.inl rfl)) fun _ =>
  .op (.load bWo (Rect.unit (s := S1024x1024) ![0, 0] S1024x1024.size inb_S1024x1024_S1024x1024_0_0).toLoadRect (View.loadsAt_vmem h_S1024x1024)) fun wo => k (k0_pay2 wo)

/-- The device `e` tells the kernel's barrier one unit. -/
def tell (e : Dev nD) (k : P F) : P F := .op (.semSignal (e, .tc) barS (1#32 : BitVec 32).toInt) fun _ => k

/-- The body, step by step. -/
def flat : P F :=
  .op .deviceId fun d =>
  tell ⟨k0_dev1 d, k0_dev1_lt d⟩ <| tell ⟨k0_dev2 d, k0_dev2_lt d⟩ <| tell ⟨k0_dev3 d, k0_dev3_lt d⟩ <|
  .op (.semWait barS (3#32 : BitVec 32).toInt) fun _ =>
  start d 0 <| start d 1 <| start d 2 <|
  queries fun wo =>
  heads d 16 0 <| first d wo <|
  heads d 8 16 <| second d wo <|
  heads d 8 24 <| third d wo

set_option maxRecDepth 65536 in
/-- The printed body, at the buffers the launch calls it with, is the flat program. -/
theorem body_eq : cc0_body (F := F) bX (Memref.isWhole_whole _) bWq (Memref.isWhole_whole _) bWo (Memref.isWhole_whole _) bK (Memref.isWhole_whole _) bV (Memref.isWhole_whole _) bOut (Memref.isWhole_whole _)
    bQ (Memref.isWhole_whole _) bA (Memref.isWhole_whole _) bR (Memref.isWhole_whole _) bKs (Memref.isWhole_whole _) bVs (Memref.isWhole_whole _)
    cc0_scratch5 cc0_scratch6 cc0_scratch7 cc0_scratch8 = flat (F := F) := by
  chain_rfl

end Cert.KernelIdeal.Mha

end
-- ==== Proof.Geom.lean ====
/- Where things lie: the partner of a device at an exclusive-or of the device numbers, the kernel's offsets in closed
   form, and the elements its slices cover. Every fact is stated at a symbolic device. -/
module

public import proofs.«01_k».proof.Proof.Flat
public import Idealize.ShloMosaic.Lib.ValueLayout

@[expose] public section

set_option maxRecDepth 16384

noncomputable section

namespace Cert.KernelIdeal.Mha

open Idealize.ShloMosaic Idealize.SL.Sem
open Cert.KernelIdeal Cert.KernelIdeal.Gen

variable {F : FTy → Type} [FloatOps F]

/-! ## Partners -/

/-- The device at exclusive-or `m` from `d`. -/
def px (m : Fin 8) (d : Dev nD) : Dev nD := ⟨d.val ^^^ m.val, by revert d m; decide⟩

theorem px_px (m : Fin 8) (d : Dev nD) : px m (px m d) = d := by revert d m; decide
theorem px_zero (d : Dev nD) : px 0 d = d := by revert d; decide
theorem px_4_3 (d : Dev nD) : px 4 (px 3 d) = px 7 d := by revert d; decide
theorem px_4_1 (d : Dev nD) : px 4 (px 1 d) = px 5 d := by revert d; decide
theorem px_3_1 (d : Dev nD) : px 3 (px 1 d) = px 2 d := by revert d; decide
theorem px_7_1 (d : Dev nD) : px 7 (px 1 d) = px 6 d := by revert d; decide

/-- The partner map as a permutation of the devices. -/
def pxEquiv (m : Fin 8) : Dev nD ≃ Dev nD := ⟨px m, px m, px_px m, px_px m⟩

theorem px_eq_iff (m : Fin 8) (d c : Dev nD) : px m d = c ↔ d = px m c :=
  ⟨fun h => by rw [← h, px_px], fun h => by rw [h, px_px]⟩

theorem dev1_eq (d : Dev nD) : (⟨k0_dev1 d, k0_dev1_lt d⟩ : Dev nD) = px 1 d := by revert d; decide +kernel
theorem dev2_eq (d : Dev nD) : (⟨k0_dev2 d, k0_dev2_lt d⟩ : Dev nD) = px 3 d := by revert d; decide +kernel
theorem dev3_eq (d : Dev nD) : (⟨k0_dev3 d, k0_dev3_lt d⟩ : Dev nD) = px 4 d := by revert d; decide +kernel
theorem dev4_eq (d : Dev nD) : (⟨k0_dev4 d, k0_dev4_lt d⟩ : Dev nD) = px 4 d := by revert d; decide +kernel
theorem dev5_eq (d : Dev nD) : (⟨k0_dev5 d, k0_dev5_lt d⟩ : Dev nD) = px 3 d := by revert d; decide +kernel
theorem dev6_eq (d : Dev nD) : (⟨k0_dev6 d, k0_dev6_lt d⟩ : Dev nD) = px 1 d := by revert d; decide +kernel
theorem dev7_eq (d : Dev nD) : (⟨k0_dev7 d, k0_dev7_lt d⟩ : Dev nD) = px 6 d := by revert d; decide +kernel
theorem dev8_eq (d : Dev nD) : (⟨k0_dev8 d, k0_dev8_lt d⟩ : Dev nD) = px 2 d := by revert d; decide +kernel
theorem dev9_eq (d : Dev nD) : (⟨k0_dev9 d, k0_dev9_lt d⟩ : Dev nD) = px 5 d := by revert d; decide +kernel
theorem dev10_eq (d : Dev nD) : (⟨k0_dev10 d, k0_dev10_lt d⟩ : Dev nD) = px 7 d := by revert d; decide +kernel
theorem dev11_eq (d : Dev nD) : (⟨k0_dev11 d, k0_dev11_lt d⟩ : Dev nD) = px 1 d := by revert d; decide +kernel
theorem dev12_eq (d : Dev nD) : (⟨k0_dev12 d, k0_dev12_lt d⟩ : Dev nD) = px 3 d := by revert d; decide +kernel
theorem dev13_eq (d : Dev nD) : (⟨k0_dev13 d, k0_dev13_lt d⟩ : Dev nD) = px 4 d := by revert d; decide +kernel

/-! ## The rows a device is responsible for, step by step of the reduction -/

/-- The first of the 512 rows, -/
def a1 (d : Dev nD) : ℕ := 512 * (d.val / 4)
/-- of the 256 rows, -/
def a2 (d : Dev nD) : ℕ := 256 * (d.val / 2)
/-- and of the 128 rows of the sum that stay with the device `d`. -/
def a3 (d : Dev nD) : ℕ := 128 * d.val

theorem off36_eq (d : Dev nD) : k0_off36 d = ![a1 (px 4 d), 0] := by revert d; decide +kernel
theorem off37_eq (d : Dev nD) : k0_off37 d = ![a1 (px 4 d), 0] := by revert d; decide +kernel
theorem off54_eq (d : Dev nD) : k0_off54 d = ![a2 (px 3 d), 0] := by revert d; decide +kernel
theorem off55_eq (d : Dev nD) : k0_off55 d = ![0, a2 (px 3 d) - a1 d, 0] := by revert d; decide +kernel
theorem off56_eq (d : Dev nD) : k0_off56 d = ![a2 (px 3 d), 0] := by revert d; decide +kernel
theorem off70_eq (d : Dev nD) : k0_off70 d = ![a2 d, 0] := by revert d; decide +kernel
theorem off71_eq (d : Dev nD) : k0_off71 d = ![0, a2 d - a1 d, 0] := by revert d; decide +kernel
theorem off72_eq (d : Dev nD) : k0_off72 d = ![a3 (px 1 d), 0] := by revert d; decide +kernel
theorem off73_eq (d : Dev nD) : k0_off73 d = ![a3 d, 0] := by revert d; decide +kernel
theorem off74_eq (d : Dev nD) : k0_off74 d = ![a3 d, 0] := by revert d; decide +kernel
/-- The partner of `d` whose piece it waits for in the wait numbered `r`. -/
theorem off75_eq (d : Dev nD) (r : Fin 7) : k0_off75 d (BitVec.ofNat 32 (1 + r.val)) = ![a3 (px r.succ d), 0] := by
  revert d r; decide +kernel

/-- The block of 256 rows of the queries the device takes in its place `j`: the two of the half it gives away in the first step,
    the one it passes on in the second, and its own. -/
def blk (d : Dev nD) (j : ℕ) : ℕ := match j with
  | 0 => 2 * (1 - d.val / 4)
  | 1 => 2 * (1 - d.val / 4) + 1
  | 2 => (px 3 d).val / 2
  | _ => d.val / 2

theorem blk_lt (d : Dev nD) (j : ℕ) : blk d j < 4 := by
  have := d.isLt
  have := (px 3 d).isLt
  have hn : nD = 8 := rfl
  unfold blk; split <;> omega

theorem kOff_eq' : ∀ (d : Dev nD) (n : Fin 32), kOff d n.val = ![blk d (n.val / 8), 0, n.val % 8, 0] := by decide +kernel
theorem qOff_eq' : ∀ (d : Dev nD) (n : Fin 32), qOff d n.val = ![256 * blk d (n.val / 8), 128 * (n.val % 8)] := by decide +kernel
theorem kOff_eq (d : Dev nD) (n : ℕ) (hn : n < 32) : kOff d n = ![blk d (n / 8), 0, n % 8, 0] := kOff_eq' d ⟨n, hn⟩
theorem qOff_eq (d : Dev nD) (n : ℕ) (hn : n < 32) : qOff d n = ![256 * blk d (n / 8), 128 * (n % 8)] := qOff_eq' d ⟨n, hn⟩

/-- When the device takes the block of rows `b`: `0`, `1`, `2` or `3`. -/
def place (d : Dev nD) (b : ℕ) : ℕ :=
  if b = 2 * (1 - d.val / 4) then 0 else if b = 2 * (1 - d.val / 4) + 1 then 1 else if b = (px 3 d).val / 2 then 2 else 3

theorem place_blk' : ∀ (d : Dev nD) (b j : Fin 4), b.val = blk d j.val ↔ place d b.val = j.val := by decide +kernel
theorem place_lt (d : Dev nD) (b : ℕ) : place d b < 4 := by
  unfold place; (repeat' split) <;> omega
theorem blk_place (d : Dev nD) (b : ℕ) (hb : b < 4) : blk d (place d b) = b :=
  ((place_blk' d ⟨b, hb⟩ ⟨place d b, place_lt d b⟩).mpr rfl).symm

/-- The number, in the order the device takes them, of the head that stores the element at row `r` and column `t`. -/
def ord (d : Dev nD) (r t : ℕ) : ℕ := 8 * place d (r / 256) + t / 128

/-- An element lies in head `n`'s block exactly when `n` is the head that stores it. -/
theorem mem_qRect (d : Dev nD) (n : ℕ) (hn : n < 32) (i : S1024x1024.Idx) : i ∈ (qRect d n).set ↔ ord d (i 0).val (i 1).val = n := by
  rw [Rect.mem_set_unit, qOff_eq d n hn, Fin.forall_fin_two]
  have h0 : (i 0).val < 1024 := (i 0).isLt
  have h1 : (i 1).val < 1024 := (i 1).isLt
  have hp := place_blk' d ⟨(i 0).val / 256, by omega⟩ ⟨n / 8, by omega⟩
  have hq := place_lt d ((i 0).val / 256)
  simp only at hp
  show ((256 * blk d (n / 8) ≤ (i 0).val ∧ (i 0).val < 256 * blk d (n / 8) + 256)
    ∧ (128 * (n % 8) ≤ (i 1).val ∧ (i 1).val < 128 * (n % 8) + 128)) ↔ _
  unfold ord
  constructor
  · rintro ⟨⟨h2, h3⟩, h4, h5⟩
    have : place d ((i 0).val / 256) = n / 8 := hp.mp (by omega)
    omega
  · intro h
    have : (i 0).val / 256 = blk d (n / 8) := hp.mpr (by omega)
    omega

/-! ## The elements the slices cover -/

/-- The `n` rows from row `a` on of a buffer of 1024 rows. -/
def rows (a n : ℕ) : Finset S1024x1024.Idx := Finset.univ.filter fun i => a ≤ (i 0).val ∧ (i 0).val < a + n

theorem mem_rows {a n : ℕ} {i : S1024x1024.Idx} : i ∈ rows a n ↔ a ≤ (i 0).val ∧ (i 0).val < a + n := by
  simp [rows]

theorem rows_disjoint {a n b m : ℕ} (h : a + n ≤ b ∨ b + m ≤ a) : Disjoint (rows a n) (rows b m) :=
  Finset.disjoint_left.mpr fun i hi hj => by rw [mem_rows] at hi hj; omega

theorem rows_append (a n m : ℕ) : rows a n ∪ rows (a + n) m = rows a (n + m) := by
  ext i; rw [Finset.mem_union, mem_rows, mem_rows, mem_rows]; omega

theorem rows_univ : rows 0 1024 = Finset.univ := by
  ext i; have h0 : (i 0).val < 1024 := (i 0).isLt
  simp only [mem_rows, Finset.mem_univ, iff_true]; omega

theorem rect_rows {a n : ℕ} {off size : Fin 2 → ℕ} (ho : off = ![a, 0]) (hs : size = ![n, 1024])
    (h : ∀ x, off x + size x ≤ S1024x1024.size x) : (Rect.unit (s := S1024x1024) off size h).set = rows a n := by
  subst ho hs
  ext i
  rw [Rect.mem_set_unit, mem_rows, Fin.forall_fin_two]
  have h1 : (i 1).val < 1024 := (i 1).isLt
  show ((a ≤ (i 0).val ∧ (i 0).val < a + n) ∧ (0 ≤ (i 1).val ∧ (i 1).val < 0 + 1024)) ↔ _
  omega

theorem oM37_set (d : Dev nD) : (oM37 d).view.set = rows (a1 (px 4 d)) 512 := (View.set_slice_whole _ _).trans (rect_rows (off37_eq d) rfl _)
theorem oM56_set (d : Dev nD) : (oM56 d).view.set = rows (a2 (px 3 d)) 256 := (View.set_slice_whole _ _).trans (rect_rows (off56_eq d) rfl _)
theorem oM72_set (d : Dev nD) : (oM72 d).view.set = rows (a3 (px 1 d)) 128 := (View.set_slice_whole _ _).trans (rect_rows (off72_eq d) rfl _)
theorem oM74_set (d : Dev nD) : (oM74 d).view.set = rows (a3 d) 128 := (View.set_slice_whole _ _).trans (rect_rows (off74_eq d) rfl _)

/-- The three regions of the receive buffer, -/
def reg0 : Finset S2x512x1024.Idx := Finset.univ.filter fun i => (i 0).val = 0
def reg1 : Finset S2x512x1024.Idx := Finset.univ.filter fun i => (i 0).val = 1 ∧ (i 1).val < 256
def reg2 : Finset S2x512x1024.Idx := Finset.univ.filter fun i => (i 0).val = 1 ∧ 256 ≤ (i 1).val ∧ (i 1).val < 384
/-- and what lies outside them. -/
def reg3 : Finset S2x512x1024.Idx := Finset.univ.filter fun i => (i 0).val = 1 ∧ 384 ≤ (i 1).val

theorem mem_rect3 {o0 o1 n : ℕ} {off size : Fin 3 → ℕ} (ho : off = ![o0, o1, 0]) (hs : size = ![1, n, 1024])
    (h : ∀ x, off x + size x ≤ S2x512x1024.size x) (i : S2x512x1024.Idx) :
    i ∈ (Rect.unit (s := S2x512x1024) off size h).set ↔ (i 0).val = o0 ∧ o1 ≤ (i 1).val ∧ (i 1).val < o1 + n := by
  subst ho hs
  rw [Rect.mem_set_unit]
  have h2 : (i 2).val < 1024 := (i 2).isLt
  constructor
  · intro H
    have H0 : o0 ≤ (i 0).val ∧ (i 0).val < o0 + 1 := H 0
    have H1 : o1 ≤ (i 1).val ∧ (i 1).val < o1 + n := H 1
    omega
  · rintro ⟨H0, H1, H2⟩ a
    fin_cases a
    · show o0 ≤ (i 0).val ∧ (i 0).val < o0 + 1; omega
    · show o1 ≤ (i 1).val ∧ (i 1).val < o1 + n; omega
    · show 0 ≤ (i 2).val ∧ (i 2).val < 0 + 1024; omega

theorem rM0_set : rM0.view.set = reg0 := by
  refine ((View.set_reshape _ _).trans (View.set_slice_whole _ _)).trans ?_
  ext i; have h1 : (i 1).val < 512 := (i 1).isLt
  rw [mem_rect3 (o0 := 0) (o1 := 0) (n := 512) rfl rfl]; simp only [reg0, Finset.mem_filter, Finset.mem_univ, true_and]; omega
theorem rM1_set : rM1.view.set = reg1 := by
  refine ((View.set_reshape _ _).trans (View.set_slice_whole _ _)).trans ?_
  ext i
  rw [mem_rect3 (o0 := 1) (o1 := 0) (n := 256) rfl rfl]; simp only [reg1, Finset.mem_filter, Finset.mem_univ, true_and]; omega
theorem rM2_set : rM2.view.set = reg2 := by
  refine ((View.set_reshape _ _).trans (View.set_slice_whole _ _)).trans ?_
  ext i
  rw [mem_rect3 (o0 := 1) (o1 := 256) (n := 128) rfl rfl]; simp only [reg2, Finset.mem_filter, Finset.mem_univ, true_and]

/-- Slot `s` of a ring of four tiles. -/
def slots (s : ℕ) : Finset S4x1024x128.Idx := Finset.univ.filter fun i => (i 0).val = s

theorem mem_slots {s : ℕ} {i : S4x1024x128.Idx} : i ∈ slots s ↔ (i 0).val = s := by simp [slots]

theorem slotRect_set (n : ℕ) : (slotRect n).set = slots (n % 4) := by
  ext i
  rw [Rect.mem_set_unit, mem_slots]
  have h1 : (i 1).val < 1024 := (i 1).isLt
  have h2 : (i 2).val < 128 := (i 2).isLt
  constructor
  · intro H
    have H0 : n % 4 ≤ (i 0).val ∧ (i 0).val < n % 4 + 1 := H 0
    omega
  · rintro H a
    fin_cases a
    · show n % 4 ≤ (i 0).val ∧ (i 0).val < n % 4 + 1; omega
    · show 0 ≤ (i 1).val ∧ (i 1).val < 0 + 1024; omega
    · show 0 ≤ (i 2).val ∧ (i 2).val < 0 + 128; omega

theorem slotM_set_k (n : ℕ) : (slotM bKs n).view.set = slots (n % 4) :=
  ((View.set_reshape _ _).trans (View.set_slice_whole _ _)).trans (slotRect_set n)
theorem slotM_set_v (n : ℕ) : (slotM bVs n).view.set = slots (n % 4) :=
  ((View.set_reshape _ _).trans (View.set_slice_whole _ _)).trans (slotRect_set n)

end Cert.KernelIdeal.Mha

end
-- ==== Proof.Vals.lean ====
/- What the device's buffers hold as the kernel goes: the queries, one head's output, the outputs of all heads, and the
   partial sums of the three steps of the reduction, each as a function of all devices' inputs; and what the kernel's loads
   and stores do to such contents. -/
module

public import proofs.«01_k».proof.Proof.Geom
public import Idealize.ShloMosaic.Lib.Pipeline.ValueKit.Geometry

@[expose] public section

set_option maxRecDepth 16384

noncomputable section

namespace Cert.KernelIdeal.Mha

open Idealize.ShloMosaic Idealize.SL.Sem
open Cert.KernelIdeal Cert.KernelIdeal.Gen
open Idealize.ShloMosaic.ValueIdx Idealize.ShloMosaic.ValueKit

variable {F : FTy → Type} [FloatOps F]

/-- The devices' inputs. -/
structure Ins (F : FTy → Type) where
  x : Dev nD → Vec F S4x256x1024 .f32
  wq : Dev nD → Vec F S1024x1024 .f32
  kk : Dev nD → Vec F S4x1024x8x128 .f32
  vv : Dev nD → Vec F S4x1024x8x128 .f32
  wo : Dev nD → Vec F S1024x1024 .f32

/-! ## Parts of a buffer -/

/-- The element of a buffer of 1024 by 1024 at row `r` and column `t`. -/
def at2 (r t : ℕ) : S1024x1024.Idx := ix2 (Fin.ofNat 1024 r) (Fin.ofNat 1024 t)

theorem at2_eq (i : S1024x1024.Idx) {r t : ℕ} (h0 : (i 0).val = r) (h1 : (i 1).val = t) : at2 r t = i := by
  subst h0 h1
  refine funext fun a => Fin.ext ?_
  have h0 : (i 0).val < 1024 := (i 0).isLt
  have h1 : (i 1).val < 1024 := (i 1).isLt
  fin_cases a
  · exact Nat.mod_eq_of_lt h0
  · exact Nat.mod_eq_of_lt h1

/-- The `n` rows from row `a` on. -/
def win {α : Type} (n a : ℕ) (f : S1024x1024.Idx → α) : (⟨2, ![n, 1024]⟩ : Shape).Idx → α := fun j => f (at2 (a + (j 0).val) (j 1).val)

/-- The `n` rows from row `o` on of a block of `m` rows, -/
def sub2 {α : Type} {m : ℕ} [NeZero m] (n o : ℕ) (V : (⟨2, ![m, 1024]⟩ : Shape).Idx → α) : (⟨2, ![n, 1024]⟩ : Shape).Idx → α :=
  fun j => V (ix2 (Fin.ofNat m (o + (j 0).val)) (j 1))
/-- and the same rows with a leading axis of one. -/
def sub3 {α : Type} {m : ℕ} [NeZero m] (n o : ℕ) (V : (⟨2, ![m, 1024]⟩ : Shape).Idx → α) : (⟨3, ![1, n, 1024]⟩ : Shape).Idx → α :=
  fun j => V (ix2 (Fin.ofNat m (o + (j 1).val)) (j 2))

theorem sub2_win {α : Type} {m : ℕ} [NeZero m] (n o a : ℕ) (f : S1024x1024.Idx → α) (h : o + n ≤ m) :
    sub2 n o (win m a f) = win n (a + o) f := by
  funext j
  have hj : (j 0).val < n := (j 0).isLt
  show f (at2 (a + (o + (j 0).val) % m) (j 1).val) = f (at2 (a + o + (j 0).val) (j 1).val)
  rw [Nat.mod_eq_of_lt (by omega), Nat.add_assoc]

/-! ## The contents -/

section Contents
variable (I : Ins F) (d : Dev nD)

/-- The device's queries, scaled, for all four batches. -/
def qs : FVec F S1024x1024 .bf16 := k0_pay1 (I.wq d) (I.x d)
/-- Its rows of the output projection. -/
def wos : FVec F S1024x1024 .bf16 := k0_pay2 (I.wo d)

/-- The queries of head `h` in batch `b`, -/
def qBlk (b h : ℕ) : Vec F S256x128 .bf16 := fun j => qs I d (at2 (256 * b + (j 0).val) (128 * h + (j 1).val))
/-- its keys -/
def kBlk (b h : ℕ) : Vec F S1x1024x128 .f32 := fun j => I.kk d (ix4 (Fin.ofNat 4 b) (j 1) (Fin.ofNat 8 h) (j 2))
/-- and its values, -/
def vBlk (b h : ℕ) : Vec F S1x1024x128 .f32 := fun j => I.vv d (ix4 (Fin.ofNat 4 b) (j 1) (Fin.ofNat 8 h) (j 2))
/-- and what the kernel stores for it. -/
def headOut (b h : ℕ) : FVec F S256x128 .bf16 := headPay (kBlk I d b h) (vBlk I d b h) (qBlk I d b h)

/-- The outputs of all the device's heads, side by side. -/
def attn : FVec F S1024x1024 .bf16 := fun i =>
  headOut I d ((i 0).val / 256) ((i 1).val / 128) (ix2 (Fin.ofNat 256 (i 0).val) (Fin.ofNat 128 (i 1).val))

/-- What the device sends in the first step: its partial projection of the half it gives away. -/
def v1 : FVec F S512x1024 .bf16 := k0_pay37 (wos I d) (win 512 (a1 (px 4 d)) (attn I d))
/-- Its own partial projection of the quarter it passes on in the second step, -/
def v2 : FVec F S256x1024 .bf16 := k0_pay55 (wos I d) (win 256 (a2 (px 3 d)) (attn I d))
/-- and with what it received added: what it sends in the second step. -/
def v2' : FVec F S256x1024 .bf16 := k0_pay56 (v2 I d) (sub3 (m := 512) 256 (a2 (px 3 d) - a1 d) (v1 I (px 4 d)))
/-- Its own partial projection of its own quarter, -/
def v3 : FVec F S256x1024 .bf16 := k0_pay72 (wos I d) (win 256 (a2 d) (attn I d))
/-- and with what it received in two steps added. -/
def v3' : FVec F S256x1024 .bf16 :=
  k0_pay73 (v3 I d) (sub3 (m := 512) 256 (a2 d - a1 d) (v1 I (px 4 d))) (sub3 (m := 256) 256 0 (v2' I (px 3 d)))
/-- What it sends in the third step. -/
def s3 : FVec F S128x1024 .bf16 := sub2 (m := 256) 128 (a3 (px 1 d) - a2 d) (v3' I d)
/-- Its piece of the sum. -/
def v4 : FVec F S128x1024 .bf16 := k0_pay74 (sub2 (m := 256) 128 (a3 d - a2 d) (v3' I d)) (sub3 (m := 128) 128 0 (s3 I (px 1 d)))

end Contents

/-- The whole sum: device `r / 128`'s piece holds row `r`. -/
def total (I : Ins F) : FVec F S1024x1024 .bf16 := fun i =>
  v4 I (Fin.ofNat 8 ((i 0).val / 128)) (ix2 (Fin.ofNat 128 (i 0).val) (i 1))

theorem win_total (I : Ins F) (d : Dev nD) : win 128 (a3 d) (total I) = v4 I d := by
  funext j
  have hj : (j 0).val < 128 := (j 0).isLt
  have hj1 : (j 1).val < 1024 := (j 1).isLt
  have hd : d.val < 8 := d.isLt
  unfold win total
  have h0 : ((at2 (a3 d + (j 0).val) (j 1).val) 0).val = 128 * d.val + (j 0).val :=
    (Nat.mod_eq_of_lt (show 128 * d.val + (j 0).val < 1024 by omega) : (128 * d.val + (j 0).val) % 1024 = _)
  rw [h0]
  have e1 : (Fin.ofNat 8 ((128 * d.val + (j 0).val) / 128) : Dev nD) = d :=
    Fin.ext (by show (128 * d.val + (j 0).val) / 128 % 8 = d.val; omega)
  rw [e1]
  refine congrArg (v4 I d) (funext fun a => Fin.ext ?_)
  fin_cases a
  · show (128 * d.val + (j 0).val) % 128 = (j 0).val; omega
  · exact Nat.mod_eq_of_lt hj1

/-! ## Rows of a whole buffer, loaded, stored and sent -/

/-- The index of a row rectangle's element. -/
theorem emb_rows {n a : ℕ} {off : Fin 2 → ℕ} (ho : off = ![a, 0]) (h : ∀ x, off x + (⟨2, ![n, 1024]⟩ : Shape).size x ≤ S1024x1024.size x)
    (j : (⟨2, ![n, 1024]⟩ : Shape).Idx) : (Rect.unit (s := S1024x1024) off (⟨2, ![n, 1024]⟩ : Shape).size h).emb j = at2 (a + (j 0).val) (j 1).val := by
  subst ho
  refine (at2_eq _ ?_ ?_).symm
  · rw [rect_emb_unit_val]; rfl
  · rw [rect_emb_unit_val]; exact Nat.zero_add _

theorem read_out {n a : ℕ} {off : Fin 2 → ℕ} (ho : off = ![a, 0]) (h : ∀ x, off x + (⟨2, ![n, 1024]⟩ : Shape).size x ≤ S1024x1024.size x)
    (f : S1024x1024.Idx → Elt F .bf16) :
    bOut.view.readAt (Elt F) (Rect.unit (s := S1024x1024) off (⟨2, ![n, 1024]⟩ : Shape).size h).toLoadRect f = win n a f :=
  funext fun j => congrArg f (emb_rows ho h j)
theorem read_a {n a : ℕ} {off : Fin 2 → ℕ} (ho : off = ![a, 0]) (h : ∀ x, off x + (⟨2, ![n, 1024]⟩ : Shape).size x ≤ S1024x1024.size x)
    (f : S1024x1024.Idx → Elt F .bf16) :
    bA.view.readAt (Elt F) (Rect.unit (s := S1024x1024) off (⟨2, ![n, 1024]⟩ : Shape).size h).toLoadRect f = win n a f :=
  funext fun j => congrArg f (emb_rows ho h j)
theorem read_sent {n a : ℕ} {off : Fin 2 → ℕ} (ho : off = ![a, 0]) (h : ∀ x, off x + (⟨2, ![n, 1024]⟩ : Shape).size x ≤ S1024x1024.size x)
    (hr) (f : S1024x1024.Idx → Elt F .bf16) :
    (bOut.slice (Rect.unit (s := S1024x1024) off (⟨2, ![n, 1024]⟩ : Shape).size h) hr).view.read (Elt F) f = win n a f :=
  funext fun j => congrArg f (emb_rows ho h j)

/-- Storing a block of rows: the rows hold it. -/
theorem win_store {n a : ℕ} {off : Fin 2 → ℕ} (ho : off = ![a, 0]) (h : ∀ x, off x + (⟨2, ![n, 1024]⟩ : Shape).size x ≤ S1024x1024.size x)
    (f : S1024x1024.Idx → Elt F .bf16) (w : (⟨2, ![n, 1024]⟩ : Shape).Idx → Elt F .bf16) :
    win n a ((bOut.access (Rect.unit (s := S1024x1024) off (⟨2, ![n, 1024]⟩ : Shape).size h) : View sig .tc _ _ _).write (Elt F) f w Finset.univ) = w := by
  rw [← read_out ho h]
  exact View.read_write_univ _ _

/-! ## The receive buffer -/

theorem read_reg {s o o' m n : ℕ} [NeZero m] (hm : o' + n ≤ m) {off : Fin 3 → ℕ} (ho : off = ![s, o + o', 0])
    (h : ∀ x, off x + (⟨3, ![1, n, 1024]⟩ : Shape).size x ≤ S2x512x1024.size x)
    (h1 : ∀ x, (![s, o, 0] : Fin 3 → ℕ) x + (⟨3, ![1, m, 1024]⟩ : Shape).size x ≤ S2x512x1024.size x) (hr)
    (hq : (⟨3, ![1, m, 1024]⟩ : Shape).Squeezes ⟨2, ![m, 1024]⟩) (f : S2x512x1024.Idx → Elt F .bf16) :
    bR.view.readAt (Elt F) (Rect.unit (s := S2x512x1024) off (⟨3, ![1, n, 1024]⟩ : Shape).size h).toLoadRect f
      = sub3 (m := m) n o' (((bR.slice (Rect.unit (s := S2x512x1024) ![s, o, 0] (⟨3, ![1, m, 1024]⟩ : Shape).size h1) hr).squeeze ⟨2, ![m, 1024]⟩ hq).view.read (Elt F) f) := by
  subst ho
  funext j
  have hj : (j 1).val < n := (j 1).isLt
  have hj0 : (j 0).val < 1 := (j 0).isLt
  unfold sub3
  refine Eq.trans ?_ (congrArg (fun i => f ((Rect.unit (s := S2x512x1024) ![s, o, 0] (⟨3, ![1, m, 1024]⟩ : Shape).size h1).emb i))
    (reshapeEquiv_ix2_1ab hq.numel_eq (Fin.ofNat m (o' + (j 1).val)) (j 2 : Fin 1024))).symm
  refine congrArg f (funext fun a => Fin.ext ?_)
  show ((Rect.unit (s := S2x512x1024) ![s, o + o', 0] (⟨3, ![1, n, 1024]⟩ : Shape).size h).emb j a).val = _
  rw [rect_emb_unit_val, rect_emb_unit_val]
  fin_cases a
  · show s + (j 0).val = s + 0; omega
  · show o + o' + (j 1).val = o + (o' + (j 1).val) % m
    rw [Nat.mod_eq_of_lt (by omega)]; omega
  · rfl

/-! ## The heads -/

/-- The keys a head finds in its slot, once its tile has landed there. -/
theorem tile_k {d : Dev nD} {n : ℕ} (hn : n < 32) (K : S4x1024x8x128.Idx → Elt F .f32) (f : S4x1024x128.Idx → Elt F .f32)
    (hf : (slotM bKs n).view.read (Elt F) f = (tileM bK d n).view.read (Elt F) K) :
    bKs.view.readAt (Elt F) (slotRect n).toLoadRect f
      = (fun j => K (ix4 (Fin.ofNat 4 (blk d (n / 8))) (j 1) (Fin.ofNat 8 (n % 8)) (j 2)) : S1x1024x128.Idx → Elt F .f32) := by
  funext j
  have h := congrFun hf (ix2 (j 1 : Fin 1024) (j 2 : Fin 128))
  have e1 : (slotM bKs n).view.read (Elt F) f (ix2 (j 1 : Fin 1024) (j 2 : Fin 128)) = bKs.view.readAt (Elt F) (slotRect n).toLoadRect f j := by
    refine (congrArg (fun i => f ((slotRect n).emb i)) (reshapeEquiv_ix2_1ab squeezes_S1x1024x128_S1024x128.numel_eq (j 1 : Fin 1024) (j 2 : Fin 128))).trans ?_
    refine congrArg (fun i => f ((slotRect n).emb i)) (funext fun a => ?_)
    fin_cases a
    · exact Subsingleton.elim (α := Fin 1) _ _
    · rfl
    · rfl
  refine (e1.symm.trans h).trans ?_
  have e2 : ∀ (x : Fin 1024) (y : Fin 128), Shape.reshapeEquiv squeezes_S1x1024x1x128_S1024x128.numel_eq (ix2 x y)
      = (ix4 (⟨0, Nat.one_pos⟩ : Fin 1) x (⟨0, Nat.one_pos⟩ : Fin 1) y : S1x1024x1x128.Idx) :=
    fun x y => Shape.reshapeEquiv_eq_of_rowMajor _ (by
      rw [Shape.rowMajor_val_four, Shape.rowMajor_val_two]
      show ((0 * 1024 + x.val) * 1 + 0) * 128 + y.val = x.val * 128 + y.val
      omega)
  refine (congrArg (fun i => K ((Rect.unit (s := S4x1024x8x128) (kOff d n) S1x1024x1x128.size (kOff_inb d n)).emb i)) (e2 (j 1) (j 2))).trans ?_
  refine congrArg K (funext fun a => Fin.ext ?_)
  rw [rect_emb_unit_val]
  have hk := kOff_eq d n hn
  have hb := blk_lt d (n / 8)
  fin_cases a
  · show kOff d n 0 + 0 = blk d (n / 8) % 4
    rw [hk, Nat.mod_eq_of_lt hb]; rfl
  · show kOff d n 1 + (j 1).val = (j 1).val
    rw [hk]; exact Nat.zero_add _
  · show kOff d n 2 + 0 = n % 8 % 8
    rw [hk]; show n % 8 + 0 = _; omega
  · show kOff d n 3 + (j 2).val = (j 2).val
    rw [hk]; exact Nat.zero_add _

/-- The values, likewise. -/
theorem tile_v {d : Dev nD} {n : ℕ} (hn : n < 32) (K : S4x1024x8x128.Idx → Elt F .f32) (f : S4x1024x128.Idx → Elt F .f32)
    (hf : (slotM bVs n).view.read (Elt F) f = (tileM bV d n).view.read (Elt F) K) :
    bVs.view.readAt (Elt F) (slotRect n).toLoadRect f
      = (fun j => K (ix4 (Fin.ofNat 4 (blk d (n / 8))) (j 1) (Fin.ofNat 8 (n % 8)) (j 2)) : S1x1024x128.Idx → Elt F .f32) :=
  tile_k (d := d) hn K f (show _ = _ from hf)

/-- The row and the column of an element of head `n`'s block. -/
theorem q_row (d : Dev nD) (n : ℕ) (hn : n < 32) (j : (qRect d n).shape.Idx) :
    ((qRect d n).emb j 0).val = 256 * blk d (n / 8) + (j 0).val := by
  refine (rect_emb_unit_val _ _ _ j 0).trans ?_
  exact congrArg (· + (j 0).val) (congrFun (qOff_eq d n hn) 0)
theorem q_col (d : Dev nD) (n : ℕ) (hn : n < 32) (j : (qRect d n).shape.Idx) :
    ((qRect d n).emb j 1).val = 128 * (n % 8) + (j 1).val := by
  refine (rect_emb_unit_val _ _ _ j 1).trans ?_
  exact congrArg (· + (j 1).val) (congrFun (qOff_eq d n hn) 1)

/-- The queries a head loads. -/
theorem read_q (I : Ins F) (d : Dev nD) (n : ℕ) (hn : n < 32) :
    bQ.view.readAt (Elt F) (qRect d n).toLoadRect (qs I d) = qBlk I d (blk d (n / 8)) (n % 8) := by
  funext j
  refine congrArg (qs I d) (at2_eq _ ?_ ?_).symm
  · exact q_row d n hn j
  · exact q_col d n hn j

/-- The blocks of the first `n` heads hold their outputs. -/
def HeadsAt (I : Ins F) (d : Dev nD) (n : ℕ) (f : S1024x1024.Idx → Elt F .bf16) : Prop :=
  ∀ i : S1024x1024.Idx, ord d (i 0).val (i 1).val < n → f i = attn I d i

theorem heads_zero (I : Ins F) (d : Dev nD) (f : S1024x1024.Idx → Elt F .bf16) : HeadsAt I d 0 f := fun i h => absurd h (Nat.not_lt_zero _)

/-- One more head's store. -/
theorem heads_store (I : Ins F) (d : Dev nD) (n : ℕ) (hn : n < 32) (f : S1024x1024.Idx → Elt F .bf16) (hf : HeadsAt I d n f) :
    HeadsAt I d (n + 1) ((bA.access (qRect d n) : View sig .tc _ _ _).write (Elt F) f (headOut I d (blk d (n / 8)) (n % 8)) Finset.univ) := by
  intro i hi
  by_cases hm : i ∈ (qRect d n).set
  · obtain ⟨j, hj'⟩ := (qRect d n).toLoadRect.exists_idx_of_mem hm
    have hj : (qRect d n).emb j = i := hj'
    have hw : (bA.access (qRect d n) : View sig .tc _ _ _).write (Elt F) f (headOut I d (blk d (n / 8)) (n % 8)) Finset.univ i
        = headOut I d (blk d (n / 8)) (n % 8) j := by
      have := congrFun (View.read_write_univ (Val := Elt F) (v := (bA.access (qRect d n) : View sig .tc _ _ _)) f (headOut I d (blk d (n / 8)) (n % 8))) j
      refine Eq.trans ?_ this
      exact congrArg _ hj.symm
    rw [hw]
    have hb := blk_lt d (n / 8)
    have hj0 : (j 0).val < 256 := (j 0).isLt
    have hj1 : (j 1).val < 128 := (j 1).isLt
    have h0 : (i 0).val = 256 * blk d (n / 8) + (j 0).val := by
      rw [← hj]; exact q_row d n hn j
    have h1 : (i 1).val = 128 * (n % 8) + (j 1).val := by
      rw [← hj]; exact q_col d n hn j
    unfold attn
    rw [show (i 0).val / 256 = blk d (n / 8) by omega, show (i 1).val / 128 = n % 8 by omega]
    refine congrArg _ (funext fun a => Fin.ext ?_)
    fin_cases a
    · show (j 0).val = (i 0).val % 256; omega
    · show (j 1).val = (i 1).val % 128; omega
  · have hw : (bA.access (qRect d n) : View sig .tc _ _ _).write (Elt F) f (headOut I d (blk d (n / 8)) (n % 8)) Finset.univ i = f i :=
      View.write_of_not_mem _ _ _ (by
        rw [View.setOn_univ]
        exact fun h => hm (by have := (View.set_slice_whole cc0_scratch1 (qRect d n)) ▸ h; exact this))
    rw [hw]
    refine hf i ?_
    have := mt (mem_qRect d n hn i).mpr hm
    omega

/-- Rows whose heads have all been stored. -/
theorem win_heads (I : Ins F) (d : Dev nD) {m n a : ℕ} (f : S1024x1024.Idx → Elt F .bf16) (hf : HeadsAt I d m f) (ha : a + n ≤ 1024)
    (hp : ∀ r, a ≤ r → r < a + n → 8 * place d (r / 256) + 8 ≤ m) : win n a f = win n a (attn I d) := by
  funext j
  have hj : (j 0).val < n := (j 0).isLt
  have hj1 : (j 1).val < 1024 := (j 1).isLt
  refine hf _ ?_
  have h0 : ((at2 (a + (j 0).val) (j 1).val) 0).val = a + (j 0).val := Nat.mod_eq_of_lt (by omega)
  have h1 : ((at2 (a + (j 0).val) (j 1).val) 1).val = (j 1).val := Nat.mod_eq_of_lt hj1
  rw [h0, h1]
  have := hp (a + (j 0).val) (by omega) (by omega)
  unfold ord
  omega

end Cert.KernelIdeal.Mha

end
-- ==== Proof.Heads.lean ====
/- One head's attention, run: the transfers of its two tiles, each from a share of the device's array into a slot of a
   ring of four, the waits for them, and the store of its output. The kernel keeps the tiles of three heads in flight. -/
module

public import proofs.«01_k».proof.Proof.Vals
public import Idealize.ShloMosaic.Lib.Pipeline.Launch
public import Idealize.ShloMosaic.Lib.Pipeline.Kit
public import Idealize.ShloMosaic.Lib.Transfers
public import Idealize.ShloMosaic.Lib.Tactic

@[expose] public section

set_option maxRecDepth 16384

noncomputable section

namespace Cert.KernelIdeal.Mha

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

/-- The exchange's rounds, whose duties are numbered, -/
abbrev UB : Type := Rounds.URounds (GSem nD τ sig) (Fin 3)
/-- beside the pipeline's own rounds and the local transfers' counters. -/
abbrev UU : Type := UR sig nD τ × (UB × Counters)

local notation "𝕄" => MT nD τ sig Unit (Elt F) ℕ UU ℕ

/-- Where each is kept. -/
abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

abbrev 𝒱₀ : Variants := Variants.none

/-- What a core still owes, whatever waits it has made. -/
def owing (c : Dev nD) (O : CellTallies nD τ sig Unit) : sProp 𝕄 := iprop(∃ W : Waits sig Unit, owes (c : Thread nD τ) O W)

/-! ## One tile -/

section Tile

variable (arr : Memref sig .tc .hbm S4x1024x8x128 .f32) (ring : Memref sig .tc .vmem S4x1024x128 .f32) (sm : ℕ → DmaSem sig)
variable (c : Dev nD) (A : Buf (Elt F) (arr.view.loc (c : Thread nD τ)))

/-- The share of the array the transfers into slot `n % 4` read through. -/
abbrev part (n : ℕ) : PosShare TreeShare := Transfers.shareTokN fullShare (n % 4)

/-- The tile is read by the whole array's share. -/
def arrPts (n : ℕ) : sProp 𝕄 := arr.view.loc (c : Thread nD τ) ↦[arr.view.set]{part n} A

/-- The slot, whatever it holds. -/
def slotAny (n : ℕ) : sProp 𝕄 :=
  iprop(∃ f : Buf (Elt F) ((slotM ring n).view.loc (c : Thread nD τ)), (slotM ring n).view.loc (c : Thread nD τ) ↦[(slotM ring n).view.set]{fullShare} f)
/-- The slot, holding head `n`'s tile. -/
def slotHas (n : ℕ) : sProp 𝕄 :=
  iprop(∃ f : Buf (Elt F) ((slotM ring n).view.loc (c : Thread nD τ)),
    ⌜(slotM ring n).view.read (Elt F) f = (tileM arr c n).view.read (Elt F) A⌝ ∗ (slotM ring n).view.loc (c : Thread nD τ) ↦[(slotM ring n).view.set]{fullShare} f)

/-- Nothing in flight into the slot, -/
def idle (n : ℕ) : sProp 𝕄 := iprop(slotAny ring c n ∗ arrPts arr c A n ∗ semVal ((c : Thread nD τ), .dma (sm n)) 0)
/-- head `n`'s tile in flight into it, -/
def flying (n : ℕ) : sProp 𝕄 :=
  iprop(Transfers.Flight EC (c : Thread nD τ) (.dma (sm n)) () (slotM ring n).view.dmaCredit
      iprop(slotHas arr ring c A n ∗ (tileM arr c n).view.loc (c : Thread nD τ) ↦[(tileM arr c n).view.set]{part n} A)
    ∗ arr.view.loc (c : Thread nD τ) ↦[arr.view.set \ (tileM arr c n).view.set]{part n} A)
/-- and arrived. -/
def there (n : ℕ) : sProp 𝕄 := iprop(slotHas arr ring c A n ∗ arrPts arr c A n ∗ semVal ((c : Thread nD τ), .dma (sm n)) 0)

theorem tile_subset (n : ℕ) : (tileM arr c n).view.set ⊆ arr.view.set := by
  rw [View.set_reshape]; exact View.set_slice_subset _ _

theorem there_idle (n : ℕ) : (there arr ring sm c A n : sProp 𝕄) ⊢ idle arr ring sm c A n := by
  unfold there idle slotHas slotAny
  iintro ⟨⟨%f, %hf, H⟩, Hr⟩
  isplitl [H]
  · iexists f; iexact H
  iexact Hr

theorem slotM_add (n : ℕ) : slotM ring (n + 4) = slotM ring n := by
  have h : ∀ (s s' : ℕ), s = s' → ∀ (i : ∀ a, (![s, 0, 0] : Fin 3 → ℕ) a + S1x1024x128.size a ≤ S4x1024x128.size a)
      (i' : ∀ a, (![s', 0, 0] : Fin 3 → ℕ) a + S1x1024x128.size a ≤ S4x1024x128.size a),
      (ring.slice (Rect.unit (s := S4x1024x128) ![s, 0, 0] S1x1024x128.size i) (fun _ => rfl)).squeeze S1024x128 squeezes_S1x1024x128_S1024x128
        = (ring.slice (Rect.unit (s := S4x1024x128) ![s', 0, 0] S1x1024x128.size i') (fun _ => rfl)).squeeze S1024x128 squeezes_S1x1024x128_S1024x128 := by
    intro s s' h i i'; subst h; rfl
  exact h _ _ (Nat.add_mod_right n 4) _ _

theorem idle_add (hsm : ∀ n, sm (n + 4) = sm n) (n : ℕ) : (idle arr ring sm c A (n + 4) : sProp 𝕄) = idle arr ring sm c A n := by
  unfold idle slotAny arrPts part
  rw [hsm, slotM_add, Nat.add_mod_right]

/-- What the transfer leaves in the slot is the tile. -/
theorem slot_written (n : ℕ) (f : Buf (Elt F) ((slotM ring n).view.loc (c : Thread nD τ))) :
    ((slotM ring n).view.loc (c : Thread nD τ) ↦[(slotM ring n).view.set]{fullShare}
        (slotM ring n).view.write (Elt F) f ((tileM arr c n).view.read (Elt F) A) Finset.univ : sProp 𝕄)
      ⊢ slotHas arr ring c A n := by
  unfold slotHas
  iintro H
  iexists ((slotM ring n).view.write (Elt F) f ((tileM arr c n).view.read (Elt F) A) Finset.univ)
  isplitr; · ipureintro; exact View.read_write_univ _ _
  iexact H

theorem wp_start_tile {α : Type} {Q : α → sProp 𝕄} (n : ℕ) {hs hd ht} {k : PUnit → Prog (TpuEff nD τ sig (Elt F) Λ₀ .tc) α} :
    idle arr ring sm c A n ⊢ iprop((flying arr ring sm c A n -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma (tileM arr c n) (.here (slotM ring n)) (.dma (sm n)) hs hd ht) k) Q) := by
  unfold idle slotAny arrPts
  iintro ⟨⟨%f, Hslot⟩, Ha, Hv⟩ Hk
  ihave Ha' := (pointsTo_split_subset (q := part n) (f := A) (tile_subset arr c n)).1 $$ Ha
  icases Ha' with ⟨Ht, Hrest⟩
  iapply (Transfers.wp_dmaLocal EC 𝒱₀ (c : Thread nD τ) none () (slotM ring n).view.dmaCredit rfl (View.dmaCredit_pos _ (by decide)) (Finset.Subset.refl _)
    (src := tileM arr c n) (q := part n) (fs := A) (fd := f)) $$ [Hslot Ht Hv]
  · isplitl [Ht]; · iexact Ht
    isplitl [Hslot]; · iexact Hslot
    iexact Hv
  iintro Hfl
  iapply Hk
  unfold flying
  isplitl [Hfl]
  · iapply (Transfers.Flight_mono EC (c : Thread nD τ) (sep_mono_left (slot_written arr ring c A n f)))
    iexact Hfl
  iexact Hrest

theorem wp_wait_tile {R : sProp 𝕄} [BI.Persistent R] {O : CellTallies nD τ sig Unit} (n : ℕ) (hmw : R ⊢ MayWait (c : Thread nD τ) (.dma (sm n)) () O)
    {α : Type} {Q : α → sProp 𝕄} {hs hd} {k : PUnit → Prog (TpuEff nD τ sig (Elt F) Λ₀ .tc) α} :
    iprop(R ∗ flying arr ring sm c A n ∗ owing c O)
      ⊢ iprop(((there arr ring sm c A n ∗ owing c O) -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 (sm n) (tileM arr c n) (slotM ring n) hs hd) k) Q) := by
  unfold flying owing
  iintro ⟨#HR, ⟨Hfl, Hrest⟩, ⟨%W, HO⟩⟩ Hk
  iapply (Transfers.wp_waitLocalO EC 𝒱₀ (c : Thread nD τ) none () (N := (slotM ring n).view.dmaCredit) rfl) $$ [Hfl HO]
  · isplitl [Hfl]; · iexact Hfl
    isplitl [HO]; · iexact HO
    iapply hmw; iexact HR
  iintro ⟨⟨Hslot, Ht⟩, Hv, HO⟩
  iapply Hk
  isplitr [HO]
  · unfold there arrPts
    isplitl [Hslot]; · iexact Hslot
    isplitl [Ht Hrest]
    · iapply (pointsTo_split_subset (q := part n) (f := A) (tile_subset arr c n)).2
      isplitl [Ht] <;> iassumption
    iexact Hv
  · iexists _; iexact HO

/-- The slot of head `n`: its tile in flight, if there is a head `n`. -/
def slotSt (n : ℕ) : sProp 𝕄 := if n < 32 then flying arr ring sm c A n else idle arr ring sm c A n

/-- Before head `n`: the tiles of heads `n` to `n + 2` in flight, the fourth slot free. -/
def ringSt (n : ℕ) : sProp 𝕄 :=
  iprop(slotSt arr ring sm c A n ∗ slotSt arr ring sm c A (n + 1) ∗ slotSt arr ring sm c A (n + 2) ∗ idle arr ring sm c A (n + 3))

end Tile

/-! ## One head -/

theorem kSem_add (n : ℕ) : kSem (n + 4) = kSem n := by
  have h : ∀ (s s' : ℕ), s = s' → ∀ (i : ∀ a, (![s] : Fin 1 → ℕ) a + S1.size a ≤ S4.size a) (i' : ∀ a, (![s'] : Fin 1 → ℕ) a + S1.size a ≤ S4.size a),
      ((cc0_scratch7.slice (Rect.unit (s := S4) ![s] S1.size i)).squeeze S_ squeezes_S1_S_).sem
        = ((cc0_scratch7.slice (Rect.unit (s := S4) ![s'] S1.size i')).squeeze S_ squeezes_S1_S_).sem := by
    intro s s' h i i'; subst h; rfl
  exact h _ _ (Nat.add_mod_right n 4) _ _
theorem vSem_add (n : ℕ) : vSem (n + 4) = vSem n := by
  have h : ∀ (s s' : ℕ), s = s' → ∀ (i : ∀ a, (![s] : Fin 1 → ℕ) a + S1.size a ≤ S4.size a) (i' : ∀ a, (![s'] : Fin 1 → ℕ) a + S1.size a ≤ S4.size a),
      ((cc0_scratch8.slice (Rect.unit (s := S4) ![s] S1.size i)).squeeze S_ squeezes_S1_S_).sem
        = ((cc0_scratch8.slice (Rect.unit (s := S4) ![s'] S1.size i')).squeeze S_ squeezes_S1_S_).sem := by
    intro s s' h i i'; subst h; rfl
  exact h _ _ (Nat.add_mod_right n 4) _ _

variable (I : Ins F) (c : Dev nD)

abbrev kSt (n : ℕ) : sProp 𝕄 := ringSt bK bKs kSem c (I.kk c) n
abbrev vSt (n : ℕ) : sProp 𝕄 := ringSt bV bVs vSem c (I.vv c) n

/-- Before head `n`: both rings, the queries, and the outputs of the heads before. -/
def headSt (n : ℕ) : sProp 𝕄 :=
  iprop(kSt I c n ∗ vSt I c n ∗ (bQ.view.loc (c : Thread nD τ) ↦{fullShare} qs I c)
    ∗ ∃ f : Buf (Elt F) (bA.view.loc (c : Thread nD τ)), ⌜HeadsAt I c n f⌝ ∗ bA.view.loc (c : Thread nD τ) ↦{fullShare} f)

/-- Both tiles of head `n` in place, the two rings moved on to head `n + 1`. -/
theorem wp_head_rest {n : ℕ} (hn : n < 32) {R : sProp 𝕄} [BI.Persistent R] {O : CellTallies nD τ sig Unit}
    (hk : ∀ n, R ⊢ MayWait (c : Thread nD τ) (.dma (kSem n)) () O) (hv : ∀ n, R ⊢ MayWait (c : Thread nD τ) (.dma (vSem n)) () O)
    {Q : PUnit → sProp 𝕄} {k : P F} {hs hd hs' hd' l1 l2 l3 l4 st hm} :
    iprop(R ∗ flying bK bKs kSem c (I.kk c) n ∗ flying bV bVs vSem c (I.vv c) n ∗ owing c O ∗ (bQ.view.loc (c : Thread nD τ) ↦{fullShare} qs I c)
        ∗ ∃ f : Buf (Elt F) (bA.view.loc (c : Thread nD τ)), ⌜HeadsAt I c n f⌝ ∗ bA.view.loc (c : Thread nD τ) ↦{fullShare} f)
      ⊢ iprop(((idle bK bKs kSem c (I.kk c) n ∗ idle bV bVs vSem c (I.vv c) n ∗ owing c O ∗ (bQ.view.loc (c : Thread nD τ) ↦{fullShare} qs I c)
          ∗ ∃ f : Buf (Elt F) (bA.view.loc (c : Thread nD τ)), ⌜HeadsAt I c (n + 1) f⌝ ∗ bA.view.loc (c : Thread nD τ) ↦{fullShare} f)
          -∗ wp frame (wpE (defs₀ (F := F)) 𝒱₀ (c : Thread nD τ) none) Set.univ k Q)
        -∗ wp frame (wpE (defs₀ (F := F)) 𝒱₀ (c : Thread nD τ) none) Set.univ
          (.op (.waitDma2 (kSem n) (tileM bK c n) (slotM bKs n) hs hd) fun _ =>
           .op (.waitDma2 (vSem n) (tileM bV c n) (slotM bVs n) hs' hd') fun _ =>
           .op (.load bKs (slotRect n).toLoadRect l1) fun kt =>
           .op (.load bVs (slotRect n).toLoadRect l2) fun vt =>
           .op (.load bQ (qRect c n).toLoadRect l3) fun qb =>
           .op (.load bA (qRect c n).toLoadRect l4) fun _ =>
           .op (.store bA (qRect c n) (headPay kt vt qb) Finset.univ st hm) fun _ => k) Q) := by
  iintro ⟨#HR, Hk, Hv, HO, HQ, ⟨%f, %hf, HA⟩⟩ Hc
  iapply (wp_wait_tile bK bKs kSem c (I.kk c) n (hk n)) $$ [Hk HO]
  · isplitr; · iexact HR
    isplitl [Hk] <;> iassumption
  iintro ⟨Hk, HO⟩
  iapply (wp_wait_tile bV bVs vSem c (I.vv c) n (hv n)) $$ [Hv HO]
  · isplitr; · iexact HR
    isplitl [Hv] <;> iassumption
  iintro ⟨Hv, HO⟩
  unfold there slotHas
  icases Hk with ⟨⟨%fk, %hfk, Hks⟩, Hka, Hkv⟩
  icases Hv with ⟨⟨%fv, %hfv, Hvs⟩, Hva, Hvv⟩
  iapply (wp_load 𝒱₀ (c : Thread nD τ) none Set.univ (m := bKs) (((View.set_reshape _ _).trans (View.set_slice _ _)).symm.subset)) $$ Hks; iintro Hks
  iapply (wp_load 𝒱₀ (c : Thread nD τ) none Set.univ (m := bVs) (((View.set_reshape _ _).trans (View.set_slice _ _)).symm.subset)) $$ Hvs; iintro Hvs
  iapply (wp_load 𝒱₀ (c : Thread nD τ) none Set.univ (m := bQ) (Finset.subset_univ _)) $$ HQ; iintro HQ
  iapply (wp_load 𝒱₀ (c : Thread nD τ) none Set.univ (m := bA) (Finset.subset_univ _)) $$ HA; iintro HA
  rw [tile_k hn _ fk hfk, tile_v hn _ fv hfv, read_q I c n hn]
  iapply (wp_store 𝒱₀ (c : Thread nD τ) none Set.univ (m := bA) (r := qRect c n) (Mk := Finset.univ) (Finset.subset_univ _)) $$ HA; iintro HA
  iapply Hc
  isplitl [Hks Hka Hkv]
  · unfold idle slotAny
    isplitl [Hks]; · iexists fk; iexact Hks
    isplitl [Hka] <;> iassumption
  isplitl [Hvs Hva Hvv]
  · unfold idle slotAny
    isplitl [Hvs]; · iexists fv; iexact Hvs
    isplitl [Hva] <;> iassumption
  isplitl [HO]; · iexact HO
  isplitl [HQ]; · iexact HQ
  iexists _
  isplitr
  · ipureintro; exact heads_store I c n hn f hf
  iexact HA

/-- Start both tiles of head `n`. -/
theorem wp_start (n : ℕ) {Q : PUnit → sProp 𝕄} {k : P F} :
    iprop(idle bK bKs kSem c (I.kk c) n ∗ idle bV bVs vSem c (I.vv c) n)
      ⊢ iprop(((flying bK bKs kSem c (I.kk c) n ∗ flying bV bVs vSem c (I.vv c) n)
          -∗ wp frame (wpE (defs₀ (F := F)) 𝒱₀ (c : Thread nD τ) none) Set.univ k Q)
        -∗ wp frame (wpE (defs₀ (F := F)) 𝒱₀ (c : Thread nD τ) none) Set.univ (start c n k) Q) := by
  unfold start
  iintro ⟨Hk, Hv⟩ Hc
  iapply (wp_start_tile bK bKs kSem c (I.kk c) n) $$ Hk; iintro Hk
  iapply (wp_start_tile bV bVs vSem c (I.vv c) n) $$ Hv; iintro Hv
  iapply Hc
  isplitl [Hk] <;> iassumption

theorem wp_head {n : ℕ} (hn : n < 32) {R : sProp 𝕄} [BI.Persistent R] {O : CellTallies nD τ sig Unit}
    (hk : ∀ n, R ⊢ MayWait (c : Thread nD τ) (.dma (kSem n)) () O) (hv : ∀ n, R ⊢ MayWait (c : Thread nD τ) (.dma (vSem n)) () O)
    {Q : PUnit → sProp 𝕄} {k : P F} :
    iprop(R ∗ headSt I c n ∗ owing c O)
      ⊢ iprop(((headSt I c (n + 1) ∗ owing c O) -∗ wp frame (wpE (defs₀ (F := F)) 𝒱₀ (c : Thread nD τ) none) Set.univ k Q)
        -∗ wp frame (wpE (defs₀ (F := F)) 𝒱₀ (c : Thread nD τ) none) Set.univ (head c n k) Q) := by
  unfold headSt kSt vSt ringSt
  rw [show slotSt bK bKs kSem c (I.kk c) n = flying bK bKs kSem c (I.kk c) n from if_pos hn,
    show slotSt bV bVs vSem c (I.vv c) n = flying bV bVs vSem c (I.vv c) n from if_pos hn]
  unfold head
  rcases hd : Nat.decLt (n + 3) 32 with h | h
  · rw [show slotSt bK bKs kSem c (I.kk c) (n + 1 + 2) = idle bK bKs kSem c (I.kk c) (n + 3) from if_neg h,
      show slotSt bV bVs vSem c (I.vv c) (n + 1 + 2) = idle bV bVs vSem c (I.vv c) (n + 3) from if_neg h,
      show n + 1 + 3 = n + 4 from rfl, idle_add _ _ _ _ _ kSem_add, idle_add _ _ _ _ _ vSem_add]
    dsimp only
    iintro ⟨#HR, ⟨⟨Hk0, Hk1, Hk2, Hk3⟩, ⟨Hv0, Hv1, Hv2, Hv3⟩, HQ, HA⟩, HO⟩ Hc
    iapply (wp_head_rest I c hn hk hv) $$ [Hk0 Hv0 HO HQ HA]
    · isplitr; · iexact HR
      isplitl [Hk0]; · iexact Hk0
      isplitl [Hv0]; · iexact Hv0
      isplitl [HO]; · iexact HO
      isplitl [HQ] <;> iassumption
    iintro ⟨Hk0, Hv0, HO, HQ, HA⟩
    iapply Hc
    isplitr [HO]
    · isplitl [Hk0 Hk1 Hk2 Hk3]
      · isplitl [Hk1]; · iexact Hk1
        isplitl [Hk2]; · iexact Hk2
        isplitl [Hk3] <;> iassumption
      isplitl [Hv0 Hv1 Hv2 Hv3]
      · isplitl [Hv1]; · iexact Hv1
        isplitl [Hv2]; · iexact Hv2
        isplitl [Hv3] <;> iassumption
      isplitl [HQ] <;> iassumption
    iexact HO
  · rw [show slotSt bK bKs kSem c (I.kk c) (n + 1 + 2) = flying bK bKs kSem c (I.kk c) (n + 3) from if_pos h,
      show slotSt bV bVs vSem c (I.vv c) (n + 1 + 2) = flying bV bVs vSem c (I.vv c) (n + 3) from if_pos h,
      show n + 1 + 3 = n + 4 from rfl, idle_add _ _ _ _ _ kSem_add, idle_add _ _ _ _ _ vSem_add]
    dsimp only
    iintro ⟨#HR, ⟨⟨Hk0, Hk1, Hk2, Hk3⟩, ⟨Hv0, Hv1, Hv2, Hv3⟩, HQ, HA⟩, HO⟩ Hc
    iapply (wp_start I c (n + 3)) $$ [Hk3 Hv3]
    · isplitl [Hk3] <;> iassumption
    iintro ⟨Hk3, Hv3⟩
    iapply (wp_head_rest I c hn hk hv) $$ [Hk0 Hv0 HO HQ HA]
    · isplitr; · iexact HR
      isplitl [Hk0]; · iexact Hk0
      isplitl [Hv0]; · iexact Hv0
      isplitl [HO]; · iexact HO
      isplitl [HQ] <;> iassumption
    iintro ⟨Hk0, Hv0, HO, HQ, HA⟩
    iapply Hc
    isplitr [HO]
    · isplitl [Hk0 Hk1 Hk2 Hk3]
      · isplitl [Hk1]; · iexact Hk1
        isplitl [Hk2]; · iexact Hk2
        isplitl [Hk3] <;> iassumption
      isplitl [Hv0 Hv1 Hv2 Hv3]
      · isplitl [Hv1]; · iexact Hv1
        isplitl [Hv2]; · iexact Hv2
        isplitl [Hv3] <;> iassumption
      isplitl [HQ] <;> iassumption
    iexact HO

/-- `m` heads from head `n` on. -/
theorem wp_heads {R : sProp 𝕄} [BI.Persistent R] {O : CellTallies nD τ sig Unit}
    (hk : ∀ n, R ⊢ MayWait (c : Thread nD τ) (.dma (kSem n)) () O) (hv : ∀ n, R ⊢ MayWait (c : Thread nD τ) (.dma (vSem n)) () O)
    {Q : PUnit → sProp 𝕄} {k : P F} : ∀ (m n : ℕ), n + m ≤ 32 →
    (iprop(R ∗ headSt I c n ∗ owing c O)
      ⊢ iprop(((headSt I c (n + m) ∗ owing c O) -∗ wp frame (wpE (defs₀ (F := F)) 𝒱₀ (c : Thread nD τ) none) Set.univ k Q)
        -∗ wp frame (wpE (defs₀ (F := F)) 𝒱₀ (c : Thread nD τ) none) Set.univ (heads c m n k) Q))
  | 0, n, _ => by
    unfold heads
    iintro ⟨#HR, H⟩ Hc
    iapply Hc; iexact H
  | m + 1, n, h => by
    unfold heads
    iintro ⟨#HR, H⟩ Hc
    iapply (wp_head I c (by omega) hk hv) $$ [H]
    · isplitr; · iexact HR
      iexact H
    iintro H
    iapply (wp_heads hk hv m (n + 1) (by omega)) $$ [H]
    · isplitr; · iexact HR
      iexact H
    rw [show n + 1 + m = n + (m + 1) by omega]
    iexact Hc

end Cert.KernelIdeal.Mha

end
-- ==== Proof.Proto.lean ====
/- The exchange's protocol: per device one barrier cell and the ten entries of the send and of the receive semaphores, who
   pays each and how much, in what order a device pays and waits, and the contents each landing hands over. -/
module

public import proofs.«01_k».proof.Proof.Heads

@[expose] public section

set_option maxRecDepth 16384

noncomputable section

namespace Cert.KernelIdeal.Mha

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells -/

/-- A device's cells: the barrier (`none`), the send entries (`false`) and the receive entries (`true`). -/
abbrev CI : Type := Option (Bool × Fin 10)
abbrev sK (i : Fin 10) : CI := some (false, i)
abbrev rK (i : Fin 10) : CI := some (true, i)

/-- The semaphore of a cell. -/
abbrev csem : CI → SemLoc sig
  | none => .reg barS
  | some (false, i) => .dma (snd i)
  | some (true, i) => .dma (rcv i)

/-- The cell `x` of device `c`. -/
abbrev kcell (c : Dev nD) (x : CI) : GSem nD τ sig := ((c : Thread nD τ), csem x)

/-- All of a device's cells. -/
def allCells : List CI := none :: ((List.finRange 10).map sK ++ (List.finRange 10).map rK)
/-- Which cell a semaphore is, if any. -/
def kindOf (s : SemLoc sig) : Option CI := allCells.find? fun x => csem x = s

theorem kindOf_csem : ∀ x : CI, kindOf (csem x) = some x := by decide +kernel

theorem csem_inj : Function.Injective csem := fun x y h => by
  have := (kindOf_csem x).symm.trans ((congrArg kindOf h).trans (kindOf_csem y))
  exact Option.some.inj this

/-! ## Partners and amounts -/

/-- At which exclusive-or the device sits whose signal is the barrier's duty `j`. -/
def xb : Fin 3 → Fin 8 := ![1, 3, 4]
/-- At which exclusive-or the device sits that is sent to on entry `i`. -/
def xm : Fin 10 → Fin 8 := ![4, 3, 1, 1, 2, 3, 4, 5, 6, 7]
/-- The entry on which a piece of the sum goes to the device at exclusive-or `m + 1`. -/
abbrev ent (m : Fin 7) : Fin 10 := ⟨3 + m.val, by omega⟩
theorem xm_ent (m : Fin 7) : xm (ent m) = m.succ := by revert m; decide

/-- What a transfer on entry `i` credits. -/
def amtE (i : Fin 10) : ℕ := if i.val = 0 then rM0.view.dmaCredit else if i.val = 1 then rM1.view.dmaCredit else rM2.view.dmaCredit
theorem amtE_pos (i : Fin 10) : 0 < amtE i := by
  unfold amtE; (repeat' split) <;> exact View.dmaCredit_pos _ (by decide)
/-- What one payment to a cell is. -/
def amt : CI → ℕ
  | none => 1
  | some (_, i) => amtE i
theorem amt_pos (x : CI) : 0 < amt x := by
  rcases x with _ | ⟨b, i⟩
  · exact Nat.one_pos
  · exact amtE_pos i

/-! ## What the landings hand over -/

/-- Rows of a device's result buffer, -/
def outPts (e : Dev nD) (S : Finset S1024x1024.Idx) (q : PosShare TreeShare) (f : S1024x1024.Idx → Elt F .bf16) : sProp 𝕄 :=
  bOut.view.loc (e : Thread nD τ) ↦[S]{q} f
/-- whatever they hold. -/
def outAny (e : Dev nD) (a n : ℕ) : sProp 𝕄 := iprop(∃ f : S1024x1024.Idx → Elt F .bf16, outPts e (rows a n) fullShare f)
/-- A region of a device's receive buffer, whatever it holds. -/
def regAny {s : Shape} (e : Dev nD) (m : Memref sig .tc .vmem s .bf16) : sProp 𝕄 :=
  iprop(∃ f : Buf (Elt F) (m.view.loc (e : Thread nD τ)), m.view.loc (e : Thread nD τ) ↦[m.view.set]{fullShare} f)

instance outPts_storable (e S q f) : BI.Storable (upEmb : UEmb _ 𝕄) (outPts (F := F) e S q f) := by unfold outPts; infer_instance
instance outAny_storable (e a n) : BI.Storable (upEmb : UEmb _ 𝕄) (outAny (F := F) e a n) := by unfold outAny; infer_instance
instance regAny_storable {s : Shape} (e) (m : Memref sig .tc .vmem s .bf16) : BI.Storable (upEmb : UEmb _ 𝕄) (regAny (F := F) e m) := by
  unfold regAny; infer_instance

/-- The barrier's duty `j`: the partner's region of step `2 - j` of the reduction. -/
def barPay (c : Dev nD) (j : Fin 3) : sProp 𝕄 :=
  if j = 0 then regAny (px 1 c) rM2 else if j = 1 then regAny (px 3 c) rM1 else regAny (px 4 c) rM0

variable (I : Ins F)

/-- The first step hands `c` half a partial projection, and the sender's rows it will answer for; -/
def rsPay0 (c : Dev nD) : sProp 𝕄 :=
  iprop(owns (c : Thread nD τ) rM0 fullShare (v1 I (px 4 c)) ∗ outAny (px 4 c) (a1 c) 512)
/-- the second a quarter of two, and those rows on two devices; -/
def rsPay1 (c : Dev nD) : sProp 𝕄 :=
  iprop(owns (c : Thread nD τ) rM1 fullShare (v2' I (px 3 c)) ∗ outAny (px 3 c) (a2 c) 256 ∗ outAny (px 7 c) (a2 c) 256)
/-- the third an eighth of four, and those rows on four devices. -/
def rsPay2 (c : Dev nD) : sProp 𝕄 :=
  iprop(owns (c : Thread nD τ) rM2 fullShare (s3 I (px 1 c)) ∗ outAny (px 1 c) (a3 c) 128 ∗ outAny (px 2 c) (a3 c) 128
    ∗ outAny (px 6 c) (a3 c) 128 ∗ outAny (px 5 c) (a3 c) 128)

/-- A receive entry: a step of the reduction, or a piece of the sum in place. -/
def rcvPay (c : Dev nD) (i : Fin 10) : sProp 𝕄 :=
  if i.val = 0 then rsPay0 I c else if i.val = 1 then rsPay1 I c else if i.val = 2 then rsPay2 I c
  else outPts c (rows (a3 (px (xm i) c)) 128) fullShare (total I)
/-- A send entry: nothing, or the share of the device's own piece the transfer read. -/
def sndPay (c : Dev nD) (i : Fin 10) : sProp 𝕄 :=
  if i.val < 3 then iprop(emp) else outPts c (rows (a3 c) 128) (Transfers.shareTokN fullShare (i.val - 3)) (total I)

def pay (c : Dev nD) : CI → Fin 3 → sProp 𝕄
  | none, j => barPay c j
  | some (false, i), _ => sndPay I c i
  | some (true, i), _ => rcvPay I c i

instance pay_storable (c x j) : BI.Storable (upEmb : UEmb _ 𝕄) (pay I c x j) := by
  rcases x with _ | ⟨_ | _, i⟩
  · show BI.Storable upEmb (barPay c j); unfold barPay; (repeat' split) <;> infer_instance
  · show BI.Storable upEmb (sndPay I c i); unfold sndPay; (repeat' split) <;> infer_instance
  · show BI.Storable upEmb (rcvPay I c i); unfold rcvPay rsPay0 rsPay1 rsPay2; (repeat' split) <;> infer_instance

/-! ## The schedule -/

/-- The barrier has three duties, every other cell one. -/
def dut : CI → Finset (Fin 3)
  | none => Finset.univ
  | some _ => {0}

def Rd : Rounds.Schedule (GSem nD τ sig) (Fin 3) 𝕄 where
  duties g r := if r = 0 ∧ g.1.2 = .tc then (match kindOf g.2 with | some x => dut x | none => ∅) else ∅
  unitless _ := False
  amount g _ _ := match kindOf g.2 with | some x => amt x | none => 1
  payload g _ j := match kindOf g.2 with | some x => pay I g.1.1 x j | none => iprop(emp)
  amount_pos g _ _ _ := by
    show 0 < (match kindOf g.2 with | some x => amt x | none => 1)
    split
    · exact amt_pos _
    · exact Nat.one_pos

instance Rd_storable (g : GSem nD τ sig) (r : ℕ) (d : Fin 3) : BI.Storable (upEmb : UEmb _ 𝕄) ((Rd I).payload g r d) := by
  show BI.Storable upEmb (match kindOf g.2 with | some x => pay I g.1.1 x d | none => iprop(emp))
  split <;> infer_instance

section Sched
variable (c : Dev nD) (x : CI)

theorem duties_at : (Rd I).duties (kcell c x) 0 = dut x := by
  show (if 0 = 0 ∧ (Proc.tc : Proc τ) = .tc then (match kindOf (csem x) with | some x => dut x | none => ∅) else ∅) = dut x
  rw [if_pos ⟨rfl, rfl⟩, kindOf_csem]
theorem duties_later (g : GSem nD τ sig) : ∀ r, 1 ≤ r → (Rd I).duties g r = ∅ :=
  fun r hr => if_neg fun h => by omega
theorem amount_at (j : Fin 3) : (Rd I).amount (kcell c x) 0 j = amt x := by
  show (match kindOf (csem x) with | some x => amt x | none => 1) = amt x
  rw [kindOf_csem]
theorem payload_at (j : Fin 3) : (Rd I).payload (kcell c x) 0 j = pay I c x j := by
  show (match kindOf (csem x) with | some x => pay I c x j | none => iprop(emp)) = pay I c x j
  rw [kindOf_csem]

/-- What a cell collects in all. -/
def need (x : CI) : ℕ := (dut x).card * amt x
theorem expect_at : (Rd I).expect (kcell c x) 0 = need x := by
  unfold Schedule.expect Schedule.amountOf need
  rw [duties_at, Finset.sum_congr rfl fun j _ => amount_at I c x j, Finset.sum_const, smul_eq_mul]
theorem rest_at : bigSep ((Rd I).duties (kcell c x) 0 \ ∅) (fun j => (Rd I).payload (kcell c x) 0 j) = bigSep (dut x) (pay I c x) := by
  rw [Finset.sdiff_empty, duties_at]
  exact bigSep_congr fun j _ => payload_at I c x j

theorem need_some (p : Bool × Fin 10) : need (some p) = amtE p.2 := by
  show 1 * amtE p.2 = amtE p.2; rw [Nat.one_mul]
theorem rest_some (p : Bool × Fin 10) : bigSep (dut (some p)) (pay I c (some p)) = pay I c (some p) 0 := bigSep_singleton
theorem rest_none : bigSep (dut none) (pay I c none) = iprop(regAny (px 1 c) rM2 ∗ regAny (px 3 c) rM1 ∗ regAny (px 4 c) rM0) :=
  (bigSep_univ_eq_bigSepL [(0 : Fin 3), 1, 2] (by decide) (by decide) _).trans rfl

end Sched

/-! ## What a device owes, in the order it pays; the levels -/

/-- The payments: the partner's exclusive-or and which of its cells. -/
def dueT : List (Fin 8 × CI) :=
  [(1, none), (3, none), (4, none), (4, rK 0), (3, rK 1), (1, rK 2),
   (6, rK 8), (2, rK 4), (5, rK 7), (7, rK 9), (1, rK 3), (3, rK 5), (4, rK 6)]

/-- The payments of a list, summed. -/
def oweL (c : Dev nD) : List (Fin 8 × CI) → CellTallies nD τ sig Unit
  | [] => 0
  | p :: l => oweL c l + tallyAt (kcell (px p.1 c) p.2) () (amt p.2)
/-- What is owed after the first `k` payments. -/
abbrev owe (c : Dev nD) (k : ℕ) : CellTallies nD τ sig Unit := oweL c (dueT.drop k)

/-- The order of the cells. -/
def lvl : CI → ℕ
  | none => 1
  | some (false, _) => 0
  | some (true, i) => if i.val = 0 then 2 else if i.val = 1 then 3 else if i.val = 2 then 4 else 5

def L (g : GSem nD τ sig) : Finset Unit := if g.1.2 = .tc then {()} else ∅
def lvS (s : SemLoc sig) : ℕ := match kindOf s with | some x => lvl x | none => 0
def lv (g : GSem nD τ sig) (_ : Unit) : ℕ := lvS g.2
theorem L_of_ne (g : GSem nD τ sig) (h : g.1.2 ≠ .tc) : L g = ∅ := if_neg h
theorem L_tc (c : Dev nD) (sm : SemLoc sig) : L ((c : Thread nD τ), sm) = {()} := if_pos rfl
theorem lvS_csem (x : CI) : lvS (csem x) = lvl x := by unfold lvS; rw [kindOf_csem]

theorem oweL_pos {c : Dev nD} {g : GSem nD τ sig} {u : Unit} : ∀ {l : List (Fin 8 × CI)}, 0 < oweL c l g u → ∃ p ∈ l, g = kcell (px p.1 c) p.2
  | [], h => absurd h (Nat.lt_irrefl 0)
  | p :: l, h => by
    unfold oweL at h
    rw [Pi.add_apply, Finsupp.add_apply, tallyAt_apply] at h
    by_cases hp : g = kcell (px p.1 c) p.2 ∧ u = ()
    · exact ⟨p, List.mem_cons_self, hp.1⟩
    · rw [if_neg hp, Nat.add_zero] at h
      obtain ⟨p', hp', e⟩ := oweL_pos h
      exact ⟨p', List.mem_cons_of_mem _ hp', e⟩

/-- A wait is allowed while everything still owed is of a higher level. -/
theorem mayWait (c : Dev nD) (sm : SemLoc sig) (l : List (Fin 8 × CI)) (h : ∀ p ∈ l, lvS sm < lvl p.2) :
    (levAts L lv : sProp 𝕄) ⊢ MayWait (c : Thread nD τ) sm () (oweL c l) :=
  MayOwe.of_cut (L := L) (lev := lv) (lvS sm) (fun p hp => by rw [Finset.mem_singleton.mp hp, L_tc]; exact Finset.mem_singleton_self _)
    (fun g u hg => by obtain ⟨p, _, rfl⟩ := oweL_pos hg; rw [L_tc]; exact Finset.mem_singleton_self _)
    (fun p hp => by rw [Finset.mem_singleton.mp hp]; exact le_refl _)
    (fun g u hg => by
      obtain ⟨p, hp, rfl⟩ := oweL_pos hg
      show lvS sm < lvS (csem p.2)
      rw [lvS_csem]; exact h p hp)

/-- All the devices' payments to one cell. -/
theorem sum_oweL (c : Dev nD) (x : CI) : ∀ l : List (Fin 8 × CI),
    (∑ d : Dev nD, oweL d l (kcell c x) ()) = (l.countP fun p => p.2 = x) * amt x
  | [] => by rw [List.countP_nil, Nat.zero_mul]; exact Finset.sum_const_zero
  | p :: l => by
    have hs : ∀ d : Dev nD, oweL d (p :: l) (kcell c x) () = oweL d l (kcell c x) () + if d = px p.1 c then (if p.2 = x then amt x else 0) else 0 := by
      intro d
      show (oweL d l + tallyAt (kcell (px p.1 d) p.2) () (amt p.2)) (kcell c x) () = _
      rw [Pi.add_apply, Finsupp.add_apply, tallyAt_apply]
      congr 1
      by_cases hd : d = px p.1 c
      · subst hd
        rw [px_px, if_pos rfl]
        by_cases hx : p.2 = x
        · subst hx; rw [if_pos ⟨rfl, rfl⟩, if_pos rfl]
        · rw [if_neg (fun h => hx (csem_inj (congrArg Prod.snd h.1)).symm), if_neg hx]
      · rw [if_neg hd, if_neg (fun h => hd ((px_eq_iff _ _ _).mp (Fin.ext (congrArg (fun g : GSem nD τ sig => g.1.1.val) h.1)).symm))]
    rw [Finset.sum_congr rfl fun d _ => hs d, Finset.sum_add_distrib, sum_oweL c x l, Finset.sum_ite_eq' Finset.univ (px p.1 c), if_pos (Finset.mem_univ _),
      List.countP_cons]
    by_cases hx : p.2 = x
    · rw [if_pos hx, if_pos (by simpa using hx), Nat.add_mul, Nat.one_mul]
    · rw [if_neg hx, if_neg (by simpa using hx), Nat.add_zero, Nat.add_zero]

theorem count_due : ∀ x : CI, (x = none ∨ ∃ i, x = rK i) → (dueT.countP fun p => p.2 = x) = (dut x).card := by decide +kernel

theorem launch_at (c : Dev nD) (x : CI) (hx : x = none ∨ ∃ i, x = rK i) :
    tallyOn (kcell c x) (launchCredit (Pipeline.owing fun d => owe d 0) 0 (kcell c x)) = (tallyAt (kcell c x) () (need x) : CellTallies nD τ sig Unit) := by
  unfold tallyAt; refine congrArg _ (Finsupp.ext fun u => ?_); cases u
  rw [Pipeline.launchCredit_owing, Finsupp.single_eq_same]
  exact (sum_oweL c x dueT).trans (by rw [count_due x hx]; rfl)

/-! ## The steps of a device -/

variable (K : Dev nD × CI → ℕ)

/-- The standing records: every cell's invariant, and that its round is open. -/
def records : sProp 𝕄 :=
  iprop((bigSep Finset.univ fun p : Dev nD × CI => cellInv ER (Rd I) (K p) (kcell p.1 p.2))
    ∗ bigSep Finset.univ fun p : Dev nD × CI => reached ER (kcell p.1 p.2) 0)
instance records_persistent : BI.Persistent (records I K) := by unfold records; infer_instance

theorem inv_at (c : Dev nD) (x : CI) : records I K ⊢ cellInv ER (Rd I) (K (c, x)) (kcell c x) := by
  unfold records
  iintro ⟨#H, -⟩
  iapply (show (bigSep Finset.univ fun p : Dev nD × CI => (cellInv ER (Rd I) (K p) (kcell p.1 p.2) : sProp 𝕄)) ⊢ cellInv ER (Rd I) (K (c, x)) (kcell c x) from
    bigSep_elim (Finset.mem_univ (c, x)))
  iexact H
theorem reached_at (c : Dev nD) (x : CI) : records I K ⊢ reached ER (kcell c x) 0 := by
  unfold records
  iintro ⟨-, #H⟩
  iapply (show (bigSep Finset.univ fun p : Dev nD × CI => (reached ER (kcell p.1 p.2) 0 : sProp 𝕄)) ⊢ reached ER (kcell c x) 0 from
    bigSep_elim (Finset.mem_univ (c, x)))
  iexact H

/-- Tell a partner's barrier: the region it will send to goes with it. -/
theorem wp_tell (j : Fin 3) (c e : Dev nD) (he : e = px (xb j) c) {O O' : CellTallies nD τ sig Unit}
    (hO : O = O' + tallyAt (kcell (px (xb j) c) none) () 1) {Q : PUnit → sProp 𝕄} {k : P F} :
    iprop(records I K ∗ owing c O ∗ dutyTok ER (kcell (px (xb j) c) none) 0 j ∗ barPay (px (xb j) c) j)
      ⊢ iprop((owing c O' -∗ wp frame (wpE (defs₀ (F := F)) 𝒱₀ (c : Thread nD τ) none) Set.univ k Q)
        -∗ wp frame (wpE (defs₀ (F := F)) 𝒱₀ (c : Thread nD τ) none) Set.univ (tell e k) Q) := by
  subst he
  unfold tell owing
  iintro ⟨#HR, ⟨%W, HO⟩, Ht, Hp⟩ Hk
  iapply (Rounds.wp_signal 𝒱₀ ER (Rd I) (c : Thread nD τ) none (dst := (px (xb j) c : Thread nD τ)) (κ := K (px (xb j) c, none)) (r := 0) (d := j)
      (by rw [show ((px (xb j) c : Thread nD τ), SemLoc.reg barS) = kcell (px (xb j) c) none from rfl, duties_at]; exact Finset.mem_univ _)
      ((amount_at I (px (xb j) c) none j).trans (by decide)) () O' hO) $$ [HO Ht Hp]
  · isplitr; · iapply (inv_at I K (px (xb j) c) none); iexact HR
    isplitl [HO]; · iexact HO
    isplitl [Ht]; · iexact Ht
    isplitl [Hp]
    · iapply (show (barPay (px (xb j) c) j : sProp 𝕄) ⊢ _ from Entails.of_eq (payload_at I (px (xb j) c) none j).symm); iexact Hp
    iapply (reached_at I K (px (xb j) c) none); iexact HR
  iintro HO
  iapply Hk
  iexists W; iexact HO

/-- Wait for all a cell collects: what its payments hand over, and the cell closed at zero. -/
theorem wp_wait (c : Dev nD) (x : CI) {w : TpuEff nD τ sig (Elt F) Λ₀ .tc PUnit} {k' : ℕ}
    (hw : ∀ Kt : PUnit → sProp 𝕄, wpE (defs₀ (F := F)) 𝒱₀ (c : Thread nD τ) none Set.univ w Kt = waitSpec (c : Thread nD τ) Set.univ (csem x) k' Kt)
    (hk : k' = need x) {O : CellTallies nD τ sig Unit} {R : sProp 𝕄} (hR : R ⊢ MayWait (c : Thread nD τ) (csem x) () O)
    {Q : PUnit → sProp 𝕄} {k : PUnit → P F} :
    iprop(records I K ∗ R ∗ cred (tallyAt (kcell c x) () (need x)) ∗ atPos ER (kcell c x) 0 ∅ 0 ∗ owing c O)
      ⊢ iprop(((owing c O ∗ semVal (kcell c x) 0 ∗ bigSep (dut x) (pay I c x))
          -∗ wp frame (wpE (defs₀ (F := F)) 𝒱₀ (c : Thread nD τ) none) Set.univ (k ⟨⟩) Q)
        -∗ wp frame (wpE (defs₀ (F := F)) 𝒱₀ (c : Thread nD τ) none) Set.univ (.op w k) Q) := by
  subst hk
  unfold owing
  iintro ⟨#HR, HW, Hc, Hat, ⟨%W, HO⟩⟩ Hk
  iapply (Rounds.wp_wait_rest_token 𝒱₀ ER (Rd I) (c : Thread nD τ) none (κ := K (c, x)) hw (Set.mem_univ _) () (O := O) (W := W) (R := 0) (m := 0) (T := ∅)
      ((Nat.zero_add _).trans (expect_at I c x).symm)) $$ [HW Hc Hat HO]
  · isplitr; · iapply (inv_at I K c x); iexact HR
    isplitl [Hc]; · iexact Hc
    isplitl [HO]; · iexact HO
    isplitl [HW]; · iapply hR; iexact HW
    iexact Hat
  iintro ⟨HO, Hat, -, Hp⟩
  ihave Hp := (Entails.of_eq (rest_at I c x)) $$ Hp
  imod (Rounds.cell_close ER (Rd I) (Set.mem_univ (K (c, x))) (fun h => h) (R := 0 + 1) (duties_later I (kcell c x))) $$ [Hat] with Hz
  · isplitr; · iapply (inv_at I K c x); iexact HR
    iexact Hat
  iapply Hk
  isplitl [HO]; · iexists _; iexact HO
  isplitl [Hz] <;> iassumption

/-- A step of the reduction's transfer: the source rows and more go along with what lands. -/
theorem wp_rs (i : Fin 10) (c e : Dev nD) (he : e = px (xm i) c) {s : Shape} (src dst : Memref sig .tc .vmem s .bf16)
    (fs : Buf (Elt F) (src.view.loc (c : Thread nD τ))) (V : s.Idx → Elt F .bf16) (hV : src.view.read (Elt F) fs = V) (Rid : sProp 𝕄)
    (hN : dst.view.amount (.dma (rcv i)) = amtE i) (hi : i.val < 3)
    (hpay : iprop(owns (px (xm i) c : Thread nD τ) dst fullShare V ∗ (src.view.loc (c : Thread nD τ) ↦[src.view.set]{fullShare} fs) ∗ Rid) ⊢ rcvPay I (px (xm i) c) i)
    {O O' : CellTallies nD τ sig Unit} (hO : O = O' + tallyAt (kcell (px (xm i) c) (rK i)) () (amtE i))
    {hsc : (dst : Memref sig (Dev.tc e : Thread nD τ).2.kind .vmem s .bf16).view.ref.isScScratch = false} {hsrc : src.view.WordExact} {hdst : dst.view.WordExact}
    {hsem : DmaTarget.Typed .vmem (.dma (rcv i)) (.remote (Dev.tc e : Thread nD τ) dst (.dma (snd i)) hsc)}
    {Q : PUnit → sProp 𝕄} {k : PUnit → P F} :
    iprop(records I K ∗ (src.view.loc (c : Thread nD τ) ↦[src.view.set]{fullShare} fs) ∗ regAny (px (xm i) c) dst ∗ Rid ∗ owing c O
        ∗ dutyTok ER (kcell c (sK i)) 0 0 ∗ dutyTok ER (kcell (px (xm i) c) (rK i)) 0 0)
      ⊢ iprop(((cred (tallyAt (kcell c (sK i)) () (need (sK i))) ∗ owing c O') -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma src (.remote (Dev.tc e : Thread nD τ) dst (.dma (snd i)) hsc) (.dma (rcv i)) hsrc hdst hsem) k) Q) := by
  subst he
  unfold owing regAny
  rw [need_some]
  iintro ⟨#HR, Hs, ⟨%fd, Hd⟩, Hrid, ⟨%W, HO⟩, Ht1, Ht2⟩ Hk
  iapply (Rounds.wp_send_landing_pointsTo_with 𝒱₀ ER (Rd I) (c : Thread nD τ) none (c' := (px (xm i) c : Thread nD τ)) (κ₁ := K (c, sK i)) (κ₂ := K (px (xm i) c, rK i))
      (r₁ := 0) (r₂ := 0) (d₁ := 0) (d₂ := 0) (fs := fs) (fd := fd) (F := Rid) (q := fullShare)
      (by rw [show ((c : Thread nD τ), SemLoc.dma (snd i)) = kcell c (sK i) from rfl, duties_at]; exact Finset.mem_singleton_self _)
      (by rw [show ((px (xm i) c : Thread nD τ), SemLoc.dma (rcv i)) = kcell (px (xm i) c) (rK i) from rfl, duties_at]; exact Finset.mem_singleton_self _)
      () () (amtE i) hN (amount_at I c (sK i) 0) (amount_at I (px (xm i) c) (rK i) 0) O' hO (W := W)
      (by
        refine Entails.of_eq (Eq.trans ?_ (payload_at I c (sK i) 0).symm)
        show (iprop(emp) : sProp 𝕄) = sndPay I c i
        unfold sndPay; rw [if_pos hi])
      (by
        refine BIBase.Entails.trans ?_ (hpay.trans (Entails.of_eq (payload_at I (px (xm i) c) (rK i) 0).symm))
        iintro ⟨⟨Hd, Hr⟩, Hs⟩
        isplitl [Hd]
        · unfold owns
          iexists dst.view.write (Elt F) fd (src.view.read (Elt F) fs) Finset.univ
          isplitr
          · ipureintro; exact (View.read_write_univ _ _).trans hV
          iexact Hd
        isplitl [Hs] <;> iassumption)) $$ [Hs Hd Hrid HO Ht1 Ht2]
  · isplitr; · iapply (inv_at I K c (sK i)); iexact HR
    isplitr; · iapply (inv_at I K (px (xm i) c) (rK i)); iexact HR
    isplitl [Hs]; · iexact Hs
    isplitl [Hd Hrid]
    · isplitl [Hd] <;> iassumption
    isplitl [HO]; · iexact HO
    isplitl [Ht1]; · iexact Ht1
    isplitr; · iapply (reached_at I K c (sK i)); iexact HR
    isplitl [Ht2]; · iexact Ht2
    iapply (reached_at I K (px (xm i) c) (rK i)); iexact HR
  iintro ⟨Hc, HO⟩
  iapply Hk
  isplitl [Hc]; · iexact Hc
  iexists W; iexact HO

end Cert.KernelIdeal.Mha

end
-- ==== Proof.Steps.lean ====
/- The exchange's steps on the result and receive buffers: loads and stores of rows, a step of the reduction, a piece sent. -/
module

public import proofs.«01_k».proof.Proof.Proto

@[expose] public section

set_option maxRecDepth 16384

noncomputable section

namespace Cert.KernelIdeal.Mha

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Rows of a result buffer -/

/-- Rows of a device's result buffer that hold `V`. -/
def outIs (e : Dev nD) (a n : ℕ) (V : (⟨2, ![n, 1024]⟩ : Shape).Idx → Elt F .bf16) : sProp 𝕄 :=
  iprop(∃ f : S1024x1024.Idx → Elt F .bf16, ⌜win n a f = V⌝ ∗ outPts e (rows a n) fullShare f)

theorem outIs_any {e : Dev nD} {a n : ℕ} {V : (⟨2, ![n, 1024]⟩ : Shape).Idx → Elt F .bf16} : (outIs e a n V : sProp 𝕄) ⊢ outAny e a n := by
  unfold outIs outAny
  iintro ⟨%f, -, H⟩
  iexists f; iexact H

/-- Two neighbouring blocks of rows make one, in either order. -/
theorem rows_halves {a b b' n m : ℕ} (hm : m = n + n) (h : (b = a ∧ b' = a + n) ∨ (b' = a ∧ b = a + n)) :
    rows a m = rows b n ∪ rows b' n ∧ Disjoint (rows b n) (rows b' n) := by
  subst hm
  rcases h with ⟨rfl, rfl⟩ | ⟨rfl, rfl⟩
  · exact ⟨(rows_append _ _ _).symm, rows_disjoint (by omega)⟩
  · exact ⟨(rows_append _ _ _).symm.trans (Finset.union_comm _ _), rows_disjoint (by omega)⟩

theorem outPts_union {e : Dev nD} {S T : Finset S1024x1024.Idx} (h : Disjoint S T) (q : PosShare TreeShare) (f : S1024x1024.Idx → Elt F .bf16) :
    (outPts e (S ∪ T) q f : sProp 𝕄) ⊣⊢ iprop(outPts e S q f ∗ outPts e T q f) := pointsTo_union h

theorem outPts_congr {e : Dev nD} {S : Finset S1024x1024.Idx} {q : PosShare TreeShare} {f g : S1024x1024.Idx → Elt F .bf16} (h : ∀ i ∈ S, f i = g i) :
    (outPts e S q f : sProp 𝕄) = outPts e S q g := pointsTo_congr h

theorem outAny_split {e : Dev nD} {a b b' n m : ℕ} (hm : m = n + n) (h : (b = a ∧ b' = a + n) ∨ (b' = a ∧ b = a + n)) :
    (outAny e a m : sProp 𝕄) ⊢ iprop(outAny (F := F) e b n ∗ outAny (F := F) e b' n) := by
  obtain ⟨hu, hd⟩ := rows_halves hm h
  unfold outAny
  rw [hu]
  iintro ⟨%f, H⟩
  ihave H := (outPts_union hd fullShare f).1 $$ H
  icases H with ⟨H1, H2⟩
  isplitl [H1]
  · iexists f; iexact H1
  iexists f; iexact H2

theorem outIs_split {e : Dev nD} {a b b' : ℕ} {V : (⟨2, ![256, 1024]⟩ : Shape).Idx → Elt F .bf16}
    (h : (b = a ∧ b' = a + 128) ∨ (b' = a ∧ b = a + 128)) :
    (outIs e a 256 V : sProp 𝕄) ⊢ iprop(outIs e b 128 (sub2 (m := 256) 128 (b - a) V) ∗ outIs e b' 128 (sub2 (m := 256) 128 (b' - a) V)) := by
  obtain ⟨hu, hd⟩ := rows_halves (m := 256) rfl h
  have e1 : a + (b - a) = b := by omega
  have e2 : a + (b' - a) = b' := by omega
  have h1 : b - a + 128 ≤ 256 := by omega
  have h2 : b' - a + 128 ≤ 256 := by omega
  unfold outIs
  rw [hu]
  iintro ⟨%f, %hf, H⟩
  ihave H := (outPts_union hd fullShare f).1 $$ H
  icases H with ⟨H1, H2⟩
  isplitl [H1]
  · iexists f
    isplitr
    · ipureintro; rw [← hf, sub2_win _ _ _ _ h1, e1]
    iexact H1
  iexists f
  isplitr
  · ipureintro; rw [← hf, sub2_win _ _ _ _ h2, e2]
  iexact H2

section Acc
variable {n a : ℕ} {off : Fin 2 → ℕ} (ho : off = ![a, 0]) (h : ∀ x, off x + (⟨2, ![n, 1024]⟩ : Shape).size x ≤ S1024x1024.size x)
include ho

theorem acc_rows : bOut.view.setOn (Rect.unit (s := S1024x1024) off (⟨2, ![n, 1024]⟩ : Shape).size h).toLoadRect.set ⊆ rows a n := by
  have e : (bOut.view.slice (Rect.unit (s := S1024x1024) off (⟨2, ![n, 1024]⟩ : Shape).size h)).set = rows a n :=
    (View.set_slice_whole _ _).trans (rect_rows ho rfl h)
  exact ((View.set_slice bOut.view _).symm.trans e).subset

/-- A load of rows that hold `V`. -/
theorem wp_load_out (c : Dev nD) (V : (⟨2, ![n, 1024]⟩ : Shape).Idx → Elt F .bf16) {Q : PUnit → sProp 𝕄} {hl}
    {k : ((⟨2, ![n, 1024]⟩ : Shape).Idx → Elt F .bf16) → P F} :
    (outIs c a n V : sProp 𝕄)
      ⊢ iprop((outIs c a n V -∗ wp frame (wpE (defs₀ (F := F)) 𝒱₀ (c : Thread nD τ) none) Set.univ (k V) Q)
        -∗ wp frame (wpE (defs₀ (F := F)) 𝒱₀ (c : Thread nD τ) none) Set.univ
          (.op (.load bOut (Rect.unit (s := S1024x1024) off (⟨2, ![n, 1024]⟩ : Shape).size h).toLoadRect hl) k) Q) := by
  unfold outIs outPts
  iintro ⟨%f, %hf, H⟩ Hk
  iapply (wp_load 𝒱₀ (c : Thread nD τ) none Set.univ (m := bOut) (acc_rows ho h)) $$ H; iintro H
  rw [read_out ho h, hf]
  iapply Hk
  iexists f
  isplitr; · ipureintro; exact hf
  iexact H

/-- A load of rows whose value is not used. -/
theorem wp_peek_out (c : Dev nD) {Q : PUnit → sProp 𝕄} {hl} {k : P F} :
    (outAny c a n : sProp 𝕄)
      ⊢ iprop((outAny (F := F) c a n -∗ wp frame (wpE (defs₀ (F := F)) 𝒱₀ (c : Thread nD τ) none) Set.univ k Q)
        -∗ wp frame (wpE (defs₀ (F := F)) 𝒱₀ (c : Thread nD τ) none) Set.univ
          (.op (.load bOut (Rect.unit (s := S1024x1024) off (⟨2, ![n, 1024]⟩ : Shape).size h).toLoadRect hl) fun _ => k) Q) := by
  unfold outAny outPts
  iintro ⟨%f, H⟩ Hk
  iapply (wp_load 𝒱₀ (c : Thread nD τ) none Set.univ (m := bOut) (acc_rows ho h)) $$ H; iintro H
  iapply Hk
  iexists f; iexact H

/-- A store of rows. -/
theorem wp_store_out (c : Dev nD) (w : (⟨2, ![n, 1024]⟩ : Shape).Idx → Elt F .bf16) {Q : PUnit → sProp 𝕄} {hx hm} {k : P F} :
    (outAny c a n : sProp 𝕄)
      ⊢ iprop((outIs c a n w -∗ wp frame (wpE (defs₀ (F := F)) 𝒱₀ (c : Thread nD τ) none) Set.univ k Q)
        -∗ wp frame (wpE (defs₀ (F := F)) 𝒱₀ (c : Thread nD τ) none) Set.univ
          (.op (.store bOut (Rect.unit (s := S1024x1024) off (⟨2, ![n, 1024]⟩ : Shape).size h) w Finset.univ hx hm) fun _ => k) Q) := by
  unfold outAny outIs outPts
  iintro ⟨%f, H⟩ Hk
  iapply (wp_store 𝒱₀ (c : Thread nD τ) none Set.univ (m := bOut) (r := Rect.unit (s := S1024x1024) off (⟨2, ![n, 1024]⟩ : Shape).size h) (Mk := Finset.univ)
    (((View.set_slice_whole _ _).trans (rect_rows ho rfl h)).subset)) $$ H; iintro H
  iapply Hk
  iexists _
  isplitr
  · ipureintro; exact win_store ho h f w
  iexact H

/-- A load of rows of the heads' outputs that are all there. -/
theorem wp_load_a (I : Ins F) (c : Dev nD) (m : ℕ) (ha : a + n ≤ 1024)
    (hp : ∀ r, a ≤ r → r < a + n → 8 * place c (r / 256) + 8 ≤ m) {Q : PUnit → sProp 𝕄} {hl} {k : ((⟨2, ![n, 1024]⟩ : Shape).Idx → Elt F .bf16) → P F} :
    (headSt I c m : sProp 𝕄)
      ⊢ iprop((headSt I c m -∗ wp frame (wpE (defs₀ (F := F)) 𝒱₀ (c : Thread nD τ) none) Set.univ (k (win n a (attn I c))) Q)
        -∗ wp frame (wpE (defs₀ (F := F)) 𝒱₀ (c : Thread nD τ) none) Set.univ
          (.op (.load bA (Rect.unit (s := S1024x1024) off (⟨2, ![n, 1024]⟩ : Shape).size h).toLoadRect hl) k) Q) := by
  unfold headSt
  iintro ⟨Hks, Hvs, HQ, ⟨%f, %hf, HA⟩⟩ Hk
  iapply (wp_load 𝒱₀ (c : Thread nD τ) none Set.univ (m := bA) (Finset.subset_univ _)) $$ HA; iintro HA
  rw [read_a ho h, win_heads I c f hf ha hp]
  iapply Hk
  isplitl [Hks]; · iexact Hks
  isplitl [Hvs]; · iexact Hvs
  isplitl [HQ]; · iexact HQ
  iexists f
  isplitr; · ipureintro; exact hf
  iexact HA

end Acc

/-- A load of some of the rows of a region that holds `V`. -/
theorem wp_load_reg {s o o' m n : ℕ} [NeZero m] (hm : o' + n ≤ m) {off : Fin 3 → ℕ} (ho : off = ![s, o + o', 0])
    (h : ∀ x, off x + (⟨3, ![1, n, 1024]⟩ : Shape).size x ≤ S2x512x1024.size x)
    (h1 : ∀ x, (![s, o, 0] : Fin 3 → ℕ) x + (⟨3, ![1, m, 1024]⟩ : Shape).size x ≤ S2x512x1024.size x) (hr)
    (hq : (⟨3, ![1, m, 1024]⟩ : Shape).Squeezes ⟨2, ![m, 1024]⟩) (c : Dev nD) (V : (⟨2, ![m, 1024]⟩ : Shape).Idx → Elt F .bf16)
    {Q : PUnit → sProp 𝕄} {hl} {k : ((⟨3, ![1, n, 1024]⟩ : Shape).Idx → Elt F .bf16) → P F} :
    (owns (c : Thread nD τ) ((bR.slice (Rect.unit (s := S2x512x1024) ![s, o, 0] (⟨3, ![1, m, 1024]⟩ : Shape).size h1) hr).squeeze ⟨2, ![m, 1024]⟩ hq) fullShare V : sProp 𝕄)
      ⊢ iprop((owns (c : Thread nD τ) ((bR.slice (Rect.unit (s := S2x512x1024) ![s, o, 0] (⟨3, ![1, m, 1024]⟩ : Shape).size h1) hr).squeeze ⟨2, ![m, 1024]⟩ hq) fullShare V
          -∗ wp frame (wpE (defs₀ (F := F)) 𝒱₀ (c : Thread nD τ) none) Set.univ (k (sub3 (m := m) n o' V)) Q)
        -∗ wp frame (wpE (defs₀ (F := F)) 𝒱₀ (c : Thread nD τ) none) Set.univ
          (.op (.load bR (Rect.unit (s := S2x512x1024) off (⟨3, ![1, n, 1024]⟩ : Shape).size h).toLoadRect hl) k) Q) := by
  have hsub : bR.view.setOn (Rect.unit (s := S2x512x1024) off (⟨3, ![1, n, 1024]⟩ : Shape).size h).toLoadRect.set
      ⊆ ((bR.slice (Rect.unit (s := S2x512x1024) ![s, o, 0] (⟨3, ![1, m, 1024]⟩ : Shape).size h1) hr).squeeze ⟨2, ![m, 1024]⟩ hq).view.set := by
    have e : (bR.view.slice (Rect.unit (s := S2x512x1024) off (⟨3, ![1, n, 1024]⟩ : Shape).size h)).set = (Rect.unit (s := S2x512x1024) off (⟨3, ![1, n, 1024]⟩ : Shape).size h).set :=
      View.set_slice_whole _ _
    refine ((View.set_slice bR.view _).symm.trans e).subset.trans ?_
    refine Finset.Subset.trans (fun i hi => ?_) ((View.set_reshape _ _).trans (View.set_slice_whole _ _)).symm.subset
    rw [mem_rect3 ho rfl] at hi
    rw [mem_rect3 rfl rfl]
    omega
  unfold owns
  iintro ⟨%f, %hf, H⟩ Hk
  iapply (wp_load 𝒱₀ (c : Thread nD τ) none Set.univ (m := bR) hsub) $$ H; iintro H
  rw [read_reg hm ho h h1 hr hq, hf]
  iapply Hk
  iexists f
  isplitr; · ipureintro; exact hf
  iexact H

variable (I : Ins F) (K : Dev nD × CI → ℕ)

/-- A step of the reduction's transfer, from rows of the result that hold `V`. -/
theorem wp_rs_out (i : Fin 10) (c e : Dev nD) (he : e = px (xm i) c) {n a : ℕ} {off : Fin 2 → ℕ} (ho : off = ![a, 0])
    (h : ∀ x, off x + (⟨2, ![n, 1024]⟩ : Shape).size x ≤ S1024x1024.size x) (hr)
    (dst : Memref sig .tc .vmem (⟨2, ![n, 1024]⟩ : Shape) .bf16) (V : (⟨2, ![n, 1024]⟩ : Shape).Idx → Elt F .bf16) (Rid : sProp 𝕄)
    (hN : dst.view.amount (.dma (rcv i)) = amtE i) (hi : i.val < 3)
    (hpay : iprop(owns (px (xm i) c : Thread nD τ) dst fullShare V ∗ outAny (F := F) c a n ∗ Rid) ⊢ rcvPay I (px (xm i) c) i)
    {O O' : CellTallies nD τ sig Unit} (hO : O = O' + tallyAt (kcell (px (xm i) c) (rK i)) () (amtE i))
    {hsc : (dst : Memref sig (Dev.tc e : Thread nD τ).2.kind .vmem (⟨2, ![n, 1024]⟩ : Shape) .bf16).view.ref.isScScratch = false} {hsrc} {hdst : dst.view.WordExact}
    {hsem : DmaTarget.Typed .vmem (.dma (rcv i)) (.remote (Dev.tc e : Thread nD τ) dst (.dma (snd i)) hsc)}
    {Q : PUnit → sProp 𝕄} {k : PUnit → P F} :
    iprop(records I K ∗ outIs c a n V ∗ regAny (px (xm i) c) dst ∗ Rid ∗ owing c O
        ∗ dutyTok ER (kcell c (sK i)) 0 0 ∗ dutyTok ER (kcell (px (xm i) c) (rK i)) 0 0)
      ⊢ iprop(((cred (tallyAt (kcell c (sK i)) () (need (sK i))) ∗ owing c O') -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (bOut.slice (Rect.unit (s := S1024x1024) off (⟨2, ![n, 1024]⟩ : Shape).size h) hr) (.remote (Dev.tc e : Thread nD τ) dst (.dma (snd i)) hsc) (.dma (rcv i)) hsrc hdst hsem) k) Q) := by
  have hset : (bOut.slice (Rect.unit (s := S1024x1024) off (⟨2, ![n, 1024]⟩ : Shape).size h) hr).view.set = rows a n :=
    (View.set_slice_whole _ _).trans (rect_rows ho rfl h)
  have hpts : ∀ f : S1024x1024.Idx → Elt F .bf16, (outPts c (rows a n) fullShare f : sProp 𝕄)
      = ((bOut.slice (Rect.unit (s := S1024x1024) off (⟨2, ![n, 1024]⟩ : Shape).size h) hr).view.loc (c : Thread nD τ)
        ↦[(bOut.slice (Rect.unit (s := S1024x1024) off (⟨2, ![n, 1024]⟩ : Shape).size h) hr).view.set]{fullShare} f) := fun f => by
    rw [hset]; rfl
  unfold outIs
  iintro ⟨#HR, ⟨%f, %hf, H⟩, Hd, Hrid, HO, Ht1, Ht2⟩ Hk
  ihave H := (Entails.of_eq (hpts f)) $$ H
  iapply (wp_rs I K i c e he (bOut.slice (Rect.unit (s := S1024x1024) off (⟨2, ![n, 1024]⟩ : Shape).size h) hr) dst f V ((read_sent ho h hr f).trans hf) Rid hN hi
    (by
      refine BIBase.Entails.trans ?_ hpay
      rw [← hpts f]
      unfold outAny
      iintro ⟨Ho, Hs, Hr⟩
      isplitl [Ho]; · iexact Ho
      isplitl [Hs]; · iexists f; iexact Hs
      iexact Hr) hO) $$ [H Hd Hrid HO Ht1 Ht2]
  · isplitr; · iexact HR
    isplitl [H]; · iexact H
    isplitl [Hd]; · iexact Hd
    isplitl [Hrid]; · iexact Hrid
    isplitl [HO]; · iexact HO
    isplitl [Ht1] <;> iassumption
  iexact Hk

/-- Send the device's piece of the sum: into the partner's rows, from a share of its own. -/
theorem wp_ag (i : Fin 10) (hi : 3 ≤ i.val) (c e : Dev nD) (he : e = px (xm i) c)
    {O O' : CellTallies nD τ sig Unit} (hO : O = O' + tallyAt (kcell (px (xm i) c) (rK i)) () (amtE i)) {Q : PUnit → sProp 𝕄} {k : P F} :
    iprop(records I K ∗ outPts c (rows (a3 c) 128) (Transfers.shareTokN fullShare (i.val - 3)) (total I) ∗ outAny (px (xm i) c) (a3 c) 128
        ∗ dutyTok ER (kcell c (sK i)) 0 0 ∗ dutyTok ER (kcell (px (xm i) c) (rK i)) 0 0 ∗ owing c O)
      ⊢ iprop(((cred (tallyAt (kcell c (sK i)) () (need (sK i))) ∗ owing c O') -∗ wp frame (wpE (defs₀ (F := F)) 𝒱₀ (c : Thread nD τ) none) Set.univ k Q)
        -∗ wp frame (wpE (defs₀ (F := F)) 𝒱₀ (c : Thread nD τ) none) Set.univ (agSend c e i k) Q) := by
  subst he
  have hpts : ∀ (d : Dev nD) (q : PosShare TreeShare) (f : S1024x1024.Idx → Elt F .bf16),
      (outPts d (rows (a3 c) 128) q f : sProp 𝕄) = ((oM74 c).view.loc (d : Thread nD τ) ↦[(oM74 c).view.set]{q} f) := fun d q f => by
    rw [oM74_set]; rfl
  have hamt : amtE i = rM2.view.dmaCredit := by unfold amtE; rw [if_neg (by omega), if_neg (by omega)]
  unfold agSend owing outAny
  rw [need_some]
  iintro ⟨#HR, Hs, ⟨%fd, Hd⟩, Ht1, Ht2, ⟨%W, HO⟩⟩ Hk
  ihave Hs := (Entails.of_eq (hpts c _ (total I))) $$ Hs
  ihave Hd := (Entails.of_eq (hpts (px (xm i) c) fullShare fd)) $$ Hd
  iapply (Rounds.wp_send_pointsTo 𝒱₀ ER (Rd I) (c : Thread nD τ) none (c' := (px (xm i) c : Thread nD τ)) (src := oM74 c) (dst := oM74 c) (κ₁ := K (c, sK i)) (κ₂ := K (px (xm i) c, rK i))
      (r₁ := 0) (r₂ := 0) (d₁ := 0) (d₂ := 0) (fs := total I) (fd := fd) (q := Transfers.shareTokN fullShare (i.val - 3))
      (by rw [show ((c : Thread nD τ), SemLoc.dma (snd i)) = kcell c (sK i) from rfl, duties_at]; exact Finset.mem_singleton_self _)
      (by rw [show ((px (xm i) c : Thread nD τ), SemLoc.dma (rcv i)) = kcell (px (xm i) c) (rK i) from rfl, duties_at]; exact Finset.mem_singleton_self _)
      () () (amtE i) (show (oM74 c).view.amount (.dma (rcv i)) = amtE i from hamt.symm) (amount_at I c (sK i) 0) (amount_at I (px (xm i) c) (rK i) 0) O' hO (W := W)
      (by
        refine Entails.of_eq (Eq.trans ?_ (payload_at I c (sK i) 0).symm)
        refine (hpts c _ (total I)).symm.trans ?_
        show _ = sndPay I c i
        unfold sndPay; rw [if_neg (by omega)])
      (by
        refine Entails.of_eq (Eq.trans ?_ (payload_at I (px (xm i) c) (rK i) 0).symm)
        refine Eq.trans (b := outPts (px (xm i) c) (rows (a3 c) 128) fullShare (total I)) ?_ ?_
        · rw [hpts]
          refine pointsTo_congr fun j hj => ?_
          refine (congrFun (View.write_read_eq_piecewise (v := (oM74 c).view) (Val := Elt F) fd (total I) Finset.univ) j).trans ?_
          exact Finset.piecewise_eq_of_mem _ _ _ hj
        · show _ = rcvPay I (px (xm i) c) i
          unfold rcvPay; rw [if_neg (by omega), if_neg (by omega), if_neg (by omega), px_px])) $$ [Hs Hd HO Ht1 Ht2]
  · isplitr; · iapply (inv_at I K c (sK i)); iexact HR
    isplitr; · iapply (inv_at I K (px (xm i) c) (rK i)); iexact HR
    isplitl [Hs]; · iexact Hs
    isplitl [Hd]; · iexact Hd
    isplitl [HO]; · iexact HO
    isplitl [Ht1]; · iexact Ht1
    isplitr; · iapply (reached_at I K c (sK i)); iexact HR
    isplitl [Ht2]; · iexact Ht2
    iapply (reached_at I K (px (xm i) c) (rK i)); iexact HR
  iintro ⟨Hc, HO⟩
  iapply Hk
  isplitl [Hc]; · iexact Hc
  iexists W; iexact HO

end Cert.KernelIdeal.Mha

end
-- ==== Proof.Phases.lean ====
/- The barrier and the first two steps of the reduction, run on one device. -/
module

public import proofs.«01_k».proof.Proof.Steps

@[expose] public section

set_option maxRecDepth 16384

noncomputable section

namespace Cert.KernelIdeal.Mha

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Where the rows lie -/

theorem half1 : ∀ c : Dev nD, (a1 (px 4 c) = 0 ∧ a1 c = 0 + 512) ∨ (a1 c = 0 ∧ a1 (px 4 c) = 0 + 512) := by decide +kernel
theorem half2 : ∀ c : Dev nD, (a2 (px 3 c) = a1 c ∧ a2 c = a1 c + 256) ∨ (a2 c = a1 c ∧ a2 (px 3 c) = a1 c + 256) := by decide +kernel
theorem half3 : ∀ c : Dev nD, (a3 (px 1 c) = a2 c ∧ a3 c = a2 c + 128) ∨ (a3 c = a2 c ∧ a3 (px 1 c) = a2 c + 128) := by decide +kernel
theorem a1_le : ∀ c : Dev nD, a1 c + 512 ≤ 1024 := by decide +kernel
theorem a2_le : ∀ c : Dev nD, a2 c + 256 ≤ 1024 := by decide +kernel
theorem px_7_3 : ∀ c : Dev nD, px 7 (px 3 c) = px 4 c := by decide +kernel
theorem px_2_1 : ∀ c : Dev nD, px 2 (px 1 c) = px 3 c := by decide +kernel
theorem px_6_1 : ∀ c : Dev nD, px 6 (px 1 c) = px 7 c := by decide +kernel
theorem px_5_1 : ∀ c : Dev nD, px 5 (px 1 c) = px 4 c := by decide +kernel

theorem place1' : ∀ (c : Dev nD) (b : Fin 4), a1 (px 4 c) < 256 * b.val + 256 → 256 * b.val < a1 (px 4 c) + 512 → place c b.val ≤ 1 := by decide +kernel
theorem place2' : ∀ (c : Dev nD) (b : Fin 4), a2 (px 3 c) < 256 * b.val + 256 → 256 * b.val < a2 (px 3 c) + 256 → place c b.val ≤ 2 := by decide +kernel
theorem heads1 (c : Dev nD) (r : ℕ) (h1 : a1 (px 4 c) ≤ r) (h2 : r < a1 (px 4 c) + 512) : 8 * place c (r / 256) + 8 ≤ 16 := by
  have := a1_le (px 4 c)
  have : place c (r / 256) ≤ 1 := place1' c ⟨r / 256, by omega⟩ (by show _ < 256 * (r / 256) + 256; omega) (by show 256 * (r / 256) < _; omega)
  omega
theorem heads2 (c : Dev nD) (r : ℕ) (h1 : a2 (px 3 c) ≤ r) (h2 : r < a2 (px 3 c) + 256) : 8 * place c (r / 256) + 8 ≤ 24 := by
  have := a2_le (px 3 c)
  have : place c (r / 256) ≤ 2 := place2' c ⟨r / 256, by omega⟩ (by show _ < 256 * (r / 256) + 256; omega) (by show 256 * (r / 256) < _; omega)
  omega
theorem heads3 (c : Dev nD) (r : ℕ) (h1 : a2 c ≤ r) (h2 : r < a2 c + 256) : 8 * place c (r / 256) + 8 ≤ 32 := by
  have := place_lt c (r / 256)
  omega

/-! ## What a device brings to an entry -/

variable (I : Ins F) (K : Dev nD × CI → ℕ)

/-- The two tokens of a transfer the device makes on entry `i`. -/
def toks (c : Dev nD) (i : Fin 10) : sProp 𝕄 :=
  iprop(dutyTok ER (kcell c (sK i)) 0 (0 : Fin 3) ∗ dutyTok ER (kcell (px (xm i) c) (rK i)) 0 (0 : Fin 3))
/-- The device's place at a cell. -/
def place0 (c : Dev nD) (x : CI) : sProp 𝕄 := atPos ER (kcell c x) 0 (∅ : Finset (Fin 3)) 0
/-- What will have been paid to it. -/
def paid (c : Dev nD) (x : CI) : sProp 𝕄 := cred (tallyAt (kcell c x) () (need x))
/-- A cell closed at zero. -/
def closed (c : Dev nD) (x : CI) : sProp 𝕄 := semVal (kcell c x) 0

/-- The wait on an entry of the exchange. -/
theorem wp_entry (c : Dev nD) (b : Bool) (i : Fin 10) (sem : DmaSem sig) (hs : csem (some (b, i)) = .dma sem) {sp sp' : Space} {s s' : Shape} {e e' : EltTy}
    {src : Memref sig .tc sp' s' e'} {dst : Memref sig .tc sp s e} {hsrc hdst} (hk : dst.view.dmaCredit = amtE i)
    (l : List (Fin 8 × CI)) (hl : ∀ p ∈ l, lvl (some (b, i)) < lvl p.2)
    {Q : PUnit → sProp 𝕄} {k : P F} :
    iprop(records I K ∗ levAts L lv ∗ paid c (some (b, i)) ∗ place0 c (some (b, i)) ∗ owing c (oweL c l))
      ⊢ iprop(((owing c (oweL c l) ∗ closed c (some (b, i)) ∗ pay I c (some (b, i)) 0)
          -∗ wp frame (wpE (defs₀ (F := F)) 𝒱₀ (c : Thread nD τ) none) Set.univ k Q)
        -∗ wp frame (wpE (defs₀ (F := F)) 𝒱₀ (c : Thread nD τ) none) Set.univ (.op (.waitDma2 sem src dst hsrc hdst) fun _ => k) Q) := by
  unfold paid place0 closed
  rw [← rest_some I c (b, i)]
  exact wp_wait I K c (some (b, i)) (w := .waitDma2 sem src dst hsrc hdst) (Q := Q) (k := fun _ => k) (fun Kt => (wpE_waitDma2_eq 𝒱₀ (c : Thread nD τ) none Set.univ Kt).trans (by rw [hs])) (hk.trans (need_some (b, i)).symm)
    (mayWait c (csem (some (b, i))) l (fun p hp => by rw [lvS_csem]; exact hl p hp))

/-! ## The barrier -/

/-- The barrier's own side: three tokens at the partners', and what is due here. -/
def barKit (c : Dev nD) : sProp 𝕄 :=
  iprop((dutyTok ER (kcell (px 1 c) none) 0 (0 : Fin 3) ∗ dutyTok ER (kcell (px 3 c) none) 0 (1 : Fin 3) ∗ dutyTok ER (kcell (px 4 c) none) 0 (2 : Fin 3))
    ∗ paid (F := F) c none ∗ place0 (F := F) c none)

theorem barPay0 (c : Dev nD) : (barPay (px (xb 0) c) 0 : sProp 𝕄) = regAny c rM2 := by
  show (regAny (px 1 (px 1 c)) rM2 : sProp 𝕄) = _
  rw [px_px]
theorem barPay1 (c : Dev nD) : (barPay (px (xb 1) c) 1 : sProp 𝕄) = regAny c rM1 := by
  show (regAny (px 3 (px 3 c)) rM1 : sProp 𝕄) = _
  rw [px_px]
theorem barPay2 (c : Dev nD) : (barPay (px (xb 2) c) 2 : sProp 𝕄) = regAny c rM0 := by
  show (regAny (px 4 (px 4 c)) rM0 : sProp 𝕄) = _
  rw [px_px]

/-- The barrier: the device's own regions go out, the partners' come in. -/
theorem wp_barrier (c : Dev nD) {Q : PUnit → sProp 𝕄} {k : P F} :
    iprop(records I K ∗ levAts L lv ∗ barKit c ∗ (regAny c rM0 ∗ regAny c rM1 ∗ regAny c rM2) ∗ owing c (owe c 0))
      ⊢ iprop(((owing c (owe c 3) ∗ closed c none ∗ regAny (px 1 c) rM2 ∗ regAny (px 3 c) rM1 ∗ regAny (px 4 c) rM0)
          -∗ wp frame (wpE (defs₀ (F := F)) 𝒱₀ (c : Thread nD τ) none) Set.univ k Q)
        -∗ wp frame (wpE (defs₀ (F := F)) 𝒱₀ (c : Thread nD τ) none) Set.univ
          (tell ⟨k0_dev1 c, k0_dev1_lt c⟩ <| tell ⟨k0_dev2 c, k0_dev2_lt c⟩ <| tell ⟨k0_dev3 c, k0_dev3_lt c⟩ <|
            .op (.semWait barS (3#32 : BitVec 32).toInt) fun _ => k) Q) := by
  unfold barKit paid place0 closed
  iintro ⟨#HR, #HL, ⟨⟨Ht1, Ht3, Ht4⟩, Hc, Hat⟩, ⟨Hr0, Hr1, Hr2⟩, HO⟩ Hk
  iapply (wp_tell I K 0 c _ (dev1_eq c) (O := owe c 0) (O' := owe c 1) rfl) $$ [HO Ht1 Hr2]
  · isplitr; · iexact HR
    isplitl [HO]; · iexact HO
    isplitl [Ht1]; · iexact Ht1
    iapply (Entails.of_eq (barPay0 c).symm); iexact Hr2
  iintro HO
  iapply (wp_tell I K 1 c _ (dev2_eq c) (O := owe c 1) (O' := owe c 2) rfl) $$ [HO Ht3 Hr1]
  · isplitr; · iexact HR
    isplitl [HO]; · iexact HO
    isplitl [Ht3]; · iexact Ht3
    iapply (Entails.of_eq (barPay1 c).symm); iexact Hr1
  iintro HO
  iapply (wp_tell I K 2 c _ (dev3_eq c) (O := owe c 2) (O' := owe c 3) rfl) $$ [HO Ht4 Hr0]
  · isplitr; · iexact HR
    isplitl [HO]; · iexact HO
    isplitl [Ht4]; · iexact Ht4
    iapply (Entails.of_eq (barPay2 c).symm); iexact Hr0
  iintro HO
  iapply (wp_wait I K c none (fun Kt => wpE_semWait_eq 𝒱₀ (c : Thread nD τ) none Set.univ Kt) (by decide) (O := owe c 3)
    (mayWait c (csem none) (dueT.drop 3) (by rw [lvS_csem]; decide))) $$ [HO Hc Hat]
  · isplitr; · iexact HR
    isplitr; · iexact HL
    isplitl [Hc]; · iexact Hc
    isplitl [Hat] <;> iassumption
  iintro ⟨HO, Hz, Hp⟩
  ihave Hp := (Entails.of_eq (rest_none I c)) $$ Hp
  iapply Hk
  isplitl [HO]; · iexact HO
  isplitl [Hz] <;> iassumption

/-! ## The first step of the reduction -/

theorem wp_first (c : Dev nD) {Q : PUnit → sProp 𝕄} {k : P F} :
    iprop(records I K ∗ headSt I c 16 ∗ outAny c (a1 (px 4 c)) 512 ∗ regAny (px 4 c) rM0 ∗ owing c (owe c 3) ∗ toks c 0)
      ⊢ iprop(((headSt I c 16 ∗ paid c (sK 0) ∗ owing c (owe c 4)) -∗ wp frame (wpE (defs₀ (F := F)) 𝒱₀ (c : Thread nD τ) none) Set.univ k Q)
        -∗ wp frame (wpE (defs₀ (F := F)) 𝒱₀ (c : Thread nD τ) none) Set.univ (first c (wos I c) k) Q) := by
  unfold first toks paid
  iintro ⟨#HR, HH, Ho, Hd, HO, Ht⟩ Hk
  iapply (wp_load_a (n := 512) (off36_eq c) (k0_off36_inb c) I c 16 (a1_le (px 4 c)) (heads1 c)) $$ HH; iintro HH
  iapply (wp_peek_out (n := 512) (off36_eq c) (k0_off36_inb c) c) $$ Ho; iintro Ho
  iapply (wp_store_out (n := 512) (off36_eq c) (k0_off36_inb c) c (v1 I c)) $$ Ho; iintro Ho
  iapply (wp_rs_out I K 0 c _ (dev4_eq c) (n := 512) (off37_eq c) (k0_off37_inb c) (fun _ => rfl) rM0 (v1 I c) iprop(emp) rfl (by decide)
    (by
      show _ ⊢ rsPay0 I (px 4 c)
      unfold rsPay0
      rw [px_px]
      iintro ⟨Ho, Hs, -⟩
      isplitl [Ho]; · iexact Ho
      iexact Hs) (O := owe c 3) (O' := owe c 4) rfl) $$ [Ho Hd HO Ht]
  · isplitr; · iexact HR
    isplitl [Ho]; · iexact Ho
    isplitl [Hd]; · iexact Hd
    isplitr; · iempintro
    isplitl [HO]; · iexact HO
    iexact Ht
  iintro ⟨Hc, HO⟩
  iapply Hk
  isplitl [HH]; · iexact HH
  isplitl [Hc] <;> iassumption

/-! ## The second step -/

theorem wp_second (c : Dev nD) {Q : PUnit → sProp 𝕄} {k : P F} :
    iprop(records I K ∗ levAts L lv ∗ headSt I c 24 ∗ outAny c (a2 (px 3 c)) 256 ∗ regAny (px 3 c) rM1 ∗ owing c (owe c 4) ∗ toks c 1
        ∗ paid c (rK 0) ∗ place0 c (rK 0))
      ⊢ iprop(((headSt I c 24 ∗ paid c (sK 1) ∗ owing c (owe c 5) ∗ closed c (rK 0) ∗ owns (c : Thread nD τ) rM0 fullShare (v1 I (px 4 c))
            ∗ outAny (px 4 c) (a2 c) 256) -∗ wp frame (wpE (defs₀ (F := F)) 𝒱₀ (c : Thread nD τ) none) Set.univ k Q)
        -∗ wp frame (wpE (defs₀ (F := F)) 𝒱₀ (c : Thread nD τ) none) Set.univ (second c (wos I c) k) Q) := by
  unfold second toks
  iintro ⟨#HR, #HL, HH, Ho, Hd, HO, Ht, Hc, Hat⟩ Hk
  iapply (wp_load_a (n := 256) (off54_eq c) (k0_off54_inb c) I c 24 (a2_le (px 3 c)) (heads2 c)) $$ HH; iintro HH
  iapply (wp_peek_out (n := 256) (off54_eq c) (k0_off54_inb c) c) $$ Ho; iintro Ho
  iapply (wp_store_out (n := 256) (off54_eq c) (k0_off54_inb c) c (v2 I c)) $$ Ho; iintro Ho
  iapply (wp_entry I K c true 0 (rcv 0) rfl rfl (dueT.drop 4) (by decide)) $$ [HO Hc Hat]
  · isplitr; · iexact HR
    isplitr; · iexact HL
    isplitl [Hc]; · iexact Hc
    isplitl [Hat] <;> iassumption
  iintro ⟨HO, Hz, Hp⟩
  ihave Hp := (show (pay I c (some (true, 0)) 0 : sProp 𝕄) ⊢ rsPay0 I c from Entails.rfl) $$ Hp
  unfold rsPay0
  icases Hp with ⟨Hr, Hx⟩
  ihave Hx := (outAny_split (F := F) (e := px 4 c) (m := 512) rfl (half2 c)) $$ Hx
  icases Hx with ⟨Hx1, Hx2⟩
  iapply (wp_load_out (n := 256) (off54_eq c) (k0_off54_inb c) c (v2 I c)) $$ Ho; iintro Ho
  iapply (wp_load_reg (s := 0) (o := 0) (o' := a2 (px 3 c) - a1 c) (m := 512) (n := 256) (by have := half2 c; omega) ((off55_eq c).trans (by rw [Nat.zero_add])) (k0_off55_inb c)
    inb_S2x512x1024_S1x512x1024_0_0_0 (fun _ => rfl) squeezes_S1x512x1024_S512x1024 c (v1 I (px 4 c))) $$ Hr; iintro Hr
  ihave Ho := (outIs_any (F := F)) $$ Ho
  iapply (wp_peek_out (n := 256) (off54_eq c) (k0_off54_inb c) c) $$ Ho; iintro Ho
  iapply (wp_store_out (n := 256) (off54_eq c) (k0_off54_inb c) c (v2' I c)) $$ Ho; iintro Ho
  iapply (wp_rs_out I K 1 c _ (dev5_eq c) (n := 256) (off56_eq c) (k0_off56_inb c) (fun _ => rfl) rM1 (v2' I c) iprop(outAny (px 4 c) (a2 (px 3 c)) 256) rfl (by decide)
    (by
      show _ ⊢ rsPay1 I (px 3 c)
      unfold rsPay1
      rw [px_px, px_7_3]
      exact BIBase.Entails.rfl) (O := owe c 4) (O' := owe c 5) rfl) $$ [Ho Hd HO Ht Hx1]
  · isplitr; · iexact HR
    isplitl [Ho]; · iexact Ho
    isplitl [Hd]; · iexact Hd
    isplitl [Hx1]; · iexact Hx1
    isplitl [HO] <;> iassumption
  iintro ⟨Hc, HO⟩
  iapply Hk
  isplitl [HH]; · iexact HH
  isplitl [Hc]; · unfold paid; iexact Hc
  isplitl [HO]; · iexact HO
  isplitl [Hz]; · iexact Hz
  isplitl [Hr] <;> iassumption

end Cert.KernelIdeal.Mha

end
-- ==== Proof.Gather.lean ====
/- The third step of the reduction and the exchange of the pieces, run on one device. -/
module

public import proofs.«01_k».proof.Proof.Phases

@[expose] public section

set_option maxRecDepth 16384

noncomputable section

namespace Cert.KernelIdeal.Mha

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CI → ℕ)

/-! ## The third step -/

/-- The device's piece on the seven others, to be filled. -/
def away (c : Dev nD) : sProp 𝕄 :=
  iprop(outAny (px 1 c) (a3 c) 128 ∗ outAny (px 2 c) (a3 c) 128 ∗ outAny (px 3 c) (a3 c) 128 ∗ outAny (px 4 c) (a3 c) 128
    ∗ outAny (px 5 c) (a3 c) 128 ∗ outAny (px 6 c) (a3 c) 128 ∗ outAny (F := F) (px 7 c) (a3 c) 128)

/-- The regions of the receive buffer, as the reduction leaves them. -/
def got (c : Dev nD) : sProp 𝕄 :=
  iprop(owns (c : Thread nD τ) rM0 fullShare (v1 I (px 4 c)) ∗ owns (c : Thread nD τ) rM1 fullShare (v2' I (px 3 c)) ∗ owns (c : Thread nD τ) rM2 fullShare (s3 I (px 1 c)))

theorem wp_third (c : Dev nD) {Q : PUnit → sProp 𝕄} :
    iprop(records I K ∗ levAts L lv ∗ headSt I c 32 ∗ outAny c (a2 c) 256 ∗ regAny (px 1 c) rM2 ∗ owing c (owe c 5) ∗ toks c 2
        ∗ (paid c (rK 1) ∗ place0 c (rK 1)) ∗ (paid c (rK 2) ∗ place0 c (rK 2)) ∗ owns (c : Thread nD τ) rM0 fullShare (v1 I (px 4 c)) ∗ outAny (px 4 c) (a2 c) 256)
      ⊢ iprop(((headSt I c 32 ∗ paid c (sK 2) ∗ owing c (owe c 6) ∗ closed c (rK 1) ∗ closed c (rK 2) ∗ got I c ∗ outIs c (a3 c) 128 (v4 I c) ∗ away c)
          -∗ wp frame (wpE (defs₀ (F := F)) 𝒱₀ (c : Thread nD τ) none) Set.univ (gatherProg c) Q)
        -∗ wp frame (wpE (defs₀ (F := F)) 𝒱₀ (c : Thread nD τ) none) Set.univ (third c (wos I c)) Q) := by
  unfold third toks
  iintro ⟨#HR, #HL, HH, Ho, Hd, HO, Ht, ⟨Hc1, Hat1⟩, ⟨Hc2, Hat2⟩, Hr0, Hx4⟩ Hk
  iapply (wp_load_a (n := 256) (off70_eq c) (k0_off70_inb c) I c 32 (a2_le c) (heads3 c)) $$ HH; iintro HH
  iapply (wp_peek_out (n := 256) (off70_eq c) (k0_off70_inb c) c) $$ Ho; iintro Ho
  iapply (wp_store_out (n := 256) (off70_eq c) (k0_off70_inb c) c (v3 I c)) $$ Ho; iintro Ho
  iapply (wp_entry I K c true 1 (rcv 1) rfl rfl (dueT.drop 5) (by decide)) $$ [HO Hc1 Hat1]
  · isplitr; · iexact HR
    isplitr; · iexact HL
    isplitl [Hc1]; · iexact Hc1
    isplitl [Hat1] <;> iassumption
  iintro ⟨HO, Hz1, Hp⟩
  ihave Hp := (show (pay I c (some (true, 1)) 0 : sProp 𝕄) ⊢ rsPay1 I c from Entails.rfl) $$ Hp
  unfold rsPay1
  icases Hp with ⟨Hr1, Hx3, Hx7⟩
  ihave Hx4 := (outAny_split (F := F) (e := px 4 c) (m := 256) rfl (half3 c)) $$ Hx4
  ihave Hx3 := (outAny_split (F := F) (e := px 3 c) (m := 256) rfl (half3 c)) $$ Hx3
  ihave Hx7 := (outAny_split (F := F) (e := px 7 c) (m := 256) rfl (half3 c)) $$ Hx7
  icases Hx4 with ⟨Hx4a, Hx4⟩
  icases Hx3 with ⟨Hx3a, Hx3⟩
  icases Hx7 with ⟨Hx7a, Hx7⟩
  iapply (wp_load_out (n := 256) (off70_eq c) (k0_off70_inb c) c (v3 I c)) $$ Ho; iintro Ho
  iapply (wp_load_reg (s := 0) (o := 0) (o' := a2 c - a1 c) (m := 512) (n := 256) (by have := half2 c; omega) ((off71_eq c).trans (by rw [Nat.zero_add])) (k0_off71_inb c)
    inb_S2x512x1024_S1x512x1024_0_0_0 (fun _ => rfl) squeezes_S1x512x1024_S512x1024 c (v1 I (px 4 c))) $$ Hr0; iintro Hr0
  iapply (wp_load_reg (s := 1) (o := 0) (o' := 0) (m := 256) (n := 256) (by omega) rfl inb_S2x512x1024_S1x256x1024_1_0_0
    inb_S2x512x1024_S1x256x1024_1_0_0 (fun _ => rfl) squeezes_S1x256x1024_S256x1024 c (v2' I (px 3 c))) $$ Hr1; iintro Hr1
  ihave Ho := (outIs_any (F := F)) $$ Ho
  iapply (wp_peek_out (n := 256) (off70_eq c) (k0_off70_inb c) c) $$ Ho; iintro Ho
  iapply (wp_store_out (n := 256) (off70_eq c) (k0_off70_inb c) c (v3' I c)) $$ Ho; iintro Ho
  ihave Ho := (outIs_split (F := F) (half3 c)) $$ Ho
  icases Ho with ⟨Hs, Ho⟩
  iapply (wp_rs_out I K 2 c _ (dev6_eq c) (n := 128) (off72_eq c) (k0_off72_inb c) (fun _ => rfl) rM2 (s3 I c)
    iprop(outAny (px 3 c) (a3 (px 1 c)) 128 ∗ outAny (px 7 c) (a3 (px 1 c)) 128 ∗ outAny (px 4 c) (a3 (px 1 c)) 128) rfl (by decide)
    (by
      show _ ⊢ rsPay2 I (px 1 c)
      unfold rsPay2
      rw [px_px, px_2_1, px_6_1, px_5_1]
      exact BIBase.Entails.rfl) (O := owe c 5) (O' := owe c 6) rfl) $$ [Hs Hd HO Ht Hx3a Hx4a Hx7a]
  · isplitr; · iexact HR
    isplitl [Hs]; · iexact Hs
    isplitl [Hd]; · iexact Hd
    isplitl [Hx3a Hx4a Hx7a]
    · isplitl [Hx3a]; · iexact Hx3a
      isplitl [Hx7a] <;> iassumption
    isplitl [HO]; · iexact HO
    iexact Ht
  iintro ⟨Hc, HO⟩
  iapply (wp_entry I K c true 2 (rcv 2) rfl rfl (dueT.drop 6) (by decide)) $$ [HO Hc2 Hat2]
  · isplitr; · iexact HR
    isplitr; · iexact HL
    isplitl [Hc2]; · iexact Hc2
    isplitl [Hat2] <;> iassumption
  iintro ⟨HO, Hz2, Hp⟩
  ihave Hp := (show (pay I c (some (true, 2)) 0 : sProp 𝕄) ⊢ rsPay2 I c from Entails.rfl) $$ Hp
  unfold rsPay2
  icases Hp with ⟨Hr2, Hx1, Hx2, Hx6, Hx5⟩
  iapply (wp_load_out (n := 128) (off73_eq c) (k0_off73_inb c) c (sub2 (m := 256) 128 (a3 c - a2 c) (v3' I c))) $$ Ho; iintro Ho
  iapply (wp_load_reg (s := 1) (o := 256) (o' := 0) (m := 128) (n := 128) (by omega) rfl inb_S2x512x1024_S1x128x1024_1_256_0
    inb_S2x512x1024_S1x128x1024_1_256_0 (fun _ => rfl) squeezes_S1x128x1024_S128x1024 c (s3 I (px 1 c))) $$ Hr2; iintro Hr2
  ihave Ho := (outIs_any (F := F)) $$ Ho
  iapply (wp_peek_out (n := 128) (off73_eq c) (k0_off73_inb c) c) $$ Ho; iintro Ho
  iapply (wp_store_out (n := 128) (off73_eq c) (k0_off73_inb c) c (v4 I c)) $$ Ho; iintro Ho
  iapply Hk
  isplitl [HH]; · iexact HH
  isplitl [Hc]; · unfold paid; iexact Hc
  isplitl [HO]; · iexact HO
  isplitl [Hz1]; · iexact Hz1
  isplitl [Hz2]; · iexact Hz2
  isplitl [Hr0 Hr1 Hr2]
  · unfold got
    isplitl [Hr0]; · iexact Hr0
    isplitl [Hr1] <;> iassumption
  isplitl [Ho]; · iexact Ho
  unfold away
  isplitl [Hx1]; · iexact Hx1
  isplitl [Hx2]; · iexact Hx2
  isplitl [Hx3]; · iexact Hx3
  isplitl [Hx4]; · iexact Hx4
  isplitl [Hx5]; · iexact Hx5
  isplitl [Hx6] <;> iassumption

/-! ## The pieces -/

/-- The device's piece, as rows of the sum. -/
theorem piece_total (c : Dev nD) : (outIs c (a3 c) 128 (v4 I c) : sProp 𝕄) ⊢ outPts c (rows (a3 c) 128) fullShare (total I) := by
  unfold outIs
  iintro ⟨%f, %hf, H⟩
  have e : ∀ i ∈ rows (a3 c) 128, f i = total I i := fun i hi => by
    rw [mem_rows] at hi
    have h := congrFun (hf.trans (win_total I c).symm) (Idealize.ShloMosaic.ValueIdx.ix2 (⟨(i 0).val - a3 c, by omega⟩ : Fin 128) (i 1 : Fin 1024))
    have hx : at2 (a3 c + ((i 0).val - a3 c)) (i 1).val = i := at2_eq i (by omega) rfl
    exact (congrArg f hx).symm.trans (h.trans (congrArg (total I) hx))
  iapply (Entails.of_eq (outPts_congr (F := F) (e := c) (q := fullShare) e)); iexact H

theorem pieces_apart : ∀ (c : Dev nD) (m m' : Fin 8), m ≠ m' → a3 (px m c) + 128 ≤ a3 (px m' c) ∨ a3 (px m' c) + 128 ≤ a3 (px m c) := by decide +kernel
theorem pieces_all : ∀ (c : Dev nD) (b : Fin 8), ∃ m : Fin 8, a3 (px m c) = 128 * b.val := by decide +kernel

/-- The eight pieces are the whole buffer. -/
theorem pieces_join (c : Dev nD) (f : S1024x1024.Idx → Elt F .bf16) :
    iprop(outPts c (rows (a3 c) 128) fullShare f ∗ outPts c (rows (a3 (px 1 c)) 128) fullShare f ∗ outPts c (rows (a3 (px 2 c)) 128) fullShare f
      ∗ outPts c (rows (a3 (px 3 c)) 128) fullShare f ∗ outPts c (rows (a3 (px 4 c)) 128) fullShare f ∗ outPts c (rows (a3 (px 5 c)) 128) fullShare f
      ∗ outPts c (rows (a3 (px 6 c)) 128) fullShare f ∗ outPts c (rows (a3 (px 7 c)) 128) fullShare f)
      ⊢ (outPts c Finset.univ fullShare f : sProp 𝕄) := by
  have hd : ∀ m ∈ (Finset.univ : Finset (Fin 8)), ∀ m' ∈ (Finset.univ : Finset (Fin 8)), m ≠ m' → Disjoint (rows (a3 (px m c)) 128) (rows (a3 (px m' c)) 128) :=
    fun m _ m' _ h => rows_disjoint (pieces_apart c m m' h)
  have hu : (Finset.univ : Finset (Fin 8)).biUnion (fun m => rows (a3 (px m c)) 128) = Finset.univ := by
    refine Finset.eq_univ_of_forall fun i => ?_
    have h0 : (i 0).val < 1024 := (i 0).isLt
    obtain ⟨m, hm⟩ := pieces_all c ⟨(i 0).val / 128, by omega⟩
    have hm : a3 (px m c) = 128 * ((i 0).val / 128) := hm
    exact Finset.mem_biUnion.mpr ⟨m, Finset.mem_univ _, mem_rows.mpr (by omega)⟩
  have e : (outPts c Finset.univ fullShare f : sProp 𝕄) = bigSep Finset.univ fun m : Fin 8 => outPts c (rows (a3 (px m c)) 128) fullShare f := by
    rw [← hu]; exact pointsTo_biUnion _ _ hd
  rw [e, bigSep_univ_eq_bigSepL [(0 : Fin 8), 1, 2, 3, 4, 5, 6, 7] (by decide) (by decide)]
  show _ ⊢ iprop(outPts c (rows (a3 (px 0 c)) 128) fullShare f ∗ _)
  rw [px_zero]
  exact BIBase.Entails.rfl

/-- The seven shares the sends read from, and the rest. -/
theorem piece_shares (c : Dev nD) (S : Finset S1024x1024.Idx) (f : S1024x1024.Idx → Elt F .bf16) :
    (outPts c S fullShare f : sProp 𝕄) ⊣⊢ iprop(outPts c S (Transfers.shareDrop fullShare 7) f ∗ outPts c S (Transfers.shareTokN fullShare 0) f ∗ outPts c S (Transfers.shareTokN fullShare 1) f
      ∗ outPts c S (Transfers.shareTokN fullShare 2) f ∗ outPts c S (Transfers.shareTokN fullShare 3) f ∗ outPts c S (Transfers.shareTokN fullShare 4) f
      ∗ outPts c S (Transfers.shareTokN fullShare 5) f ∗ outPts c S (Transfers.shareTokN fullShare 6) f) := by
  have e : bigSep Finset.univ (fun i : Fin 7 => (outPts c S (Transfers.shareTok fullShare 7 i) f : sProp 𝕄))
      = iprop(outPts c S (Transfers.shareTokN fullShare 0) f ∗ outPts c S (Transfers.shareTokN fullShare 1) f
      ∗ outPts c S (Transfers.shareTokN fullShare 2) f ∗ outPts c S (Transfers.shareTokN fullShare 3) f ∗ outPts c S (Transfers.shareTokN fullShare 4) f
      ∗ outPts c S (Transfers.shareTokN fullShare 5) f ∗ outPts c S (Transfers.shareTokN fullShare 6) f) :=
    (bigSep_univ_eq_bigSepL [(0 : Fin 7), 1, 2, 3, 4, 5, 6] (by decide) (by decide) _).trans rfl
  rw [← e]
  exact Transfers.pointsTo_toks fullShare 7

/-! ## The exchange of the pieces -/

/-- What the device brings to entry `i`. -/
def kit (c : Dev nD) (i : Fin 10) : sProp 𝕄 :=
  iprop(toks (F := F) c i ∗ (paid (F := F) c (rK i) ∗ place0 (F := F) c (rK i)) ∗ place0 (F := F) c (sK i))
/-- The kit after the send. -/
def kit' (c : Dev nD) (i : Fin 10) : sProp 𝕄 :=
  iprop((paid (F := F) c (sK i) ∗ place0 (F := F) c (sK i)) ∗ paid (F := F) c (rK i) ∗ place0 (F := F) c (rK i))

/-- One piece sent. -/
theorem wp_piece (i : Fin 10) (hi : 3 ≤ i.val) (c e : Dev nD) (he : e = px (xm i) c) {O O' : CellTallies nD τ sig Unit}
    (hO : O = O' + tallyAt (kcell (px (xm i) c) (rK i)) () (amtE i)) {Q : PUnit → sProp 𝕄} {k : P F} :
    iprop(records I K ∗ outPts c (rows (a3 c) 128) (Transfers.shareTokN fullShare (i.val - 3)) (total I) ∗ outAny (px (xm i) c) (a3 c) 128 ∗ kit c i ∗ owing c O)
      ⊢ iprop(((kit' c i ∗ owing c O') -∗ wp frame (wpE (defs₀ (F := F)) 𝒱₀ (c : Thread nD τ) none) Set.univ k Q)
        -∗ wp frame (wpE (defs₀ (F := F)) 𝒱₀ (c : Thread nD τ) none) Set.univ (agSend c e i k) Q) := by
  unfold kit kit' toks
  iintro ⟨#HR, Hs, Hd, ⟨⟨Ht1, Ht2⟩, Hr, Hp⟩, HO⟩ Hk
  iapply (wp_ag I K i hi c e he hO) $$ [Hs Hd Ht1 Ht2 HO]
  · isplitr; · iexact HR
    isplitl [Hs]; · iexact Hs
    isplitl [Hd]; · iexact Hd
    isplitl [Ht1]; · iexact Ht1
    isplitl [Ht2] <;> iassumption
  iintro ⟨Hc, HO⟩
  iapply Hk
  isplitr [HO]
  · isplitr [Hr]
    · unfold paid
      isplitl [Hc] <;> iassumption
    iexact Hr
  iexact HO

/-- One piece received. -/
theorem wp_got (i : Fin 10) (hi : 3 ≤ i.val) (r : Fin 7) (c : Dev nD) {Q : PUnit → sProp 𝕄} {k : P F} :
    iprop(records I K ∗ levAts L lv ∗ kit' c i ∗ owing c (oweL c []))
      ⊢ iprop(((owing c (oweL c []) ∗ (paid c (sK i) ∗ place0 c (sK i)) ∗ closed c (rK i) ∗ outPts c (rows (a3 (px (xm i) c)) 128) fullShare (total I))
          -∗ wp frame (wpE (defs₀ (F := F)) 𝒱₀ (c : Thread nD τ) none) Set.univ k Q)
        -∗ wp frame (wpE (defs₀ (F := F)) 𝒱₀ (c : Thread nD τ) none) Set.univ (agWait c r i k) Q) := by
  have hamt : rM2.view.dmaCredit = amtE i := by unfold amtE; rw [if_neg (by omega), if_neg (by omega)]
  have hp : (pay I c (some (true, i)) 0 : sProp 𝕄) = outPts c (rows (a3 (px (xm i) c)) 128) fullShare (total I) := by
    show rcvPay I c i = _
    unfold rcvPay; rw [if_neg (by omega), if_neg (by omega), if_neg (by omega)]
  unfold agWait kit'
  iintro ⟨#HR, #HL, ⟨Hs, Hc, Hat⟩, HO⟩ Hk
  iapply (wp_entry I K c true i (rcv i) rfl (dst := oM75 c r) hamt [] (fun p hp => nomatch hp)) $$ [HO Hc Hat]
  · isplitr; · iexact HR
    isplitr; · iexact HL
    isplitl [Hc]; · iexact Hc
    isplitl [Hat] <;> iassumption
  iintro ⟨HO, Hz, Hp⟩
  ihave Hp := (Entails.of_eq hp) $$ Hp
  iapply Hk
  isplitl [HO]; · iexact HO
  isplitl [Hs]; · iexact Hs
  isplitl [Hz] <;> iassumption

/-- One send done with: the share it read comes back. -/
theorem wp_done (i : Fin 10) (hi : 3 ≤ i.val) (c : Dev nD) {Q : PUnit → sProp 𝕄} {k : P F} :
    iprop(records I K ∗ levAts L lv ∗ (paid c (sK i) ∗ place0 c (sK i)) ∗ owing c (oweL c []))
      ⊢ iprop(((owing c (oweL c []) ∗ closed c (sK i) ∗ outPts c (rows (a3 c) 128) (Transfers.shareTokN fullShare (i.val - 3)) (total I))
          -∗ wp frame (wpE (defs₀ (F := F)) 𝒱₀ (c : Thread nD τ) none) Set.univ k Q)
        -∗ wp frame (wpE (defs₀ (F := F)) 𝒱₀ (c : Thread nD τ) none) Set.univ (agDone c i k) Q) := by
  have hamt : rM2.view.dmaCredit = amtE i := by unfold amtE; rw [if_neg (by omega), if_neg (by omega)]
  have hp : (pay I c (some (false, i)) 0 : sProp 𝕄) = outPts c (rows (a3 c) 128) (Transfers.shareTokN fullShare (i.val - 3)) (total I) := by
    show sndPay I c i = _
    unfold sndPay; rw [if_neg (by omega)]
  unfold agDone
  iintro ⟨#HR, #HL, ⟨Hc, Hat⟩, HO⟩ Hk
  iapply (wp_entry I K c false i (snd i) rfl (dst := oM74 c) hamt [] (fun p hp => nomatch hp)) $$ [HO Hc Hat]
  · isplitr; · iexact HR
    isplitr; · iexact HL
    isplitl [Hc]; · iexact Hc
    isplitl [Hat] <;> iassumption
  iintro ⟨HO, Hz, Hp⟩
  ihave Hp := (Entails.of_eq hp) $$ Hp
  iapply Hk
  isplitl [HO]; · iexact HO
  isplitl [Hz] <;> iassumption

/-- One of the reduction's sends done with. -/
theorem wp_sent (i : Fin 10) (hi : i.val < 3) (c : Dev nD) {sp sp' : Space} {s s' : Shape} {e e' : EltTy}
    {src : Memref sig .tc sp' s' e'} {dst : Memref sig .tc sp s e} {hsrc hdst} (hk : dst.view.dmaCredit = amtE i) {Q : PUnit → sProp 𝕄} {k : P F} :
    iprop(records I K ∗ levAts L lv ∗ (paid c (sK i) ∗ place0 c (sK i)) ∗ owing c (oweL c []))
      ⊢ iprop(((owing c (oweL c []) ∗ closed c (sK i)) -∗ wp frame (wpE (defs₀ (F := F)) 𝒱₀ (c : Thread nD τ) none) Set.univ k Q)
        -∗ wp frame (wpE (defs₀ (F := F)) 𝒱₀ (c : Thread nD τ) none) Set.univ (.op (.waitDma2 (snd i) src dst hsrc hdst) fun _ => k) Q) := by
  iintro ⟨#HR, #HL, ⟨Hc, Hat⟩, HO⟩ Hk
  iapply (wp_entry I K c false i (snd i) rfl hk [] (fun p hp => nomatch hp)) $$ [HO Hc Hat]
  · isplitr; · iexact HR
    isplitr; · iexact HL
    isplitl [Hc]; · iexact Hc
    isplitl [Hat] <;> iassumption
  iintro ⟨HO, Hz, -⟩
  iapply Hk
  isplitl [HO] <;> iassumption

/-- All the cells of the two arrays' entries closed that the exchange of pieces closes. -/
def ends (c : Dev nD) : sProp 𝕄 :=
  iprop((closed (F := F) c (rK 3) ∗ closed (F := F) c (rK 4) ∗ closed (F := F) c (rK 5) ∗ closed (F := F) c (rK 6) ∗ closed (F := F) c (rK 7) ∗ closed (F := F) c (rK 8) ∗ closed (F := F) c (rK 9))
    ∗ closed (F := F) c (sK 0) ∗ closed (F := F) c (sK 1) ∗ closed (F := F) c (sK 2) ∗ closed (F := F) c (sK 3) ∗ closed (F := F) c (sK 4) ∗ closed (F := F) c (sK 5)
    ∗ closed (F := F) c (sK 6) ∗ closed (F := F) c (sK 7) ∗ closed (F := F) c (sK 8) ∗ closed (F := F) c (sK 9))

set_option maxHeartbeats 2000000 in
/-- The exchange of the pieces: the whole sum on every device. -/
theorem wp_gather (c : Dev nD) {Q : PUnit → sProp 𝕄} :
    iprop(records I K ∗ levAts L lv ∗ outIs c (a3 c) 128 (v4 I c) ∗ away c ∗ owing c (owe c 6)
        ∗ (kit c 3 ∗ kit c 4 ∗ kit c 5 ∗ kit c 6 ∗ kit c 7 ∗ kit c 8 ∗ kit c 9)
        ∗ (paid c (sK 0) ∗ place0 c (sK 0)) ∗ (paid c (sK 1) ∗ place0 c (sK 1)) ∗ (paid c (sK 2) ∗ place0 c (sK 2)))
      ⊢ iprop(((owing c 0 ∗ outPts c Finset.univ fullShare (total I) ∗ ends c)
          -∗ wp frame (wpE (defs₀ (F := F)) 𝒱₀ (c : Thread nD τ) none) Set.univ (.ret ⟨⟩ : P F) Q)
        -∗ wp frame (wpE (defs₀ (F := F)) 𝒱₀ (c : Thread nD τ) none) Set.univ (gatherProg c) Q) := by
  unfold gatherProg away
  iintro ⟨#HR, #HL, Ho, ⟨Hx1, Hx2, Hx3, Hx4, Hx5, Hx6, Hx7⟩, HO, ⟨K3, K4, K5, K6, K7, K8, K9⟩, S0, S1, S2⟩ Hk
  ihave Ho := (piece_total I c) $$ Ho
  ihave Ho := (piece_shares c (rows (a3 c) 128) (total I)).1 $$ Ho
  icases Ho with ⟨Hq, Q0, Q1, Q2, Q3, Q4, Q5, Q6⟩
  iapply (wp_piece I K 8 (by decide) c _ (dev7_eq c) (O := owe c 6) (O' := owe c 7) rfl) $$ [Q5 Hx6 K8 HO]
  · isplitr; · iexact HR
    isplitl [Q5]; · iexact Q5
    isplitl [Hx6]; · iexact Hx6
    isplitl [K8] <;> iassumption
  iintro ⟨K8, HO⟩
  iapply (wp_piece I K 4 (by decide) c _ (dev8_eq c) (O := owe c 7) (O' := owe c 8) rfl) $$ [Q1 Hx2 K4 HO]
  · isplitr; · iexact HR
    isplitl [Q1]; · iexact Q1
    isplitl [Hx2]; · iexact Hx2
    isplitl [K4] <;> iassumption
  iintro ⟨K4, HO⟩
  iapply (wp_piece I K 7 (by decide) c _ (dev9_eq c) (O := owe c 8) (O' := owe c 9) rfl) $$ [Q4 Hx5 K7 HO]
  · isplitr; · iexact HR
    isplitl [Q4]; · iexact Q4
    isplitl [Hx5]; · iexact Hx5
    isplitl [K7] <;> iassumption
  iintro ⟨K7, HO⟩
  iapply (wp_piece I K 9 (by decide) c _ (dev10_eq c) (O := owe c 9) (O' := owe c 10) rfl) $$ [Q6 Hx7 K9 HO]
  · isplitr; · iexact HR
    isplitl [Q6]; · iexact Q6
    isplitl [Hx7]; · iexact Hx7
    isplitl [K9] <;> iassumption
  iintro ⟨K9, HO⟩
  iapply (wp_piece I K 3 (by decide) c _ (dev11_eq c) (O := owe c 10) (O' := owe c 11) rfl) $$ [Q0 Hx1 K3 HO]
  · isplitr; · iexact HR
    isplitl [Q0]; · iexact Q0
    isplitl [Hx1]; · iexact Hx1
    isplitl [K3] <;> iassumption
  iintro ⟨K3, HO⟩
  iapply (wp_piece I K 5 (by decide) c _ (dev12_eq c) (O := owe c 11) (O' := owe c 12) rfl) $$ [Q2 Hx3 K5 HO]
  · isplitr; · iexact HR
    isplitl [Q2]; · iexact Q2
    isplitl [Hx3]; · iexact Hx3
    isplitl [K5] <;> iassumption
  iintro ⟨K5, HO⟩
  iapply (wp_piece I K 6 (by decide) c _ (dev13_eq c) (O := owe c 12) (O' := oweL c []) rfl) $$ [Q3 Hx4 K6 HO]
  · isplitr; · iexact HR
    isplitl [Q3]; · iexact Q3
    isplitl [Hx4]; · iexact Hx4
    isplitl [K6] <;> iassumption
  iintro ⟨K6, HO⟩
  iapply (wp_got I K 3 (by decide) 0 c) $$ [K3 HO]
  · isplitr; · iexact HR
    isplitr; · iexact HL
    isplitl [K3] <;> iassumption
  iintro ⟨HO, K3, Z3, P1⟩
  iapply (wp_got I K 5 (by decide) 2 c) $$ [K5 HO]
  · isplitr; · iexact HR
    isplitr; · iexact HL
    isplitl [K5] <;> iassumption
  iintro ⟨HO, K5, Z5, P3⟩
  iapply (wp_got I K 6 (by decide) 3 c) $$ [K6 HO]
  · isplitr; · iexact HR
    isplitr; · iexact HL
    isplitl [K6] <;> iassumption
  iintro ⟨HO, K6, Z6, P4⟩
  iapply (wp_got I K 4 (by decide) 1 c) $$ [K4 HO]
  · isplitr; · iexact HR
    isplitr; · iexact HL
    isplitl [K4] <;> iassumption
  iintro ⟨HO, K4, Z4, P2⟩
  iapply (wp_got I K 7 (by decide) 4 c) $$ [K7 HO]
  · isplitr; · iexact HR
    isplitr; · iexact HL
    isplitl [K7] <;> iassumption
  iintro ⟨HO, K7, Z7, P5⟩
  iapply (wp_got I K 9 (by decide) 6 c) $$ [K9 HO]
  · isplitr; · iexact HR
    isplitr; · iexact HL
    isplitl [K9] <;> iassumption
  iintro ⟨HO, K9, Z9, P7⟩
  iapply (wp_got I K 8 (by decide) 5 c) $$ [K8 HO]
  · isplitr; · iexact HR
    isplitr; · iexact HL
    isplitl [K8] <;> iassumption
  iintro ⟨HO, K8, Z8, P6⟩
  iapply (wp_sent I K 0 (by decide) c (src := rM0) (dst := oM37 c) rfl) $$ [S0 HO]
  · isplitr; · iexact HR
    isplitr; · iexact HL
    isplitl [S0] <;> iassumption
  iintro ⟨HO, Y0⟩
  iapply (wp_sent I K 1 (by decide) c (src := rM1) (dst := oM56 c) rfl) $$ [S1 HO]
  · isplitr; · iexact HR
    isplitr; · iexact HL
    isplitl [S1] <;> iassumption
  iintro ⟨HO, Y1⟩
  iapply (wp_sent I K 2 (by decide) c (src := rM2) (dst := oM72 c) rfl) $$ [S2 HO]
  · isplitr; · iexact HR
    isplitr; · iexact HL
    isplitl [S2] <;> iassumption
  iintro ⟨HO, Y2⟩
  iapply (wp_done I K 8 (by decide) c) $$ [K8 HO]
  · isplitr; · iexact HR
    isplitr; · iexact HL
    isplitl [K8] <;> iassumption
  iintro ⟨HO, Y8, Q5⟩
  iapply (wp_done I K 4 (by decide) c) $$ [K4 HO]
  · isplitr; · iexact HR
    isplitr; · iexact HL
    isplitl [K4] <;> iassumption
  iintro ⟨HO, Y4, Q1⟩
  iapply (wp_done I K 7 (by decide) c) $$ [K7 HO]
  · isplitr; · iexact HR
    isplitr; · iexact HL
    isplitl [K7] <;> iassumption
  iintro ⟨HO, Y7, Q4⟩
  iapply (wp_done I K 9 (by decide) c) $$ [K9 HO]
  · isplitr; · iexact HR
    isplitr; · iexact HL
    isplitl [K9] <;> iassumption
  iintro ⟨HO, Y9, Q6⟩
  iapply (wp_done I K 3 (by decide) c) $$ [K3 HO]
  · isplitr; · iexact HR
    isplitr; · iexact HL
    isplitl [K3] <;> iassumption
  iintro ⟨HO, Y3, Q0⟩
  iapply (wp_done I K 5 (by decide) c) $$ [K5 HO]
  · isplitr; · iexact HR
    isplitr; · iexact HL
    isplitl [K5] <;> iassumption
  iintro ⟨HO, Y5, Q2⟩
  iapply (wp_done I K 6 (by decide) c) $$ [K6 HO]
  · isplitr; · iexact HR
    isplitr; · iexact HL
    isplitl [K6] <;> iassumption
  iintro ⟨HO, Y6, Q3⟩
  iapply Hk
  isplitl [HO]; · iexact HO
  isplitl [Hq Q0 Q1 Q2 Q3 Q4 Q5 Q6 P1 P2 P3 P4 P5 P6 P7]
  · iapply (pieces_join c (total I))
    isplitl [Hq Q0 Q1 Q2 Q3 Q4 Q5 Q6]
    · iapply (piece_shares c (rows (a3 c) 128) (total I)).2
      isplitl [Hq]; · iexact Hq
      isplitl [Q0]; · iexact Q0
      isplitl [Q1]; · iexact Q1
      isplitl [Q2]; · iexact Q2
      isplitl [Q3]; · iexact Q3
      isplitl [Q4]; · iexact Q4
      isplitl [Q5]; · iexact Q5
      iexact Q6
    isplitl [P1]; · iexact P1
    isplitl [P2]; · iexact P2
    isplitl [P3]; · iexact P3
    isplitl [P4]; · iexact P4
    isplitl [P5]; · iexact P5
    isplitl [P6]; · iexact P6
    iexact P7
  unfold ends
  isplitl [Z3 Z4 Z5 Z6 Z7 Z8 Z9]
  · isplitl [Z3]; · iexact Z3
    isplitl [Z4]; · iexact Z4
    isplitl [Z5]; · iexact Z5
    isplitl [Z6]; · iexact Z6
    isplitl [Z7]; · iexact Z7
    isplitl [Z8] <;> iassumption
  isplitl [Y0]; · iexact Y0
  isplitl [Y1]; · iexact Y1
  isplitl [Y2]; · iexact Y2
  isplitl [Y3]; · iexact Y3
  isplitl [Y4]; · iexact Y4
  isplitl [Y5]; · iexact Y5
  isplitl [Y6]; · iexact Y6
  isplitl [Y7]; · iexact Y7
  isplitl [Y8] <;> iassumption

end Cert.KernelIdeal.Mha

end
-- ==== Proof.Body.lean ====
/- The whole body on one device: the buffers cut into the pieces the run hands around, the run phase by phase, and the
   pieces put together again. -/
module

public import proofs.«01_k».proof.Proof.Gather

@[expose] public section

set_option maxRecDepth 16384

noncomputable section

namespace Cert.KernelIdeal.Mha

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## A buffer in four pieces -/

theorem four (Φ : Fin 4 → sProp 𝕄) : bigSep Finset.univ Φ = iprop(Φ 0 ∗ Φ 1 ∗ Φ 2 ∗ Φ 3) :=
  (bigSep_univ_eq_bigSepL [(0 : Fin 4), 1, 2, 3] (by decide) (by decide) _).trans rfl

/-- Elements of a buffer, whatever they hold. -/
def anyAt (ℓ : Loc nD τ sig) (S : Finset (Idx ℓ)) : sProp 𝕄 := iprop(∃ f : Buf (Elt F) ℓ, ℓ ↦[S]{fullShare} f)

theorem any_split {ℓ : Loc nD τ sig} {T : Finset (Idx ℓ)} (S : Fin 4 → Finset (Idx ℓ)) (hT : Finset.univ.biUnion S = T)
    (hd : ∀ s t, s ≠ t → Disjoint (S s) (S t)) : (anyAt ℓ T : sProp 𝕄) ⊢ iprop(anyAt ℓ (S 0) ∗ anyAt ℓ (S 1) ∗ anyAt ℓ (S 2) ∗ anyAt ℓ (S 3)) := by
  subst hT
  unfold anyAt
  iintro ⟨%f, H⟩
  ihave H := (Entails.of_eq ((pointsTo_biUnion Finset.univ S (fun s _ t _ h => hd s t h)).trans (four _))) $$ H
  icases H with ⟨H0, H1, H2, H3⟩
  isplitl [H0]; · iexists f; iexact H0
  isplitl [H1]; · iexists f; iexact H1
  isplitl [H2]; · iexists f; iexact H2
  iexists f; iexact H3

theorem any_join {ℓ : Loc nD τ sig} {T : Finset (Idx ℓ)} (S : Fin 4 → Finset (Idx ℓ)) (hT : Finset.univ.biUnion S = T)
    (hd : ∀ s t, s ≠ t → Disjoint (S s) (S t)) : iprop(anyAt ℓ (S 0) ∗ anyAt ℓ (S 1) ∗ anyAt ℓ (S 2) ∗ anyAt ℓ (S 3)) ⊢ (anyAt ℓ T : sProp 𝕄) := by
  subst hT
  unfold anyAt
  iintro ⟨⟨%f0, H0⟩, ⟨%f1, H1⟩, ⟨%f2, H2⟩, ⟨%f3, H3⟩⟩
  ihave H := (BIBase.Entails.trans (Entails.of_eq (four (fun t : Fin 4 => (ℓ ↦[S t]{fullShare} (![f0, f1, f2, f3] : Fin 4 → Buf (Elt F) ℓ) t : sProp 𝕄))).symm)
    (pointsTo_biUnion_join Finset.univ S ![f0, f1, f2, f3] f0 (fun s _ t _ h => hd s t h))) $$ [H0 H1 H2 H3]
  · isplitl [H0]; · iexact H0
    isplitl [H1]; · iexact H1
    isplitl [H2]; · iexact H2
    iexact H3
  icases H with ⟨%g, -, H⟩
  iexists g
  iexact H

/-! ## A ring and its array -/

section Ring

variable (arr : Memref sig .tc .hbm S4x1024x8x128 .f32) (ring : Memref sig .tc .vmem S4x1024x128 .f32) (sm : ℕ → DmaSem sig)
variable (c : Dev nD) (A : Buf (Elt F) (arr.view.loc (c : Thread nD τ)))

theorem slot_set (n : ℕ) : (slotM ring n).view.set = (slots (n % 4)).map ring.view.emb := by
  refine ((View.set_reshape _ _).trans (View.set_slice ring.view _)).trans ?_
  rw [show (Rect.unit (s := S4x1024x128) ![n % 4, 0, 0] S1x1024x128.size _ : Rect S4x1024x128).set = slots (n % 4) from slotRect_set n]

theorem slots_disjoint {a b : ℕ} (h : a ≠ b) : Disjoint (slots a) (slots b) :=
  Finset.disjoint_left.mpr fun i h1 h2 => h ((mem_slots.mp h1).symm.trans (mem_slots.mp h2))

theorem slots_cover : (Finset.univ : Finset (Fin 4)).biUnion (fun s => (slotM ring s.val).view.set) = ring.view.set := by
  ext j
  simp only [Finset.mem_biUnion, Finset.mem_univ, true_and]
  constructor
  · rintro ⟨s, h⟩
    have h : j ∈ (slots (s.val % 4)).map ring.view.emb := (slot_set ring s.val).subset h
    obtain ⟨i, -, rfl⟩ := Finset.mem_map.mp h
    exact Finset.mem_map_of_mem _ (Finset.mem_univ i)
  · intro h
    obtain ⟨i, -, rfl⟩ := Finset.mem_map.mp h
    exact ⟨⟨(i 0).val, (i 0).isLt⟩, (slot_set ring (i 0).val).symm.subset
      (Finset.mem_map_of_mem _ (mem_slots.mpr (Nat.mod_eq_of_lt (i 0).isLt).symm))⟩

theorem slot_disj (s t : Fin 4) (h : s ≠ t) : Disjoint (slotM ring s.val).view.set (slotM ring t.val).view.set := by
  rw [slot_set, slot_set, Finset.disjoint_map, Nat.mod_eq_of_lt s.isLt, Nat.mod_eq_of_lt t.isLt]
  exact slots_disjoint fun e => h (Fin.ext e)

/-- The ring, whatever it holds. -/
def ringAny : sProp 𝕄 := iprop(∃ f : Buf (Elt F) (ring.view.loc (c : Thread nD τ)), ring.view.loc (c : Thread nD τ) ↦[ring.view.set]{fullShare} f)

theorem ring_split : (ringAny ring c : sProp 𝕄) ⊢ iprop(slotAny ring c 0 ∗ slotAny ring c 1 ∗ slotAny ring c 2 ∗ slotAny ring c 3) :=
  any_split (ℓ := ring.view.loc (c : Thread nD τ)) (fun s : Fin 4 => (slotM ring s.val).view.set) (slots_cover ring) (slot_disj ring)

theorem ring_join : iprop(slotAny ring c 0 ∗ slotAny ring c 1 ∗ slotAny ring c 2 ∗ slotAny ring c 3) ⊢ (ringAny ring c : sProp 𝕄) :=
  any_join (ℓ := ring.view.loc (c : Thread nD τ)) (fun s : Fin 4 => (slotM ring s.val).view.set) (slots_cover ring) (slot_disj ring)

/-- The array: four shares the transfers read through, and the rest. -/
theorem arr_shares : (arr.view.loc (c : Thread nD τ) ↦[arr.view.set]{fullShare} A : sProp 𝕄)
    ⊣⊢ iprop((arr.view.loc (c : Thread nD τ) ↦[arr.view.set]{Transfers.shareDrop fullShare 4} A)
      ∗ arrPts arr c A 0 ∗ arrPts arr c A 1 ∗ arrPts arr c A 2 ∗ arrPts arr c A 3) := by
  have e : bigSep Finset.univ (fun i : Fin 4 => (arr.view.loc (c : Thread nD τ) ↦[arr.view.set]{Transfers.shareTok fullShare 4 i} A : sProp 𝕄))
      = iprop(arrPts arr c A 0 ∗ arrPts arr c A 1 ∗ arrPts arr c A 2 ∗ arrPts arr c A 3) := (four _).trans rfl
  rw [← e]
  exact Transfers.pointsTo_toks fullShare 4

/-- The ring's four semaphores at zero. -/
def sems : sProp 𝕄 := iprop(semVal ((c : Thread nD τ), .dma (sm 0)) 0 ∗ semVal ((c : Thread nD τ), .dma (sm 1)) 0 ∗ semVal ((c : Thread nD τ), .dma (sm 2)) 0 ∗ semVal ((c : Thread nD τ), .dma (sm 3)) 0)

/-- A ring at rest: what the launch gives it and what it gives back. -/
def rest4 : sProp 𝕄 := iprop(ringAny ring c ∗ (arr.view.loc (c : Thread nD τ) ↦[arr.view.set]{fullShare} A) ∗ sems sm c)

def drop4 : sProp 𝕄 := arr.view.loc (c : Thread nD τ) ↦[arr.view.set]{Transfers.shareDrop fullShare 4} A

theorem rest_open : (rest4 arr ring sm c A : sProp 𝕄)
    ⊢ iprop((idle arr ring sm c A 0 ∗ idle arr ring sm c A 1 ∗ idle arr ring sm c A 2 ∗ idle arr ring sm c A 3) ∗ drop4 arr c A) := by
  unfold rest4 sems idle drop4
  iintro ⟨Hr, Ha, Hs0, Hs1, Hs2, Hs3⟩
  ihave Hr := (ring_split ring c) $$ Hr
  ihave Ha := (arr_shares arr c A).1 $$ Ha
  icases Hr with ⟨H0, H1, H2, H3⟩
  icases Ha with ⟨Hd, Ha0, Ha1, Ha2, Ha3⟩
  isplitr [Hd]
  · isplitl [H0 Ha0 Hs0]; · isplitl [H0]; · iexact H0
                            isplitl [Ha0] <;> iassumption
    isplitl [H1 Ha1 Hs1]; · isplitl [H1]; · iexact H1
                            isplitl [Ha1] <;> iassumption
    isplitl [H2 Ha2 Hs2]; · isplitl [H2]; · iexact H2
                            isplitl [Ha2] <;> iassumption
    isplitl [H3]; · iexact H3
    isplitl [Ha3] <;> iassumption
  iexact Hd

theorem idle_mod (hsm : ∀ n, sm (n + 4) = sm n) (n : ℕ) : ∀ k, (idle arr ring sm c A (n + 4 * k) : sProp 𝕄) = idle arr ring sm c A n
  | 0 => rfl
  | k + 1 => (idle_add arr ring sm c A hsm (n + 4 * k)).trans (idle_mod hsm n k)

theorem rest_close (hsm : ∀ n, sm (n + 4) = sm n) : iprop(ringSt arr ring sm c A 32 ∗ drop4 arr c A) ⊢ (rest4 arr ring sm c A : sProp 𝕄) := by
  have h0 : (slotSt arr ring sm c A 32 : sProp 𝕄) = idle arr ring sm c A 0 := (if_neg (by decide)).trans (idle_mod arr ring sm c A hsm 0 8)
  have h1 : (slotSt arr ring sm c A (32 + 1) : sProp 𝕄) = idle arr ring sm c A 1 := (if_neg (by decide)).trans (idle_mod arr ring sm c A hsm 1 8)
  have h2 : (slotSt arr ring sm c A (32 + 2) : sProp 𝕄) = idle arr ring sm c A 2 := (if_neg (by decide)).trans (idle_mod arr ring sm c A hsm 2 8)
  have h3 : (idle arr ring sm c A (32 + 3) : sProp 𝕄) = idle arr ring sm c A 3 := idle_mod arr ring sm c A hsm 3 8
  unfold ringSt
  rw [h0, h1, h2, h3]
  unfold idle drop4 rest4 sems
  iintro ⟨⟨⟨H0, Ha0, Hs0⟩, ⟨H1, Ha1, Hs1⟩, ⟨H2, Ha2, Hs2⟩, ⟨H3, Ha3, Hs3⟩⟩, Hd⟩
  isplitl [H0 H1 H2 H3]
  · iapply (ring_join ring c)
    isplitl [H0]; · iexact H0
    isplitl [H1]; · iexact H1
    isplitl [H2] <;> iassumption
  isplitl [Ha0 Ha1 Ha2 Ha3 Hd]
  · iapply (arr_shares arr c A).2
    isplitl [Hd]; · iexact Hd
    isplitl [Ha0]; · iexact Ha0
    isplitl [Ha1]; · iexact Ha1
    isplitl [Ha2] <;> iassumption
  isplitl [Hs0]; · iexact Hs0
  isplitl [Hs1]; · iexact Hs1
  isplitl [Hs2] <;> iassumption

end Ring

/-! ## The receive buffer -/

/-- What of the receive buffer the exchange leaves alone. -/
def regRest (c : Dev nD) : sProp 𝕄 := anyAt (bR.view.loc (c : Thread nD τ)) reg3
/-- The receive buffer, whatever it holds. -/
def recvAny (c : Dev nD) : sProp 𝕄 := anyAt (bR.view.loc (c : Thread nD τ)) Finset.univ

abbrev regs : Fin 4 → Finset S2x512x1024.Idx := ![reg0, reg1, reg2, reg3]

theorem reg_cover : Finset.univ.biUnion regs = Finset.univ := by
  ext i
  have h0 : (i 0).val < 2 := (i 0).isLt
  simp only [Finset.mem_biUnion, Finset.mem_univ, true_and, iff_true, Fin.exists_fin_succ, Fin.exists_fin_zero_pi, regs]
  simp [reg0, reg1, reg2, reg3]
  omega
theorem reg_disj (s t : Fin 4) (h : s ≠ t) : Disjoint (regs s) (regs t) :=
  Finset.disjoint_left.mpr fun i => by
    fin_cases s <;> fin_cases t <;> first | exact absurd rfl h | (simp [regs, reg0, reg1, reg2, reg3]; try omega)

theorem reg_any (c : Dev nD) : (iprop(regAny c rM0 ∗ regAny c rM1 ∗ regAny c rM2) : sProp 𝕄)
    = iprop(anyAt (bR.view.loc (c : Thread nD τ)) reg0 ∗ anyAt (bR.view.loc (c : Thread nD τ)) reg1 ∗ anyAt (bR.view.loc (c : Thread nD τ)) reg2) := by
  unfold regAny
  rw [rM0_set, rM1_set, rM2_set]; rfl

theorem recv_split (c : Dev nD) : (recvAny c : sProp 𝕄) ⊢ iprop((regAny c rM0 ∗ regAny c rM1 ∗ regAny c rM2) ∗ regRest c) := by
  rw [reg_any]
  unfold recvAny regRest
  iintro H
  ihave H := (any_split (ℓ := bR.view.loc (c : Thread nD τ)) regs reg_cover reg_disj) $$ H
  icases H with ⟨H0, H1, H2, H3⟩
  isplitr [H3]
  · isplitl [H0]; · iexact H0
    isplitl [H1]; · iexact H1
    iexact H2
  iexact H3

theorem recv_join (c : Dev nD) : iprop((regAny c rM0 ∗ regAny c rM1 ∗ regAny c rM2) ∗ regRest c) ⊢ (recvAny c : sProp 𝕄) := by
  rw [reg_any]
  unfold recvAny regRest
  iintro ⟨⟨H0, H1, H2⟩, H3⟩
  iapply (any_join (ℓ := bR.view.loc (c : Thread nD τ)) regs reg_cover reg_disj)
  isplitl [H0]; · iexact H0
  isplitl [H1]; · iexact H1
  isplitl [H2]; · iexact H2
  iexact H3

/-- A region at given contents is the region. -/
theorem owns_reg {s : Shape} (c : Dev nD) (m : Memref sig .tc .vmem s .bf16) (X : s.Idx → Elt F .bf16) :
    (owns (c : Thread nD τ) m fullShare X : sProp 𝕄) ⊢ regAny c m := by
  unfold owns regAny
  iintro ⟨%f, -, H⟩
  iexists f; iexact H

theorem got_any (I : Ins F) (c : Dev nD) : (got I c : sProp 𝕄) ⊢ iprop(regAny c rM0 ∗ regAny c rM1 ∗ regAny c rM2) := by
  unfold got
  iintro ⟨H0, H1, H2⟩
  isplitl [H0]; · iapply (owns_reg c rM0 _); iexact H0
  isplitl [H1]; · iapply (owns_reg c rM1 _); iexact H1
  iapply (owns_reg c rM2 _); iexact H2

/-! ## The queries -/

theorem hz2 : (![0, 0] : Fin 2 → ℕ) = fun _ => 0 := funext fun a => by fin_cases a <;> rfl
theorem hz3 : (![0, 0, 0] : Fin 3 → ℕ) = fun _ => 0 := funext fun a => by fin_cases a <;> rfl

abbrev whole2 : Rect S1024x1024 := Rect.unit (s := S1024x1024) ![0, 0] S1024x1024.size inb_S1024x1024_S1024x1024_0_0
abbrev whole3 : Rect S4x256x1024 := Rect.unit (s := S4x256x1024) ![0, 0, 0] S4x256x1024.size inb_S4x256x1024_S4x256x1024_0_0_0
theorem read_wq (f : cc0_stg1_0.ty.Contents (Elt F)) : bWq.view.readAt (Elt F) whole2.toLoadRect f = f := Memref.readAt_unit_zero (Elt F) cc0_stg1_0 hz2 _ f
theorem read_wo (f : cc0_stg2_0.ty.Contents (Elt F)) : bWo.view.readAt (Elt F) whole2.toLoadRect f = f := Memref.readAt_unit_zero (Elt F) cc0_stg2_0 hz2 _ f
theorem read_x (f : cc0_stg0_0.ty.Contents (Elt F)) : bX.view.readAt (Elt F) whole3.toLoadRect f = f := Memref.readAt_unit_zero (Elt F) cc0_stg0_0 hz3 _ f
theorem write_q (f w : cc0_scratch0.ty.Contents (Elt F)) : (bQ.access whole2 : View sig .tc _ _ _).write (Elt F) f w Finset.univ = w :=
  Memref.write_access_unit_zero_univ (Elt F) cc0_scratch0 hz2 _ f w

/-- A staged operand. -/
def opnd (c : Dev nD) (b : Ref sig .tc) (f : b.ty.Contents (Elt F)) : sProp 𝕄 := (c : Thread nD τ).loc b ↦{fullShare} f

/-- The operands as staged. -/
def opnds (I : Ins F) (c : Dev nD) : sProp 𝕄 := iprop(opnd c cc0_stg0_0 (I.x c) ∗ opnd c cc0_stg1_0 (I.wq c) ∗ opnd c cc0_stg2_0 (I.wo c))

theorem wp_queries (I : Ins F) (c : Dev nD) {Q : PUnit → sProp 𝕄} {k : FVec F S1024x1024 .bf16 → P F} :
    iprop(opnds I c ∗ ∃ f, opnd c cc0_scratch0 f)
      ⊢ iprop(((opnds I c ∗ (bQ.view.loc (c : Thread nD τ) ↦{fullShare} qs I c)) -∗ wp frame (wpE (defs₀ (F := F)) 𝒱₀ (c : Thread nD τ) none) Set.univ (k (wos I c)) Q)
        -∗ wp frame (wpE (defs₀ (F := F)) 𝒱₀ (c : Thread nD τ) none) Set.univ (queries k) Q) := by
  unfold queries opnds opnd
  iintro ⟨⟨Hx, Hwq, Hwo⟩, ⟨%f, HQ⟩⟩ Hk
  iapply (wp_load 𝒱₀ (c : Thread nD τ) none Set.univ (m := bWq) (Finset.subset_univ _)) $$ Hwq; iintro Hwq
  iapply (wp_load 𝒱₀ (c : Thread nD τ) none Set.univ (m := bX) (Finset.subset_univ _)) $$ Hx; iintro Hx
  iapply (wp_load 𝒱₀ (c : Thread nD τ) none Set.univ (m := bQ) (Finset.subset_univ _)) $$ HQ; iintro HQ
  iapply (wp_store 𝒱₀ (c : Thread nD τ) none Set.univ (m := bQ) (r := Rect.unit (s := S1024x1024) ![0, 0] S1024x1024.size inb_S1024x1024_S1024x1024_0_0) (Mk := Finset.univ) (Finset.subset_univ _)) $$ HQ; iintro HQ
  iapply (wp_load 𝒱₀ (c : Thread nD τ) none Set.univ (m := bWo) (Finset.subset_univ _)) $$ Hwo; iintro Hwo
  rw [read_wq (I.wq c), read_x (I.x c), read_wo (I.wo c), write_q f (k0_pay1 (I.wq c) (I.x c))]
  iapply Hk
  isplitr [HQ]
  · isplitl [Hx]; · iexact Hx
    isplitl [Hwq] <;> iassumption
  iexact HQ

/-! ## The body -/

variable (I : Ins F) (K : Dev nD × CI → ℕ)

/-- The ten entries' kits. -/
def kits (c : Dev nD) : sProp 𝕄 :=
  iprop(kit (F := F) c 0 ∗ kit (F := F) c 1 ∗ kit (F := F) c 2 ∗ kit (F := F) c 3 ∗ kit (F := F) c 4 ∗ kit (F := F) c 5 ∗ kit (F := F) c 6 ∗ kit (F := F) c 7 ∗ kit (F := F) c 8 ∗ kit (F := F) c 9)
/-- All the cells closed. -/
def allEnds (c : Dev nD) : sProp 𝕄 := iprop(closed (F := F) c none ∗ (closed (F := F) c (rK 0) ∗ closed (F := F) c (rK 1) ∗ closed (F := F) c (rK 2)) ∗ ends (F := F) c)

/-- What the body has of its own: the two rings, the receive buffer, the queries' and the outputs' buffers. -/
def bufs (c : Dev nD) : sProp 𝕄 :=
  iprop(rest4 bK bKs kSem c (I.kk c) ∗ rest4 bV bVs vSem c (I.vv c) ∗ recvAny (F := F) c ∗ (∃ f, opnd (F := F) c cc0_scratch0 f) ∗ ∃ f, opnd (F := F) c cc0_scratch1 f)

theorem mayTile_k (c : Dev nD) (k : ℕ) (n : ℕ) : (levAts L lv : sProp 𝕄) ⊢ MayWait (c : Thread nD τ) (.dma (kSem n)) () (owe c k) := by
  refine mayWait c (.dma (kSem n)) (dueT.drop k) fun p hp => ?_
  have h0 : lvS (.dma (kSem n)) = 0 := by
    have h : ∀ n : Fin 4, lvS (.dma (kSem n.val)) = 0 := by decide
    have e : kSem n = kSem (n % 4) := by
      conv_lhs => rw [← Nat.mod_add_div n 4]
      generalize n / 4 = j
      induction j with
      | zero => rfl
      | succ j ih => exact (kSem_add (n % 4 + 4 * j)).trans ih
    rw [e]; exact h ⟨n % 4, Nat.mod_lt _ (by decide)⟩
  have h1 : ∀ p ∈ dueT, 0 < lvl p.2 := by decide
  rw [h0]; exact h1 p (List.mem_of_mem_drop hp)
theorem mayTile_v (c : Dev nD) (k : ℕ) (n : ℕ) : (levAts L lv : sProp 𝕄) ⊢ MayWait (c : Thread nD τ) (.dma (vSem n)) () (owe c k) := by
  refine mayWait c (.dma (vSem n)) (dueT.drop k) fun p hp => ?_
  have h0 : lvS (.dma (vSem n)) = 0 := by
    have h : ∀ n : Fin 4, lvS (.dma (vSem n.val)) = 0 := by decide
    have e : vSem n = vSem (n % 4) := by
      conv_lhs => rw [← Nat.mod_add_div n 4]
      generalize n / 4 = j
      induction j with
      | zero => rfl
      | succ j ih => exact (vSem_add (n % 4 + 4 * j)).trans ih
    rw [e]; exact h ⟨n % 4, Nat.mod_lt _ (by decide)⟩
  have h1 : ∀ p ∈ dueT, 0 < lvl p.2 := by decide
  rw [h0]; exact h1 p (List.mem_of_mem_drop hp)

/-- The first three heads' tiles started and the queries stored: the state before head 0. -/
theorem wp_flat_head (c : Dev nD) {Q : PUnit → sProp 𝕄} {k : FVec F S1024x1024 .bf16 → P F} :
    iprop((idle bK bKs kSem c (I.kk c) 0 ∗ idle bK bKs kSem c (I.kk c) 1 ∗ idle bK bKs kSem c (I.kk c) 2 ∗ idle bK bKs kSem c (I.kk c) 3)
        ∗ (idle bV bVs vSem c (I.vv c) 0 ∗ idle bV bVs vSem c (I.vv c) 1 ∗ idle bV bVs vSem c (I.vv c) 2 ∗ idle bV bVs vSem c (I.vv c) 3)
        ∗ opnds I c ∗ (∃ f, opnd c cc0_scratch0 f) ∗ ∃ f, opnd c cc0_scratch1 f)
      ⊢ iprop(((headSt I c 0 ∗ opnds I c) -∗ wp frame (wpE (defs₀ (F := F)) 𝒱₀ (c : Thread nD τ) none) Set.univ (k (wos I c)) Q)
        -∗ wp frame (wpE (defs₀ (F := F)) 𝒱₀ (c : Thread nD τ) none) Set.univ (start c 0 <| start c 1 <| start c 2 <| queries k) Q) := by
  iintro ⟨⟨Hk0, Hk1, Hk2, Hk3⟩, ⟨Hv0, Hv1, Hv2, Hv3⟩, Ho, HQ, HA⟩ Hk
  iapply (wp_start I c 0) $$ [Hk0 Hv0]
  · isplitl [Hk0] <;> iassumption
  iintro ⟨Hk0, Hv0⟩
  iapply (wp_start I c 1) $$ [Hk1 Hv1]
  · isplitl [Hk1] <;> iassumption
  iintro ⟨Hk1, Hv1⟩
  iapply (wp_start I c 2) $$ [Hk2 Hv2]
  · isplitl [Hk2] <;> iassumption
  iintro ⟨Hk2, Hv2⟩
  iapply (wp_queries I c) $$ [Ho HQ]
  · isplitl [Ho] <;> iassumption
  iintro ⟨Ho, HQ⟩
  iapply Hk
  isplitr [Ho]
  · unfold headSt kSt vSt ringSt
    rw [show slotSt bK bKs kSem c (I.kk c) 0 = flying bK bKs kSem c (I.kk c) 0 from if_pos (by decide),
      show slotSt bK bKs kSem c (I.kk c) (0 + 1) = flying bK bKs kSem c (I.kk c) 1 from if_pos (by decide),
      show slotSt bK bKs kSem c (I.kk c) (0 + 2) = flying bK bKs kSem c (I.kk c) 2 from if_pos (by decide),
      show slotSt bV bVs vSem c (I.vv c) 0 = flying bV bVs vSem c (I.vv c) 0 from if_pos (by decide),
      show slotSt bV bVs vSem c (I.vv c) (0 + 1) = flying bV bVs vSem c (I.vv c) 1 from if_pos (by decide),
      show slotSt bV bVs vSem c (I.vv c) (0 + 2) = flying bV bVs vSem c (I.vv c) 2 from if_pos (by decide)]
    isplitl [Hk0 Hk1 Hk2 Hk3]
    · isplitl [Hk0]; · iexact Hk0
      isplitl [Hk1]; · iexact Hk1
      isplitl [Hk2] <;> iassumption
    isplitl [Hv0 Hv1 Hv2 Hv3]
    · isplitl [Hv0]; · iexact Hv0
      isplitl [Hv1]; · iexact Hv1
      isplitl [Hv2] <;> iassumption
    isplitl [HQ]; · iexact HQ
    unfold opnd
    icases HA with ⟨%f, HA⟩
    iexists f
    isplitr; · ipureintro; exact heads_zero I c f
    iexact HA
  iexact Ho

theorem rest_owns (c : Dev nD) : iprop(headSt I c 32 ∗ drop4 bK c (I.kk c) ∗ drop4 bV c (I.vv c) ∗ got I c ∗ regRest c) ⊢ (bufs I c : sProp 𝕄) := by
  unfold headSt kSt vSt bufs opnd
  iintro ⟨⟨Hk, Hv, HQ, ⟨%f, -, HA⟩⟩, Hdk, Hdv, Hg, Hr⟩
  isplitl [Hk Hdk]
  · iapply (rest_close bK bKs kSem c (I.kk c) kSem_add)
    isplitl [Hk] <;> iassumption
  isplitl [Hv Hdv]
  · iapply (rest_close bV bVs vSem c (I.vv c) vSem_add)
    isplitl [Hv] <;> iassumption
  isplitl [Hg Hr]
  · iapply (recv_join c)
    isplitl [Hg]
    · iapply (got_any I c); iexact Hg
    iexact Hr
  isplitl [HQ]; · iexists (qs I c); iexact HQ
  iexists f; iexact HA

/-- The staging buffer of the result, cut as the reduction takes it. -/
theorem out_cut (c : Dev nD) (f : S1024x1024.Idx → Elt F .bf16) : (opnd c cc0_stg3_0 f : sProp 𝕄)
    ⊢ iprop(outAny c (a1 (px 4 c)) 512 ∗ outAny c (a2 (px 3 c)) 256 ∗ outAny c (a2 c) 256) := by
  have h0 : (opnd c cc0_stg3_0 f : sProp 𝕄) ⊢ outAny c 0 1024 := by
    unfold opnd outAny outPts
    rw [rows_univ]
    iintro H; iexists f; iexact H
  have h1 : (outAny c 0 1024 : sProp 𝕄) ⊢ iprop(outAny c (a1 (px 4 c)) 512 ∗ outAny c (a1 c) 512) := outAny_split rfl (half1 c)
  have h2 : (outAny c (a1 c) 512 : sProp 𝕄) ⊢ iprop(outAny c (a2 (px 3 c)) 256 ∗ outAny c (a2 c) 256) := outAny_split rfl (half2 c)
  iintro H
  ihave H := h0 $$ H
  ihave H := h1 $$ H
  icases H with ⟨H1, H⟩
  ihave H := h2 $$ H
  isplitl [H1] <;> iassumption

set_option maxHeartbeats 1000000 in
/-- The body on one device: from the state the launch leaves, the whole sum in the result's staging buffer, every cell
    closed and every buffer given back. -/
theorem wp_flat (c : Dev nD) {Q : PUnit → sProp 𝕄} :
    iprop(records I K ∗ levAts L lv ∗ barKit c ∗ kits c ∗ bufs I c ∗ opnds I c ∗ (∃ f, opnd c cc0_stg3_0 f) ∗ owing c (owe c 0))
      ⊢ iprop(((owing c 0 ∗ opnd c cc0_stg3_0 (total I) ∗ opnds I c ∗ bufs I c ∗ allEnds c)
          -∗ wp frame (wpE (defs₀ (F := F)) 𝒱₀ (c : Thread nD τ) none) Set.univ (.ret ⟨⟩ : P F) Q)
        -∗ wp frame (wpE (defs₀ (F := F)) 𝒱₀ (c : Thread nD τ) none) Set.univ (flat (F := F)) Q) := by
  unfold flat kits bufs allEnds
  simp only [wp_deviceId]
  iintro ⟨#HR, #HL, Hbar, ⟨Hk0, Hk1, Hk2, Hk3, Hk4, Hk5, Hk6, Hk7, Hk8, Hk9⟩, ⟨HrK, HrV, Hrcv, HQ, HA⟩, Hops, ⟨%fo, Hout⟩, HO⟩ Hk
  ihave Hrcv := (recv_split c) $$ Hrcv
  icases Hrcv with ⟨Hreg, Hrr⟩
  ihave Hout := (out_cut c fo) $$ Hout
  icases Hout with ⟨Ho1, Ho2, Ho3⟩
  ihave HrK := (rest_open bK bKs kSem c (I.kk c)) $$ HrK
  icases HrK with ⟨HrK, HdK⟩
  ihave HrV := (rest_open bV bVs vSem c (I.vv c)) $$ HrV
  icases HrV with ⟨HrV, HdV⟩
  unfold kit
  icases Hk0 with ⟨Ht0, Hr0, Hs0⟩
  icases Hk1 with ⟨Ht1, Hr1, Hs1⟩
  icases Hk2 with ⟨Ht2, Hr2, Hs2⟩
  iapply (wp_barrier I K c) $$ [Hbar Hreg HO]
  · isplitr; · iexact HR
    isplitr; · iexact HL
    isplitl [Hbar]; · iexact Hbar
    isplitl [Hreg] <;> iassumption
  iintro ⟨HO, Hz, Hp2, Hp1, Hp0⟩
  iapply (wp_flat_head I c) $$ [HrK HrV Hops HQ HA]
  · isplitl [HrK]; · iexact HrK
    isplitl [HrV]; · iexact HrV
    isplitl [Hops]; · iexact Hops
    isplitl [HQ] <;> iassumption
  iintro ⟨HH, Hops⟩
  iapply (wp_heads I c (mayTile_k c 3) (mayTile_v c 3) 16 0 (by decide)) $$ [HH HO]
  · isplitr; · iexact HL
    isplitl [HH] <;> iassumption
  iintro ⟨HH, HO⟩
  iapply (wp_first I K c) $$ [HH Ho1 Hp0 HO Ht0]
  · isplitr; · iexact HR
    isplitl [HH]; · iexact HH
    isplitl [Ho1]; · iexact Ho1
    isplitl [Hp0]; · iexact Hp0
    isplitl [HO] <;> iassumption
  iintro ⟨HH, Hc0, HO⟩
  iapply (wp_heads I c (mayTile_k c 4) (mayTile_v c 4) 8 16 (by decide)) $$ [HH HO]
  · isplitr; · iexact HL
    isplitl [HH] <;> iassumption
  iintro ⟨HH, HO⟩
  iapply (wp_second I K c) $$ [HH Ho2 Hp1 HO Ht1 Hr0]
  · isplitr; · iexact HR
    isplitr; · iexact HL
    isplitl [HH]; · iexact HH
    isplitl [Ho2]; · iexact Ho2
    isplitl [Hp1]; · iexact Hp1
    isplitl [HO]; · iexact HO
    isplitl [Ht1] <;> iassumption
  iintro ⟨HH, Hc1, HO, Hz0, Hg0, Ho4⟩
  iapply (wp_heads I c (mayTile_k c 5) (mayTile_v c 5) 8 24 (by decide)) $$ [HH HO]
  · isplitr; · iexact HL
    isplitl [HH] <;> iassumption
  iintro ⟨HH, HO⟩
  iapply (wp_third I K c) $$ [HH Ho3 Hp2 HO Ht2 Hr1 Hr2 Hg0 Ho4]
  · isplitr; · iexact HR
    isplitr; · iexact HL
    isplitl [HH]; · iexact HH
    isplitl [Ho3]; · iexact Ho3
    isplitl [Hp2]; · iexact Hp2
    isplitl [HO]; · iexact HO
    isplitl [Ht2]; · iexact Ht2
    isplitl [Hr1]; · iexact Hr1
    isplitl [Hr2]; · iexact Hr2
    isplitl [Hg0] <;> iassumption
  iintro ⟨HH, Hc2, HO, Hz1, Hz2, Hg, Hv4, Haw⟩
  iapply (wp_gather I K c) $$ [Hv4 Haw HO Hk3 Hk4 Hk5 Hk6 Hk7 Hk8 Hk9 Hc0 Hs0 Hc1 Hs1 Hc2 Hs2]
  · isplitr; · iexact HR
    isplitr; · iexact HL
    isplitl [Hv4]; · iexact Hv4
    isplitl [Haw]; · iexact Haw
    isplitl [HO]; · iexact HO
    isplitl [Hk3 Hk4 Hk5 Hk6 Hk7 Hk8 Hk9]
    · unfold kit
      isplitl [Hk3]; · iexact Hk3
      isplitl [Hk4]; · iexact Hk4
      isplitl [Hk5]; · iexact Hk5
      isplitl [Hk6]; · iexact Hk6
      isplitl [Hk7]; · iexact Hk7
      isplitl [Hk8] <;> iassumption
    isplitl [Hc0 Hs0]; · isplitl [Hc0] <;> iassumption
    isplitl [Hc1 Hs1]; · isplitl [Hc1] <;> iassumption
    isplitl [Hc2] <;> iassumption
  iintro ⟨HO, Hout, He⟩
  iapply Hk
  isplitl [HO]; · iexact HO
  isplitl [Hout]; · unfold outPts opnd; iexact Hout
  isplitl [Hops]; · iexact Hops
  isplitl [HH HdK HdV Hg Hrr]
  · ihave H := (rest_owns I c) $$ [HH HdK HdV Hg Hrr]
    · isplitl [HH]; · iexact HH
      isplitl [HdK]; · iexact HdK
      isplitl [HdV]; · iexact HdV
      isplitl [Hg] <;> iassumption
    unfold bufs
    iexact H
  isplitl [Hz]; · iexact Hz
  isplitl [Hz0 Hz1 Hz2]
  · isplitl [Hz0]; · iexact Hz0
    isplitl [Hz1] <;> iassumption
  iexact He

end Cert.KernelIdeal.Mha

end
-- ==== Proof.Start.lean ====
/- The launch's ghost resources: the cells' invariants allocated on every device, the duty tokens dealt to the devices
   that pay, and the launch credit dealt to the cells that collect. -/
module

public import proofs.«01_k».proof.Proof.Body

@[expose] public section

set_option maxRecDepth 16384

noncomputable section

namespace Cert.KernelIdeal.Mha

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Conjunctions over the cells -/

theorem bigSep_opt {α : Type} [Fintype α] [DecidableEq α] (Φ : Option α → sProp 𝕄) :
    bigSep Finset.univ Φ = iprop(Φ none ∗ bigSep Finset.univ fun a => Φ (some a)) := by
  have h : (Finset.univ : Finset (Option α)) = insert none (Finset.univ.map Function.Embedding.some) := by
    ext x; cases x <;> simp
  rw [h, bigSep_insert (by simp), bigSep_map]; rfl

theorem bigSep_pair10 (Φ : Bool × Fin 10 → sProp 𝕄) :
    bigSep Finset.univ Φ = iprop((bigSep Finset.univ fun i => Φ (false, i)) ∗ bigSep Finset.univ fun i => Φ (true, i)) := by
  rw [bigSep_univ_prod]
  exact (bigSep_univ_eq_bigSepL [false, true] (by decide) (by decide) _).trans rfl

theorem bigSep_ci (Φ : CI → sProp 𝕄) :
    bigSep Finset.univ Φ = iprop(Φ none ∗ (bigSep Finset.univ fun i => Φ (sK i)) ∗ bigSep Finset.univ fun i => Φ (rK i)) := by
  rw [bigSep_opt, bigSep_pair10]

theorem ten (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  (bigSep_univ_eq_bigSepL [(0 : Fin 10), 1, 2, 3, 4, 5, 6, 7, 8, 9] (by decide) (by decide) _).trans rfl
theorem three (Φ : Fin 3 → sProp 𝕄) : bigSep Finset.univ Φ = iprop(Φ 0 ∗ Φ 1 ∗ Φ 2) :=
  (bigSep_univ_eq_bigSepL [(0 : Fin 3), 1, 2] (by decide) (by decide) _).trans rfl

/-- A family dealt to the partners, each member along its own exclusive-or. -/
theorem deal {ι : Type} [Fintype ι] [DecidableEq ι] (x : ι → Fin 8) (Φ : ι → Dev nD → sProp 𝕄) :
    (bigSep Finset.univ fun c : Dev nD => bigSep Finset.univ fun i => Φ i c) = bigSep Finset.univ fun c : Dev nD => bigSep Finset.univ fun i => Φ i (px (x i) c) := by
  rw [BI.bigSep_univ_comm, BI.bigSep_univ_comm (fun (c : Dev nD) i => Φ i (px (x i) c))]
  exact bigSep_congr fun i _ => bigSep_univ_equiv (pxEquiv (x i)) (Φ i)

/-! ## Cells and tokens as minted -/

theorem kcell_inj : Function.Injective (fun p : Dev nD × CI => kcell p.1 p.2) := by
  rintro ⟨c, x⟩ ⟨c', x'⟩ h
  have h1 : c = c' := congrArg (fun g : GSem nD τ sig => g.1.1) h
  have h2 : x = x' := csem_inj (congrArg Prod.snd h)
  rw [h1, h2]
def ringCells : Finset (GSem nD τ sig) := Finset.univ.map ⟨fun p : Dev nD × CI => kcell p.1 p.2, kcell_inj⟩

/-- A device's own cells' duties: the barrier's three, one at each entry. -/
abbrev TI : Type := Fin 3 ⊕ (Bool × Fin 10)
abbrev tokOf (p : Dev nD × TI) : GSem nD τ sig × ℕ × Fin 3 := match p.2 with
  | .inl j => (kcell p.1 none, 0, j)
  | .inr q => (kcell p.1 (some q), 0, 0)
theorem tokOf_inj : Function.Injective tokOf := by
  rintro ⟨c, t⟩ ⟨c', t'⟩ h
  rcases t with j | q <;> rcases t' with j' | q'
  · have h1 : c = c' := congrArg (fun x : GSem nD τ sig × ℕ × Fin 3 => x.1.1.1) h
    have h2 : j = j' := congrArg (fun x : GSem nD τ sig × ℕ × Fin 3 => x.2.2) h
    rw [h1, h2]
  · exact absurd (csem_inj (show csem none = csem (some q') from congrArg (fun x : GSem nD τ sig × ℕ × Fin 3 => x.1.2) h)) (by simp)
  · exact absurd (csem_inj (show csem (some q) = csem none from congrArg (fun x : GSem nD τ sig × ℕ × Fin 3 => x.1.2) h)) (by simp)
  · have h1 : c = c' := congrArg (fun x : GSem nD τ sig × ℕ × Fin 3 => x.1.1.1) h
    have h2 : q = q' := Option.some.inj (csem_inj (congrArg (fun x : GSem nD τ sig × ℕ × Fin 3 => x.1.2) h))
    rw [h1, h2]
def ringToks : Finset (GSem nD τ sig × ℕ × Fin 3) := Finset.univ.map ⟨tokOf, tokOf_inj⟩

/-- The ghost state at the launch. -/
def u₀ : UU :=
  (initOf (Pipeline.cells cfgs cellOf_inj) (Pipeline.launchToks cfgs cellOf_inj), (initOf ringCells ringToks, (1 : Counters)))

variable (I : Ins F)

/-- The tokens of a device's own cells. -/
def mint (c : Dev nD) : sProp 𝕄 :=
  iprop((bigSep Finset.univ fun j : Fin 3 => dutyTok ER (kcell c none) 0 j)
    ∗ (bigSep Finset.univ fun i : Fin 10 => dutyTok ER (kcell c (sK i)) 0 (0 : Fin 3)) ∗ bigSep Finset.univ fun i : Fin 10 => dutyTok ER (kcell c (rK i)) 0 (0 : Fin 3))
/-- The tokens of the duties a device pays. -/
def payToks (c : Dev nD) : sProp 𝕄 :=
  iprop((bigSep Finset.univ fun j : Fin 3 => dutyTok ER (kcell (px (xb j) c) none) 0 j)
    ∗ (bigSep Finset.univ fun i : Fin 10 => dutyTok ER (kcell c (sK i)) 0 (0 : Fin 3)) ∗ bigSep Finset.univ fun i : Fin 10 => dutyTok ER (kcell (px (xm i) c) (rK i)) 0 (0 : Fin 3))

theorem toks_around : (bigSep Finset.univ fun c : Dev nD => (mint c : sProp 𝕄)) = bigSep Finset.univ fun c : Dev nD => payToks c := by
  unfold mint payToks
  rw [bigSep_sep', bigSep_sep', bigSep_sep', bigSep_sep', deal xb (fun j c => (dutyTok ER (kcell c none) 0 j : sProp 𝕄)),
    deal xm (fun i c => (dutyTok ER (kcell c (rK i)) 0 (0 : Fin 3) : sProp 𝕄))]

/-- What the launch element gives a device. -/
def G (c : Dev nD) : sProp 𝕄 :=
  iprop((bigSep Finset.univ fun x : CI => roundState ER (Rd I) (kcell c x) 0)
    ∗ (bigSep Finset.univ fun x : CI => iprop(place0 (F := F) c x ∗ reached ER (kcell c x) 0)) ∗ mint c)

theorem fund_ring : BI.own (ER (initOf ringCells ringToks)) ⊢ (|==> bigSep Finset.univ (G I) : sProp 𝕄) := by
  have hX (Φ : GSem nD τ sig → sProp 𝕄) : bigSep ringCells Φ = bigSep Finset.univ fun c : Dev nD => bigSep Finset.univ fun x : CI => Φ (kcell c x) := by
    unfold ringCells; rw [bigSep_map, bigSep_univ_prod]; rfl
  have hT : bigSep ringToks (fun x => (dutyTok ER x.1 x.2.1 x.2.2 : sProp 𝕄)) = bigSep Finset.univ fun c : Dev nD => mint c := by
    unfold ringToks; rw [bigSep_map, bigSep_univ_prod]
    exact bigSep_congr fun c _ => by
      unfold mint
      rw [BI.bigSep_univ_sum, bigSep_pair10]; rfl
  iintro HX
  imod (Rounds.fund ER (Rd I) ringCells ringToks) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G place0; simp only [bigSep_sep']
  isplitl [Hst']; · iexact Hst'
  isplitl [Hat' Hr']
  · isplitl [Hat'] <;> iassumption
  iexact Htok'

/-! ## The semaphores -/

/-- The kernel's own semaphores: the entries', and the two rings'. -/
abbrev OS : Type := (Bool × Fin 10) ⊕ (Fin 4 ⊕ Fin 4)
abbrev osem : OS → SemLoc sig
  | .inl p => csem (some p)
  | .inr (.inl n) => .dma (kSem n.val)
  | .inr (.inr n) => .dma (vSem n.val)

theorem ownSemFacts : Pipeline.OwnSemFacts cfg0.spec osem := by decide +kernel

theorem ownSems0_eq (c : Dev nD) : (Pipeline.ownSems0 (Ix := Unit) (Name := ℕ) (U := UU) (Lvl := ℕ) (Val := Elt F) (τ := τ) osem c : sProp 𝕄)
    = iprop((bigSep Finset.univ fun p : Bool × Fin 10 => semVal (kcell c (some p)) 0) ∗ sems kSem c ∗ sems vSem c) := by
  unfold Pipeline.ownSems0
  rw [BI.bigSep_univ_sum, BI.bigSep_univ_sum, four, four]; rfl
theorem unscopedSems0_eq (c : Dev nD) : (unscopedSems0 c : sProp 𝕄) = semVal (kcell c none) 0 := by
  unfold unscopedSems0; rw [bigSep_eq_bigSepL_of_eq [SemLoc.reg barS] (by decide) (by decide)]; rfl

/-- A device's cells made invariants. -/
theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun x : CI => iprop(∃ κ : ℕ, cellInv ER (Rd I) κ (kcell c x)))
          ∗ ((bigSep Finset.univ fun x : CI => place0 (F := F) c x) ∗ (bigSep Finset.univ fun x : CI => reached ER (kcell c x) 0)) ∗ mint c ∗ sems kSem c ∗ sems vSem c) := by
  rw [ownSems0_eq, unscopedSems0_eq]
  unfold G
  rw [bigSep_sep']
  iintro ⟨⟨Hos, Hks, Hvs⟩, Hus, Hst, Hat, Htok⟩
  imod (show iprop((semVal (kcell c none) 0 ∗ bigSep Finset.univ fun p : Bool × Fin 10 => semVal (kcell c (some p)) 0) ∗ bigSep Finset.univ fun x : CI => roundState ER (Rd I) (kcell c x) 0)
      ⊢ (|={Set.univ}=> bigSep Finset.univ fun x : CI => iprop(∃ κ : ℕ, cellInv ER (Rd I) κ (kcell c x)) : sProp 𝕄) from by
        rw [← bigSep_opt (fun x : CI => (semVal (kcell c x) 0 : sProp 𝕄)), ← bigSep_sep']
        exact (bigSep_mono fun x _ => (Rounds.body_intro ER (Rd I) (kcell c x)).trans inv_alloc).trans (bigSep_fupd _ _)) $$ [Hus Hos Hst] with Hinv
  · isplitr [Hst]
    · isplitl [Hus] <;> iassumption
    iexact Hst
  imodintro
  isplitl [Hinv]; · iexact Hinv
  isplitl [Hat]; · iexact Hat
  isplitl [Htok]; · iexact Htok
  isplitl [Hks] <;> iassumption

/-- What stays with a device. -/
def linear (c : Dev nD) : sProp 𝕄 := iprop((bigSep Finset.univ fun x : CI => place0 (F := F) c x) ∗ payToks (F := F) c ∗ sems (F := F) kSem c ∗ sems (F := F) vSem c)
/-- What a device starts with besides the credit. -/
def G' (c : Dev nD) : sProp 𝕄 := iprop((∃ K, records I K) ∗ linear (F := F) c)

theorem bigSep_with_persistent {ι : Type} [DecidableEq ι] {S : Finset ι} {R : sProp 𝕄} [BI.Persistent R] {Φ Ψ : ι → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem linear_all : (bigSep Finset.univ fun c : Dev nD => (linear c : sProp 𝕄))
    = iprop((bigSep Finset.univ fun c : Dev nD => bigSep Finset.univ fun x : CI => place0 (F := F) c x) ∗ (bigSep Finset.univ fun c : Dev nD => payToks (F := F) c)
      ∗ bigSep Finset.univ fun c : Dev nD => iprop(sems (F := F) kSem c ∗ sems (F := F) vSem c)) := by
  unfold linear
  rw [bigSep_sep', bigSep_sep']

theorem bigSep_part {α : Type} [DecidableEq α] {S T : Finset α} (h : T ⊆ S) (Φ : α → sProp 𝕄) : bigSep S Φ ⊢ bigSep T Φ := by
  rw [BI.bigSep_sdiff_split h]
  show iprop(bigSep T Φ ∗ bigSep (S \ T) Φ) ⊢ _
  iintro ⟨H, -⟩; iexact H

theorem regroup :
    (bigSep Finset.univ fun c : Dev nD => iprop((bigSep Finset.univ fun x : CI => iprop(∃ κ : ℕ, cellInv ER (Rd I) κ (kcell c x)))
          ∗ ((bigSep Finset.univ fun x : CI => place0 (F := F) c x) ∗ (bigSep Finset.univ fun x : CI => reached ER (kcell c x) 0)) ∗ mint c ∗ sems kSem c ∗ sems vSem c) : sProp 𝕄)
      ⊢ bigSep Finset.univ (G' I) := by
  rw [bigSep_sep', bigSep_sep', bigSep_sep', bigSep_sep', toks_around,
    ← bigSep_univ_prod (fun p : Dev nD × CI => iprop(∃ κ : ℕ, cellInv ER (Rd I) κ (kcell p.1 p.2))),
    ← bigSep_univ_prod (fun p : Dev nD × CI => (reached ER (kcell p.1 p.2) 0 : sProp 𝕄))]
  iintro ⟨HI, ⟨Hat, #HR⟩, Htok, Hs⟩
  ihave HK := (BI.bigSep_exists_pi Finset.univ (fun (p : Dev nD × CI) (κ : ℕ) => (cellInv ER (Rd I) κ (kcell p.1 p.2) : sProp 𝕄))) $$ HI
  icases HK with ⟨%K, #HI⟩
  iapply (bigSep_with_persistent (R := records I K) (Φ := fun c => linear c) fun c _ => show iprop(records I K ∗ linear c) ⊢ G' I c from by
    unfold G'
    iintro ⟨#H, Hl⟩
    isplitr; · iexists K; iexact H
    iexact Hl)
  isplitr
  · unfold records; isplitl; · iexact HI
    iexact HR
  · iapply (Entails.of_eq linear_all.symm)
    isplitl [Hat]; · iexact Hat
    isplitl [Htok]; · iexact Htok
    iexact Hs

theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The launch credit -/

/-- What the launch credits a device's cells. -/
def dues (c : Dev nD) : sProp 𝕄 := iprop(paid (F := F) c none ∗ bigSep Finset.univ fun i : Fin 10 => paid (F := F) c (rK i))

abbrev O₀ (c : Dev nD) : CellTallies nD τ sig Unit := owe c 0

/-- The cells the launch credits. -/
abbrev dueSem : Option (Fin 10) → SemLoc sig := fun o => csem (o.map fun i => (true, i))
theorem dueSem_inj : Function.Injective dueSem := fun a b h => by
  have h' := csem_inj h
  rcases a with _ | a <;> rcases b with _ | b
  · rfl
  · exact nomatch h'
  · exact nomatch h'
  · exact congrArg some (congrArg Prod.snd (Option.some.inj h'))

theorem creds (c : Dev nD) : (Pipeline.launchCred O₀ c : sProp 𝕄) ⊢ dues c := by
  unfold Pipeline.launchCred dues paid
  refine (bigSep_part (Finset.subset_univ (Finset.univ.map ⟨dueSem, dueSem_inj⟩)) _).trans ?_
  rw [bigSep_map, bigSep_opt]
  iintro ⟨Hn, Hr⟩
  isplitl [Hn]
  · iapply (Entails.of_eq (congrArg (fun t => (cred t : sProp 𝕄)) (launch_at c none (Or.inl rfl)))); iexact Hn
  · iapply (Entails.of_eq (bigSep_congr (s := Finset.univ) fun i _ => congrArg (fun t => (cred t : sProp 𝕄)) (launch_at c (rK i) (Or.inr ⟨i, rfl⟩)))); iexact Hr

/-- What a device needs of the exchange for its body. -/
theorem kits_intro (c : Dev nD) : iprop((bigSep Finset.univ fun x : CI => place0 (F := F) c x) ∗ payToks c ∗ dues c) ⊢ (iprop(barKit c ∗ kits c) : sProp 𝕄) := by
  have hk : (kits c : sProp 𝕄) = bigSep Finset.univ fun i : Fin 10 => kit c i := (ten _).symm
  rw [hk]
  unfold payToks dues barKit kit toks
  rw [bigSep_ci, three, bigSep_sep', bigSep_sep', bigSep_sep', bigSep_sep']
  iintro ⟨⟨Hp, Hps, Hpr⟩, ⟨Hb, Hts, Htr⟩, Hd, Hdr⟩
  isplitl [Hp Hb Hd]
  · isplitl [Hb]; · iexact Hb
    isplitl [Hd] <;> iassumption
  isplitl [Hts Htr]; · isplitl [Hts] <;> iassumption
  isplitl [Hpr Hdr]; · isplitl [Hdr] <;> iassumption
  iexact Hps

theorem allEnds_elim (c : Dev nD) : (allEnds c : sProp 𝕄) ⊢ iprop(semVal (kcell c none) 0 ∗ bigSep Finset.univ fun p : Bool × Fin 10 => semVal (kcell c (some p)) 0) := by
  rw [bigSep_pair10, ten, ten]
  unfold allEnds ends closed
  iintro ⟨Hn, ⟨H0, H1, H2⟩, ⟨H3, H4, H5, H6, H7, H8, H9⟩, Hs⟩
  isplitl [Hn]; · iexact Hn
  isplitl [Hs]; · iexact Hs
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8] <;> iassumption

end Cert.KernelIdeal.Mha

end
-- ==== Proof.Launch.lean ====
/- The launch: the body's contract from the flat run, the buffers sorted at the entry and at the exit, and the run of the
   whole program from any memory with zero counters. -/
module

public import proofs.«01_k».proof.Proof.Start
public import Idealize.ShloMosaic.Lib.Pipeline.CollectiveSegs
public import Idealize.ShloMosaic.Lib.Pipeline.Value
public import Idealize.ShloMosaic.Lib.Tactic

@[expose] public section

set_option maxRecDepth 16384

noncomputable section

namespace Cert.KernelIdeal.Mha

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state at the launch. -/
def s₀ : MemSt nD τ sig (Elt F) := ⟨m, fun _ => 0, ρ⟩

/-- The devices' arguments as launched. -/
def ins : Ins F where
  x d := m ((d : Thread nD τ).loc main_arg0)
  wq d := m ((d : Thread nD τ).loc main_arg1)
  kk d := m ((d : Thread nD τ).loc main_arg2)
  vv d := m ((d : Thread nD τ).loc main_arg3)
  wo d := m ((d : Thread nD τ).loc main_arg4)

/-- The arguments the kernel leaves in their arrays. -/
def kv (c : Dev nD) : sProp 𝕄 := iprop(opnd c main_arg2 ((ins m).kk c) ∗ opnd c main_arg3 ((ins m).vv c))

/-- What a device starts from. -/
def begins (c : Dev nD) : sProp 𝕄 := iprop(G' (ins m) c ∗ dues (F := F) c ∗ levAts L lv ∗ kv m c)

/-- The buffers of the body, at any contents. -/
def scratch (c : Dev nD) : sProp 𝕄 :=
  iprop((∃ f, opnd (F := F) c cc0_scratch0 f) ∗ (∃ f, opnd (F := F) c cc0_scratch1 f) ∗ (∃ f, opnd (F := F) c cc0_scratch2 f)
    ∗ (∃ f, opnd (F := F) c cc0_scratch3 f) ∗ ∃ f, opnd (F := F) c cc0_scratch4 f)

def Φ₀ (c : Dev nD) : sProp 𝕄 := iprop(begins m c ∗ scratch (F := F) c)
def Φ₁ (c : Dev nD) : sProp 𝕄 := iprop(bufs (ins m) c ∗ allEnds (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m).x c
    | ⟨1, _⟩ => (ins m).wq c
    | ⟨2, _⟩ => (ins m).wo c
    | ⟨3, _⟩ => total (ins m)
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The windows are the whole arrays -/

/-- The one block of a window over the whole array, read, is the array. -/
theorem read_blk0 (t : Fin cfg0.N) (f : main_arg0.ty.Contents (Elt F)) : (win0_0.blk t).view.read (Elt F) f = f :=
  funext fun i => congrArg f (funext fun a => Fin.ext (by
    show 0 * _ + 1 * (i a : Nat) = _; omega))
theorem read_blk1 (t : Fin cfg0.N) (f : main_arg1.ty.Contents (Elt F)) : (win0_1.blk t).view.read (Elt F) f = f :=
  funext fun i => congrArg f (funext fun a => Fin.ext (by
    show 0 * _ + 1 * (i a : Nat) = _; omega))
theorem read_blk2 (t : Fin cfg0.N) (f : main_arg4.ty.Contents (Elt F)) : (win0_2.blk t).view.read (Elt F) f = f :=
  funext fun i => congrArg f (funext fun a => Fin.ext (by
    show 0 * _ + 1 * (i a : Nat) = _; omega))
theorem read_blk3 (t : Fin cfg0.N) (f : main_v1.ty.Contents (Elt F)) : (win0_3.blk t).view.read (Elt F) f = f :=
  funext fun i => congrArg f (funext fun a => Fin.ext (by
    show 0 * _ + 1 * (i a : Nat) = _; omega))

abbrev tt : Fin cfg0.N := t0_0

theorem fetch_0 (t : Fin cfg0.N) : (cfg0.win (0 : Fin 4)).fetch t = true := by rw [fin_N0 t]; rfl
theorem fetch_1 (t : Fin cfg0.N) : (cfg0.win (1 : Fin 4)).fetch t = true := by rw [fin_N0 t]; rfl
theorem fetch_2 (t : Fin cfg0.N) : (cfg0.win (2 : Fin 4)).fetch t = true := by rw [fin_N0 t]; rfl

theorem before_0 (c : Dev nD) (d) : (dats m ρ 0 c).before (0 : Fin 4) tt d = (ins m).x c := by
  unfold Dat.before; rw [if_pos (fetch_0 tt)]; exact read_blk0 (F := F) tt _
theorem before_1 (c : Dev nD) (d) : (dats m ρ 0 c).before (1 : Fin 4) tt d = (ins m).wq c := by
  unfold Dat.before; rw [if_pos (fetch_1 tt)]; exact read_blk1 (F := F) tt _
theorem before_2 (c : Dev nD) (d) : (dats m ρ 0 c).before (2 : Fin 4) tt d = (ins m).wo c := by
  unfold Dat.before; rw [if_pos (fetch_2 tt)]; exact read_blk2 (F := F) tt _

/-! ## The body's contract -/

/-- A staging buffer at the contents `X`. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_elim (c : Dev nD) (b : Ref sig .tc) (X : b.ty.Contents (Elt F)) : (stg c b X : sProp 𝕄) ⊢ opnd c b X := by
  unfold stg opnd
  iintro ⟨%f, %h, H⟩
  subst h; iexact H
theorem stg_intro (c : Dev nD) (b : Ref sig .tc) (X : b.ty.Contents (Elt F)) : (opnd c b X : sProp 𝕄) ⊢ stg c b X := by
  unfold stg opnd
  iintro H
  iexists X
  isplitr; · ipureintro; rfl
  iexact H

def bodyPre (c : Dev nD) : sProp 𝕄 :=
  iprop(Φ₀ m c ∗ (dats m ρ 0 c).owesAt () tt.castSucc
    ∗ (∃ d, stg c cc0_stg0_0 ((dats m ρ 0 c).before (0 : Fin 4) tt d))
    ∗ (∃ d, stg c cc0_stg1_0 ((dats m ρ 0 c).before (1 : Fin 4) tt d))
    ∗ (∃ d, stg c cc0_stg2_0 ((dats m ρ 0 c).before (2 : Fin 4) tt d))
    ∗ (∃ d, stg c cc0_stg3_0 ((dats m ρ 0 c).before (3 : Fin 4) tt d)))
def bodyPost (c : Dev nD) : sProp 𝕄 :=
  iprop(Φ₁ m c ∗ (dats m ρ 0 c).owesAt () tt.succ
    ∗ stg c cc0_stg0_0 ((ins m).x c) ∗ stg c cc0_stg1_0 ((ins m).wq c) ∗ stg c cc0_stg2_0 ((ins m).wo c) ∗ stg c cc0_stg3_0 (total (ins m)))

theorem owes_in (c : Dev nD) : ((dats m ρ 0 c).owesAt () tt.castSucc : sProp 𝕄) ⊢ owing c (owe c 0) := by
  unfold Dat.owesAt Pipeline.owesWithin owing
  rw [show (dats m ρ 0 c).owed tt.castSucc = O₀ c from rfl]
  iintro ⟨%W, %hW, HO⟩
  iexists W; iexact HO
theorem owes_out (c : Dev nD) : (owing c 0 : sProp 𝕄) ⊢ (dats m ρ 0 c).owesAt () tt.succ := by
  unfold Dat.owesAt Pipeline.owesWithin owing
  rw [show (dats m ρ 0 c).owed tt.succ = 0 from rfl]
  iintro ⟨%W, HO⟩
  iexists W
  isplitr; · ipureintro; exact fun _ _ => Or.inl trivial
  iexact HO

/-- A buffer held whole, as its memref names it. -/
theorem whole (c : Dev nD) (b : Ref sig .tc) (f : Buf (Elt F) ((c : Thread nD τ).loc b)) :
    (opnd c b f : sProp 𝕄) = ((View.whole b).loc (c : Thread nD τ) ↦[(View.whole b).set]{fullShare} f) := by
  unfold opnd; rw [View.set_whole]

/-- What the body takes, from what a device starts from and the buffers. -/
theorem body_in (c : Dev nD) : (Φ₀ m c : sProp 𝕄) ⊢ iprop(∃ K, records (ins m) K ∗ levAts L lv ∗ (barKit c ∗ kits c) ∗ bufs (ins m) c) := by
  unfold Φ₀ begins G' linear kv scratch bufs rest4 ringAny recvAny anyAt
  iintro ⟨⟨⟨⟨%K, #HR⟩, Hp, Ht, Hks, Hvs⟩, Hd, Hl, HK, HV⟩, H0, H1, ⟨%f2, H2⟩, ⟨%f3, H3⟩, ⟨%f4, H4⟩⟩
  ihave Hkit := (kits_intro (F := F) c) $$ [Hp Ht Hd]
  · isplitl [Hp]; · iexact Hp
    isplitl [Ht] <;> iassumption
  iexists K
  isplitr; · iexact HR
  isplitl [Hl]; · iexact Hl
  isplitl [Hkit]; · iexact Hkit
  isplitl [H3 HK Hks]
  · isplitl [H3]
    · iexists f3; iapply (Entails.of_eq (whole c cc0_scratch3 f3)); iexact H3
    isplitl [HK]
    · iapply (Entails.of_eq (whole c main_arg2 ((ins m).kk c))); iexact HK
    iexact Hks
  isplitl [H4 HV Hvs]
  · isplitl [H4]
    · iexists f4; iapply (Entails.of_eq (whole c cc0_scratch4 f4)); iexact H4
    isplitl [HV]
    · iapply (Entails.of_eq (whole c main_arg3 ((ins m).vv c))); iexact HV
    iexact Hvs
  isplitl [H2]
  · iexists f2; iapply (Entails.of_eq (show (opnd c cc0_scratch2 f2 : sProp 𝕄) = (bR.view.loc (c : Thread nD τ) ↦[Finset.univ]{fullShare} f2) from rfl)); iexact H2
  isplitl [H0] <;> iassumption

theorem sound_body (c : Dev nD) :
    (bodyPre m ρ c : sProp 𝕄) ⊢ wp frame (wpE (defs₀ (F := F)) 𝒱₀ (c : Thread nD τ) none) Set.univ (flat (F := F)) (fun _ => bodyPost m ρ c) := by
  unfold bodyPre
  simp only [before_0, before_1, before_2]
  iintro ⟨HΦ, Ho, ⟨%_, Hx⟩, ⟨%_, Hwq⟩, ⟨%_, Hwo⟩, ⟨%d3, Hout⟩⟩
  ihave H := (body_in m c) $$ HΦ
  icases H with ⟨%K, HR, Hl, ⟨Hb, Hk⟩, Hbufs⟩
  ihave Ho' := (owes_in m ρ c) $$ Ho
  ihave Hx' := (stg_elim c cc0_stg0_0 _) $$ Hx
  ihave Hwq' := (stg_elim c cc0_stg1_0 _) $$ Hwq
  ihave Hwo' := (stg_elim c cc0_stg2_0 _) $$ Hwo
  ihave Hout' := (stg_elim c cc0_stg3_0 _) $$ Hout
  iapply (wp_flat (ins m) K c (Q := fun _ => bodyPost m ρ c)) $$ [HR Hl Hb Hk Hbufs Ho' Hx' Hwq' Hwo' Hout']
  · unfold opnds
    isplitl [HR]; · iexact HR
    isplitl [Hl]; · iexact Hl
    isplitl [Hb]; · iexact Hb
    isplitl [Hk]; · iexact Hk
    isplitl [Hbufs]; · iexact Hbufs
    isplitl [Hx' Hwq' Hwo']
    · isplitl [Hx']; · iexact Hx'
      isplitl [Hwq'] <;> iassumption
    isplitl [Hout']; · iexists ((dats m ρ 0 c).before (3 : Fin 4) tt d3); iexact Hout'
    iexact Ho'
  unfold opnds
  iintro ⟨Ho, Hout, ⟨Hx, Hwq, Hwo⟩, Hbufs, Hends⟩
  rw [wp_ret]
  imodintro
  unfold bodyPost Φ₁
  isplitl [Hbufs Hends]; · isplitl [Hbufs] <;> iassumption
  isplitl [Ho]; · iapply (owes_out m ρ c); iexact Ho
  isplitl [Hx]; · iapply (stg_intro c cc0_stg0_0 _); iexact Hx
  isplitl [Hwq]; · iapply (stg_intro c cc0_stg1_0 _); iexact Hwq
  isplitl [Hwo]; · iapply (stg_intro c cc0_stg2_0 _); iexact Hwo
  iapply (stg_intro c cc0_stg3_0 _); iexact Hout

theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ wp frame (wpE (defs₀ (F := F)) 𝒱₀ (c : Thread nD τ) none) Set.univ
    (cc0_body bX (Memref.isWhole_whole _) bWq (Memref.isWhole_whole _) bWo (Memref.isWhole_whole _) bK (Memref.isWhole_whole _) bV (Memref.isWhole_whole _) bOut (Memref.isWhole_whole _)
      bQ (Memref.isWhole_whole _) bA (Memref.isWhole_whole _) bR (Memref.isWhole_whole _) bKs (Memref.isWhole_whole _) bVs (Memref.isWhole_whole _)
      cc0_scratch5 cc0_scratch6 cc0_scratch7 cc0_scratch8) (fun _ => bodyPost m ρ c)
  rw [body_eq]
  exact sound_body m ρ c

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (ins m) c)
      ⊢ |={Set.univ}=> (iprop(begins m c ∗ emp) : sProp 𝕄) := by
  rw [Pipeline.unscopedRestP_none, unscopedRest0_eq]
  iintro ⟨⟨HK, HV⟩, Hl, Hc, -, HG⟩
  ihave Hd := (creds (F := F) c) $$ Hc
  imodintro
  unfold begins kv opnd
  isplitl
  · isplitl [HG]; · iexact HG
    isplitl [Hd]; · iexact Hd
    isplitl [Hl]; · iexact Hl
    isplitl [HK]; · iexact HK
    iexact HV
  · iempintro

theorem phi0_intro (c : Dev nD) :
    iprop(begins m c ∗ Pipeline.prefHeld Pipeline.Prefetch.none c (fun _ => fullShare.right) (fun k => k.elim0) ∗ Pipeline.scopedRest cfg0.spec c)
      ⊢ ((dats m ρ 0 c).Φ 0 : sProp 𝕄) := by
  rw [show (dats m ρ 0 c).Φ 0 = Φ₀ m c from rfl, scopedRest0_eq]
  unfold Φ₀ scratch opnd
  iintro ⟨Hs, -, Hr⟩
  isplitl [Hs] <;> iassumption

/-- What a device hands back for the last reading: the barrier's counter and the two unwindowed arguments. -/
def Y (c : Dev nD) : sProp 𝕄 := iprop(unscopedSems0 c ∗ kv m c)

theorem bufs_exit (c : Dev nD) : (bufs (ins m) c : sProp 𝕄) ⊢ iprop(kv m c ∗ sems kSem c ∗ sems vSem c ∗ scratch c) := by
  unfold bufs rest4 ringAny recvAny anyAt kv scratch
  iintro ⟨⟨⟨%f3, H3⟩, HK, Hks⟩, ⟨⟨%f4, H4⟩, HV, Hvs⟩, ⟨%f2, H2⟩, H0, H1⟩
  isplitl [HK HV]
  · isplitl [HK]
    · iapply (Entails.of_eq (whole c main_arg2 ((ins m).kk c)).symm); iexact HK
    iapply (Entails.of_eq (whole c main_arg3 ((ins m).vv c)).symm); iexact HV
  isplitl [Hks]; · iexact Hks
  isplitl [Hvs]; · iexact Hvs
  isplitl [H0]; · iexact H0
  isplitl [H1]; · iexact H1
  isplitl [H2]
  · iexists f2; iapply (Entails.of_eq (show (bR.view.loc (c : Thread nD τ) ↦[Finset.univ]{fullShare} f2 : sProp 𝕄) = opnd c cc0_scratch2 f2 from rfl)); iexact H2
  isplitl [H3]
  · iexists f3; iapply (Entails.of_eq (whole c cc0_scratch3 f3).symm); iexact H3
  iexists f4; iapply (Entails.of_eq (whole c cc0_scratch4 f4).symm); iexact H4

theorem phi1_exit (c : Dev nD) :
    ((dats m ρ 0 c).Φ (Fin.last cfg0.N) : sProp 𝕄) ⊢ iprop(Y m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ Y
  rw [unscopedSems0_eq]
  iintro ⟨Hb, He⟩
  ihave Hb' := (bufs_exit m c) $$ Hb
  ihave He' := (allEnds_elim (F := F) c) $$ He
  unfold scratch opnd
  icases Hb' with ⟨Hkv, Hks, Hvs, Hscr⟩
  icases He' with ⟨Hn, Hs⟩
  isplitl [Hn Hkv]; · isplitl [Hn] <;> iassumption
  isplitl [Hs Hks Hvs]
  · isplitl [Hs]; · iexact Hs
    isplitl [Hks] <;> iassumption
  iexact Hscr

theorem waits (c : Dev nD) : (levAts L lv : sProp 𝕄) ⊢ Pipeline.cellsWaits cfgs (dats m ρ) () 0 c :=
  Pipeline.cellsWaits_intro cfgs (dats m ρ) () 0 c fun w s t => by
    have h0 : lvS (.dma ((cfg0.win w).sem s)) = 0 := by fin_cases w <;> fin_cases s <;> decide
    have h1 : ∀ p ∈ dueT, 0 < lvl p.2 := by decide
    rcases t with ⟨_ | _, ht⟩
    · exact mayWait c _ dueT fun p hp => by rw [h0]; exact h1 p hp
    · exact mayWait c _ [] fun p hp => nomatch hp

/-! ## The run -/

def finalA (c : Dev nD) (w : Fin cfg0.W) : Buf (Elt F) ((cfg0.win w).arr.view.loc (c : Thread nD τ)) := (dats m ρ 0 c).arrAt w cfg0.N

def QY (c : Dev nD) (s : MemSt nD τ sig (Elt F)) : Prop :=
  (∀ sm : SemLoc sig, sm.isScoped .tc = false → s.sem ((c.tc : Thread nD τ), sm) = 0)
    ∧ s.mem ((c : Thread nD τ).loc main_arg2) = m ((c : Thread nD τ).loc main_arg2) ∧ s.mem ((c : Thread nD τ).loc main_arg3) = m ((c : Thread nD τ).loc main_arg3)

def QC : PUnit × MemSt nD τ sig (Elt F) → Prop := fun r =>
  ∀ c : Dev nD, (∀ w : Fin cfg0.W, r.2.mem ((cfg0.win w).arr.view.loc (c : Thread nD τ)) = finalA m ρ c w) ∧ QY m c r.2

theorem read_Y (c : Dev nD) (s' : Phys nD τ sig (Elt F)) : iprop(Y m c ∗ emp ∗ SI s') ⊢ |={Set.univ}=> (iprop(⌜QY m c s'.mem⌝ ∗ SI s') : sProp 𝕄) := by
  unfold Y kv opnd
  iintro ⟨⟨Hu, HK, HV⟩, -, HSI⟩
  icombine HSI HK gives %hK
  icombine HSI HV gives %hV
  imod (Pipeline.unscopedSems0_read (X := unscopedSems0 c) (c := c) fupd_intro s') $$ [Hu HSI] with ⟨%hs, HSI⟩
  · isplitl [Hu] <;> iassumption
  imodintro
  isplitr
  · ipureintro
    exact ⟨hs, funext fun i => hK i (Finset.mem_univ i), funext fun i => hV i (Finset.mem_univ i)⟩
  iexact HSI

/-- From any memory with zero counters, for any float values: every weakly fair execution of the eight devices' programs
    terminates, and every final state has the arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (ins m)) (G' := G' (ins m)) (u₀ := u₀)
    (hu₀ := by
      unfold u₀
      iintro Hu
      ihave H := (ownU_pair _ _) $$ Hu
      icases H with ⟨HP, HX⟩
      ihave H := (own_pair_emb _ _ _) $$ HX
      icases H with ⟨HX0, -⟩
      ihave HX := (Entails.of_eq (show (BI.own ((Emb.inl.trans embR) (initOf ringCells ringToks)) : sProp 𝕄) = BI.own (ER (initOf ringCells ringToks)) from rfl)) $$ HX0
      imod (fund_ring (ins m)) $$ HX with HG
      imodintro
      isplitl [HP] <;> iassumption)
    (hglob := glob (ins m))
    (hA := fun _ _ => rfl) (hpf := fun _ k => k.elim0)
    (X := begins m) (Y := Y m) (Z := fun _ => iprop(emp))
    (hX := start_intro m ρ) (hin := phi0_intro m ρ) (hout := phi1_exit m ρ)
    (QY := QY m) (hY := read_Y m)
    (hQ := fun _ h hs => ⟨fun c => ⟨(h c).1, (h c).2.2⟩, sem_eq_zero hs fun c => (h c).2.2.1⟩)

/-! ## The arrays at the end -/

theorem finalA_x (c : Dev nD) : finalA m ρ c (0 : Fin 4) = m ((c : Thread nD τ).loc main_arg0) := (dats m ρ 0 c).arrAt_in (0 : Fin 4) rfl _
theorem finalA_wq (c : Dev nD) : finalA m ρ c (1 : Fin 4) = m ((c : Thread nD τ).loc main_arg1) := (dats m ρ 0 c).arrAt_in (1 : Fin 4) rfl _
theorem finalA_wo (c : Dev nD) : finalA m ρ c (2 : Fin 4) = m ((c : Thread nD τ).loc main_arg4) := (dats m ρ 0 c).arrAt_in (2 : Fin 4) rfl _

theorem flush_3 (t : Fin cfg0.N) : (cfg0.win (3 : Fin 4)).flush t = true := by rw [fin_N0 t]; rfl

theorem flushed_eq (c : Dev nD) (t : Fin cfg0.N) : (dats m ρ 0 c).flushed (3 : Fin 4) t = ((cfg0.win (3 : Fin 4)).blk t).view.read (Elt F) (total (ins m)) := by
  obtain rfl := fin_N0 t
  have ha : (dats m ρ 0 c).after (3 : Fin 4) t0_0 = total (ins m) := by dsimp only [dats]
  unfold Pipeline.Dat.flushed
  rw [ha]
  exact (read_blk3 t0_0 (total (ins m))).symm

theorem cover (i : main_v1.ty.shape.Idx) : ∃ t : Fin cfg0.N, (cfg0.win (3 : Fin 4)).flush t = true ∧ i ∈ ((cfg0.win (3 : Fin 4)).blk t).view.set := by
  refine ⟨t0_0, flush_3 _, ?_⟩
  show i ∈ ((View.whole main_v1).slice (win0_3.rect t0_0)).set
  rw [View.set_slice_whole, Rect.mem_set_unit]
  intro a
  have h : (i a : Nat) < win0_3.xsize (grid0.coords t0_0) a := (i a).isLt
  show 0 * _ ≤ (i a : Nat) ∧ (i a : Nat) < 0 * _ + _
  omega

theorem finalA_out (c : Dev nD) : finalA m ρ c (3 : Fin 4) = total (ins m) :=
  (dats m ρ 0 c).arrAt_eq_of_cover (3 : Fin 4) (total (ins m)) (fun t _ => flushed_eq m ρ c t) cover

/-- The run, read at the program's arrays: the result on every device, the arguments as they were, the counters at zero. -/
theorem run_arrays : θ_run defs (onTc (τ := τ) (main (F := F))) (s₀ m ρ) (fun r =>
    (∀ c : Dev nD, r.2.mem ((c : Thread nD τ).loc main_v1) = total (ins m)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r h => ⟨fun c =>
    ⟨((h.1 c).1 (3 : Fin 4)).trans (finalA_out m ρ c), ((h.1 c).1 (0 : Fin 4)).trans (finalA_x m ρ c), ((h.1 c).1 (1 : Fin 4)).trans (finalA_wq m ρ c),
      (h.1 c).2.2.1, (h.1 c).2.2.2, ((h.1 c).1 (2 : Fin 4)).trans (finalA_wo m ρ c)⟩, h.2⟩) (run_main m ρ)

end Cert.KernelIdeal.Mha

end
-- ==== Proof.Frames.lean ====
/- The frames: the kernel at the bit-exact and the ideal floats from its one run, the reference from its straight line. -/
module

public import proofs.«01_k».proof.Defs
public import proofs.«01_k».proof.Proof.Gen.Kernel
public import proofs.«01_k».proof.Proof.Gen.ReferenceIdeal.Run
public import proofs.«01_k».proof.Proof.Launch
public import Idealize.ShloMosaic.Lib.Quiescent

@[expose] public section

set_option maxRecDepth 16384

noncomputable section

namespace Cert.KernelIdeal.Mha

open Idealize.ShloMosaic Idealize.ShloMosaic.TcCoe Idealize.SL.Sem

set_option smartUnfolding false in
set_option maxHeartbeats 0 in
/-- The two programs are one text: the same body table. -/
theorem defs_eq : Cert.Kernel.defs (F := Bits) = defs (F := Bits) := rfl

/-- The kernel at the bit-exact floats. -/
theorem frame_bits : Cert.quiescent_Kernel := by
  intro m ρ _
  have h : θ_run (defs (F := Bits)) (onTc (τ := τ) (main (F := Bits))) (s₀ m ρ) (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) :=
    (θ_run (defs (F := Bits)) _ _).mono (fun _ h => ⟨fun c => (h.1 c).2, h.2⟩) (run_arrays (F := Bits) m ρ)
  rw [← defs_eq] at h
  exact h

/-- The kernel at the ideal floats. -/
theorem frame_ideal : Cert.quiescent_KernelIdeal := fun m ρ _ =>
  (θ_run (Cert.KernelIdeal.defs (F := Ideal)) _ _).mono (fun _ h => ⟨fun c => (h.1 c).2, h.2⟩) (run_arrays (F := Ideal) m ρ)

/-- The reference. -/
theorem frame_reference : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

end Cert.KernelIdeal.Mha

end
-- ==== Proof.Soft.lean ====
/- The softmax identity at the extended reals: with real scores, subtracting any real from all of them before the
   exponential changes nothing in the quotient of the weighted sum by the sum of the weights, whatever the values are. -/
module

public import Idealize.ShloMosaic.PureOps.Ideal.Laws

@[expose] public section

noncomputable section

namespace Cert.KernelIdeal.Mha

open Idealize.ShloMosaic
open scoped BigOperators

/-- A sum of reals, taken at the extended reals. -/
theorem sum_coe {ι : Type*} (s : Finset ι) (f : ι → ℝ) : ∑ i ∈ s, (f i : EReal) = ((∑ i ∈ s, f i : ℝ) : EReal) := by
  classical
  refine Finset.induction_on s (by simp) fun a s ha ih => ?_
  rw [Finset.sum_insert ha, Finset.sum_insert ha, ih, EReal.coe_add]

/-- A nonnegative real factor moves out of a sum of any extended reals. -/
theorem sum_mul_left {ι : Type*} (s : Finset ι) (c : ℝ) (hc : 0 ≤ c) (f : ι → EReal) :
    ∑ i ∈ s, (c : EReal) * f i = (c : EReal) * ∑ i ∈ s, f i := by
  classical
  refine Finset.induction_on s (by simp) fun a s ha ih => ?_
  rw [Finset.sum_insert ha, Finset.sum_insert ha, ih]
  exact (EReal.left_distrib_of_nonneg_of_ne_top (EReal.coe_nonneg.2 hc) (EReal.coe_ne_top c) _ _).symm

/-- The weighted mean of `v` with the exponentials of the scores `s` as weights. -/
def soft {n : ℕ} (s v : Fin n → EReal) : EReal :=
  Ideal.div (∑ j, Ideal.exp (s j) * v j) (∑ j, Ideal.exp (s j))

/-- The same with `M` taken off the scores first. -/
def softFrom {n : ℕ} (M : EReal) (s v : Fin n → EReal) : EReal :=
  Ideal.div (∑ j, v j * Ideal.exp (s j - M)) (∑ j, Ideal.exp (s j - M))

theorem soft_shift {n : ℕ} [NeZero n] (s : Fin n → ℝ) (v : Fin n → EReal) (M : ℝ) :
    softFrom (M : EReal) (fun j => (s j : EReal)) v = soft (fun j => (s j : EReal)) v := by
  have hc : 0 < Real.exp (-M) := Real.exp_pos _
  have hL : 0 < ∑ j, Real.exp (s j) := Finset.sum_pos (fun j _ => Real.exp_pos _) ⟨0, Finset.mem_univ _⟩
  have he : ∀ j, Ideal.exp ((s j : EReal) - (M : EReal)) = ((Real.exp (-M) : ℝ) : EReal) * ((Real.exp (s j) : ℝ) : EReal) := fun j => by
    rw [← EReal.coe_sub, ← EReal.coe_mul, ← Real.exp_add, neg_add_eq_sub]
    rfl
  have hs : ∀ j, Ideal.exp (s j : EReal) = ((Real.exp (s j) : ℝ) : EReal) := fun j => rfl
  unfold softFrom soft
  simp only [he, hs]
  have h1 : ∀ j, v j * (((Real.exp (-M) : ℝ) : EReal) * ((Real.exp (s j) : ℝ) : EReal))
      = ((Real.exp (-M) : ℝ) : EReal) * (((Real.exp (s j) : ℝ) : EReal) * v j) := fun j => by
    rw [mul_comm, mul_assoc]
  simp only [h1]
  rw [sum_mul_left _ _ hc.le, sum_mul_left _ _ hc.le, sum_coe, ← EReal.coe_mul,
    Ideal.div_coe (mul_ne_zero hc.ne' hL.ne'), Ideal.div_coe hL.ne', mul_comm ((Real.exp (-M) : ℝ) : EReal), mul_assoc, ← EReal.coe_mul]
  congr 2
  field_simp

/-- The greatest of a list, from a start on, is not the top if neither the start nor any element is, -/
theorem foldl_max_ne_top {ι : Type*} (f : ι → EReal) (h : ∀ i, f i ≠ ⊤) :
    ∀ (l : List ι) (a : EReal), a ≠ ⊤ → l.foldl (fun r i => max r (f i)) a ≠ ⊤
  | [], _, ha => ha
  | i :: l, a, ha => foldl_max_ne_top f h l _ (by
      show max a (f i) ≠ ⊤
      rcases max_choice a (f i) with e | e <;> rw [e]
      · exact ha
      · exact h i)

/-- and at least the start, -/
theorem le_foldl_max {ι : Type*} (f : ι → EReal) : ∀ (l : List ι) (a : EReal), a ≤ l.foldl (fun r i => max r (f i)) a
  | [], _ => le_rfl
  | i :: l, a => (le_max_left _ _).trans (le_foldl_max f l _)

/-- and at least each element. -/
theorem mem_le_foldl_max {ι : Type*} (f : ι → EReal) :
    ∀ (l : List ι) (a : EReal) (i : ι), i ∈ l → f i ≤ l.foldl (fun r i => max r (f i)) a
  | k :: l, a, i, hi => by
    rcases List.mem_cons.1 hi with rfl | hi
    · exact (le_max_right _ _).trans (le_foldl_max f l _)
    · exact mem_le_foldl_max f l _ i hi

end Cert.KernelIdeal.Mha

end
-- ==== Proof.KValue.lean ====
/- The kernel's result at the ideal floats: what each payload holds at an index, one head's output as a weighted mean, a
   device's partial projection, and the whole sum as the sum of the devices' partial projections. -/
module

public import proofs.«01_k».proof.Proof.Vals
public import proofs.«01_k».proof.Proof.Soft
public import Idealize.ShloMosaic.Lib.ValueIdx
public import Idealize.ShloMosaic.Lib.MatmulPlain
public import Idealize.ShloMosaic.Lib.Pipeline.Value

@[expose] public section

set_option maxRecDepth 16384

noncomputable section

namespace Cert.KernelIdeal.Mha

open Idealize.ShloMosaic
open Cert.KernelIdeal Cert.KernelIdeal.Gen
open Idealize.ShloMosaic.ValueIdx
open scoped BigOperators

/-- The factor on the queries, as an extended real. -/
def sigma : EReal := Ideal.ofBits .f32 0x3DB504F3#32

/-- The rows of the inputs in the order the kernel flattens them: row `r` is row `r % 256` of batch `r / 256`. -/
theorem flat_apply (x : S4x256x1024.Idx → EReal) (b : Fin 4) (q : Fin 256) (r t : Fin 1024) (hr : r.val = 256 * b.val + q.val) :
    shapeCast S1024x1024 x shapeCasts_S4x256x1024_S1024x1024 (ix2 r t) = x (ix3 b q t) :=
  shapeCast_apply x _ (ix2 r t) (ix3 b q t) (by
    rewrite [Shape.rowMajor_val_three, Shape.rowMajor_val_two]
    show (b.val * 256 + q.val) * 1024 + t.val = r.val * 1024 + t.val
    omega)

/-- The scaled queries. -/
theorem pay1_apply (wq : Vec Ideal S1024x1024 .f32) (x : Vec Ideal S4x256x1024 .f32) (b : Fin 4) (q : Fin 256) (r t : Fin 1024)
    (hr : r.val = 256 * b.val + q.val) :
    k0_pay1 wq x (ix2 r t) = (∑ c : Fin 1024, x (ix3 b q c) * wq (ix2 c t)) * sigma := by
  unfold k0_pay1
  simp only [shapeCast_self]
  show (FloatOps.matmul (F := Ideal) (φ₁ := .bf16) (φ₂ := .bf16) dot_S1024x1024_S1024x1024_S1024x1024_1_0_0_1_n_n none _ _ _ (ix2 r t) : EReal) * sigma = _
  refine congrArg (· * sigma) ?_
  refine (Ideal.matmul_plain_apply (M := 1024) (K := 1024) (N := 1024) (φ₁ := .bf16) (φ₂ := .bf16) none _ _ _ r t).trans ?_
  show Ideal.ofBits .f32 0x00000000#32 + _ = _
  rw [Ideal.ofBits_zero_f32, zero_add]
  exact Finset.sum_congr rfl fun k _ => congrArg (· * wq (ix2 k t)) (flat_apply x b q r k hr)

/-- The output projection is only cast. -/
theorem pay2_eq (wo : Vec Ideal S1024x1024 .f32) (i : S1024x1024.Idx) : k0_pay2 wo i = wo i := by
  unfold k0_pay2
  simp only [shapeCast_self]
  rfl

/-- A block with a leading axis of one, without it. -/
theorem drop1_apply {α : Type} {n w : ℕ} (x : (⟨3, ![1, n, w]⟩ : Shape).Idx → α) (h : (⟨3, ![1, n, w]⟩ : Shape).ShapeCasts ⟨2, ![n, w]⟩) (j : Fin n) (k : Fin w) :
    shapeCast ⟨2, ![n, w]⟩ x h (ix2 j k) = x (ix3 0 j k) :=
  shapeCast_apply x _ (ix2 j k) (ix3 0 j k) (by
    rewrite [Shape.rowMajor_val_three, Shape.rowMajor_val_two]
    show (0 * n + j.val) * w + k.val = j.val * w + k.val
    rw [Nat.zero_mul, Nat.zero_add])

/-- One head's scores, -/
def hScore (kt : Vec Ideal S1x1024x128 .f32) (qb : Vec Ideal S256x128 .bf16) (q : Fin 256) (j : Fin 1024) : EReal :=
  ∑ k : Fin 128, qb (ix2 q k) * kt (ix3 0 j k)

/-- and its output: the weighted mean of the values. -/
theorem headPay_apply (kt vt : Vec Ideal S1x1024x128 .f32) (qb : Vec Ideal S256x128 .bf16) (q : Fin 256) (e : Fin 128) :
    headPay kt vt qb (ix2 q e) = soft (hScore kt qb q) (fun j => vt (ix3 0 j e)) := by
  unfold headPay k0_pay5
  simp only [shapeCast_self]
  have hs : ∀ j : Fin 1024, (FloatOps.matmul dot_S256x128_S1024x128_S256x1024_1_1_0_0_n_n none qb
      (truncf .bf16 (shapeCast S1024x128 kt shapeCasts_S1x1024x128_S1024x128 : FVec Ideal S1024x128 .f32) bitsLt_bf16_f32)
      (constant S256x1024 .f32 0x00000000#32) (ix2 q j) : EReal) = hScore kt qb q j := fun j => by
    refine (Ideal.matmul_transposedRhs_apply (M := 256) (K := 128) (N := 1024) (φ₁ := .bf16) (φ₂ := .bf16) none _ _ _ q j).trans ?_
    show Ideal.ofBits .f32 0x00000000#32 + _ = _
    rw [Ideal.ofBits_zero_f32, zero_add]
    exact Finset.sum_congr rfl fun k _ => congrArg (qb (ix2 q k) * ·) (drop1_apply kt shapeCasts_S1x1024x128_S1024x128 j k)
  show Ideal.div (FloatOps.matmul (F := Ideal) (φ₁ := .bf16) (φ₂ := .bf16) dot_S256x1024_S1024x128_S256x128_1_0_0_1_n_n none _ _ _ (ix2 q e) : EReal)
    (broadcastTo S256x128 _ broadcasts_S256x1_S256x128 (ix2 q e)) = _
  unfold soft
  refine congrArg₂ Ideal.div ?_ ?_
  · refine (Ideal.matmul_plain_apply (M := 256) (K := 1024) (N := 128) (φ₁ := .bf16) (φ₂ := .bf16) none _ _ _ q e).trans ?_
    show Ideal.ofBits .f32 0x00000000#32 + _ = _
    rw [Ideal.ofBits_zero_f32, zero_add]
    refine Finset.sum_congr rfl fun j _ => congrArg₂ (· * ·) ?_ ?_
    · exact congrArg Ideal.exp (hs j)
    · exact drop1_apply vt shapeCasts_S1x1024x128_S1024x128 j e
  · refine (broadcastTo_apply _ broadcasts_S256x1_S256x128 (ix2 q e) (ix2 q 0) fun a => ?_).trans ?_
    · fin_cases a
      · rfl
      · rfl
    refine (shapeCast_apply _ shapeCasts_S256_S256x1 (ix2 q 0) (ix1 q) ?_).trans ?_
    · rewrite [Shape.rowMajor_val_two, Shape.rowMajor_val_one]
      show q.val = q.val * 1 + 0
      omega
    refine (Ideal.multiReduction_add_single _ _ reduces_S256x1024_S256 _ _ (ix1 q)).trans ?_
    refine Finset.sum_congr rfl fun j _ => congrArg Ideal.exp ((congrArg _ ?_).trans (hs j))
    funext a
    apply Fin.ext
    fin_cases a
    · rfl
    · rfl

/-! ## The projections and the sums -/

theorem pay37_apply (wo : FVec Ideal S1024x1024 .bf16) (a : Vec Ideal S512x1024 .bf16) (r : Fin 512) (t : Fin 1024) :
    k0_pay37 wo a (ix2 r t) = ∑ k : Fin 1024, a (ix2 r k) * wo (ix2 k t) := by
  unfold k0_pay37
  refine (Ideal.matmul_plain_apply (M := 512) (K := 1024) (N := 1024) (φ₁ := .bf16) (φ₂ := .bf16) none _ _ _ r t).trans ?_
  show Ideal.ofBits .f32 0x00000000#32 + _ = _
  rw [Ideal.ofBits_zero_f32, zero_add]

theorem pay55_apply (wo : FVec Ideal S1024x1024 .bf16) (a : Vec Ideal S256x1024 .bf16) (r : Fin 256) (t : Fin 1024) :
    k0_pay55 wo a (ix2 r t) = ∑ k : Fin 1024, a (ix2 r k) * wo (ix2 k t) := by
  unfold k0_pay55
  refine (Ideal.matmul_plain_apply (M := 256) (K := 1024) (N := 1024) (φ₁ := .bf16) (φ₂ := .bf16) none _ _ _ r t).trans ?_
  show Ideal.ofBits .f32 0x00000000#32 + _ = _
  rw [Ideal.ofBits_zero_f32, zero_add]

theorem pay72_apply (wo : FVec Ideal S1024x1024 .bf16) (a : Vec Ideal S256x1024 .bf16) (r : Fin 256) (t : Fin 1024) :
    k0_pay72 wo a (ix2 r t) = ∑ k : Fin 1024, a (ix2 r k) * wo (ix2 k t) := pay55_apply wo a r t

theorem pay56_apply (o : Vec Ideal S256x1024 .bf16) (r0 : Vec Ideal S1x256x1024 .bf16) (r : Fin 256) (t : Fin 1024) :
    k0_pay56 o r0 (ix2 r t) = o (ix2 r t) + r0 (ix3 0 r t) := by
  unfold k0_pay56
  simp only [shapeCast_self]
  exact congrArg (o (ix2 r t) + ·) (drop1_apply r0 shapeCasts_S1x256x1024_S256x1024 r t)

theorem pay73_apply (o : Vec Ideal S256x1024 .bf16) (r0 r1 : Vec Ideal S1x256x1024 .bf16) (r : Fin 256) (t : Fin 1024) :
    k0_pay73 o r0 r1 (ix2 r t) = o (ix2 r t) + r0 (ix3 0 r t) + r1 (ix3 0 r t) := by
  unfold k0_pay73
  simp only [shapeCast_self]
  exact congrArg₂ (fun p s => o (ix2 r t) + p + s) (drop1_apply r0 shapeCasts_S1x256x1024_S256x1024 r t)
    (drop1_apply r1 shapeCasts_S1x256x1024_S256x1024 r t)

theorem pay74_apply (o : Vec Ideal S128x1024 .bf16) (r0 : Vec Ideal S1x128x1024 .bf16) (r : Fin 128) (t : Fin 1024) :
    k0_pay74 o r0 (ix2 r t) = o (ix2 r t) + r0 (ix3 0 r t) := by
  unfold k0_pay74
  simp only [shapeCast_self]
  exact congrArg (o (ix2 r t) + ·) (drop1_apply r0 shapeCasts_S1x128x1024_S128x1024 r t)

section Sums
variable (I : Ins Ideal)

/-- Device `d`'s partial projection of row `R`. -/
def devPart (d : Dev nD) (R : ℕ) (t : Fin 1024) : EReal := ∑ k : Fin 1024, attn I d (at2 R k.val) * I.wo d (ix2 k t)

theorem v1_apply (d : Dev nD) (r : Fin 512) (t : Fin 1024) : v1 I d (ix2 r t) = devPart I d (a1 (px 4 d) + r.val) t := by
  unfold v1
  rw [pay37_apply]
  exact Finset.sum_congr rfl fun k _ => congrArg (attn I d (at2 (a1 (px 4 d) + r.val) k.val) * ·) (pay2_eq (I.wo d) (ix2 k t))

theorem v2_apply (d : Dev nD) (r : Fin 256) (t : Fin 1024) : v2 I d (ix2 r t) = devPart I d (a2 (px 3 d) + r.val) t := by
  unfold v2
  rw [pay55_apply]
  exact Finset.sum_congr rfl fun k _ => congrArg (attn I d (at2 (a2 (px 3 d) + r.val) k.val) * ·) (pay2_eq (I.wo d) (ix2 k t))

theorem v3_apply (d : Dev nD) (r : Fin 256) (t : Fin 1024) : v3 I d (ix2 r t) = devPart I d (a2 d + r.val) t := by
  unfold v3
  rw [pay72_apply]
  exact Finset.sum_congr rfl fun k _ => congrArg (attn I d (at2 (a2 d + r.val) k.val) * ·) (pay2_eq (I.wo d) (ix2 k t))

/-- The rows of the device's own half that its first partner sent it. -/
theorem v1_sub3 (d : Dev nD) (A : ℕ) (hA : a1 d ≤ A) (hA' : A + 256 ≤ a1 d + 512) (r : Fin 256) (t : Fin 1024) :
    sub3 (m := 512) 256 (A - a1 d) (v1 I (px 4 d)) (ix3 0 r t) = devPart I (px 4 d) (A + r.val) t := by
  have hr : r.val < 256 := r.isLt
  refine (v1_apply I (px 4 d) _ t).trans ?_
  rw [px_px]
  refine congrArg (devPart I (px 4 d) · t) ?_
  show a1 d + (A - a1 d + r.val) % 512 = A + r.val
  rw [Nat.mod_eq_of_lt (by omega)]
  omega

theorem half_of_quarter (d : Dev nD) : a1 d ≤ a2 (px 3 d) ∧ a2 (px 3 d) + 256 ≤ a1 d + 512 ∧ a1 d ≤ a2 d ∧ a2 d + 256 ≤ a1 d + 512 := by
  revert d; decide

theorem quarter_of_eighth (d : Dev nD) : a2 d ≤ a3 d ∧ a3 d + 128 ≤ a2 d + 256 ∧ a2 (px 1 d) = a2 d := by
  revert d; decide

theorem v2'_apply (d : Dev nD) (r : Fin 256) (t : Fin 1024) :
    v2' I d (ix2 r t) = devPart I d (a2 (px 3 d) + r.val) t + devPart I (px 4 d) (a2 (px 3 d) + r.val) t := by
  unfold v2'
  rw [pay56_apply, v2_apply, v1_sub3 I d _ (half_of_quarter d).1 (half_of_quarter d).2.1]

theorem v3'_apply (d : Dev nD) (r : Fin 256) (t : Fin 1024) :
    v3' I d (ix2 r t) = devPart I d (a2 d + r.val) t + devPart I (px 4 d) (a2 d + r.val) t
      + (devPart I (px 3 d) (a2 d + r.val) t + devPart I (px 7 d) (a2 d + r.val) t) := by
  have hr : r.val < 256 := r.isLt
  unfold v3'
  rw [pay73_apply, v3_apply, v1_sub3 I d _ (half_of_quarter d).2.2.1 (half_of_quarter d).2.2.2]
  refine congrArg (devPart I d (a2 d + r.val) t + devPart I (px 4 d) (a2 d + r.val) t + ·) ?_
  refine (v2'_apply I (px 3 d) _ t).trans ?_
  rw [px_px, px_4_3]
  have e : a2 d + (Fin.ofNat 256 (0 + r.val)).val = a2 d + r.val := by
    show a2 d + (0 + r.val) % 256 = a2 d + r.val
    omega
  exact congrArg₂ (fun u w => devPart I (px 3 d) u t + devPart I (px 7 d) w t) e e

/-- The rows of the device's own eighth in its quarter. -/
theorem v3'_row (d : Dev nD) (A : ℕ) (hA : a2 d ≤ A) (hA' : A + 128 ≤ a2 d + 256) (r : Fin 128) (t : Fin 1024) :
    sub2 (m := 256) 128 (A - a2 d) (v3' I d) (ix2 r t) = devPart I d (A + r.val) t + devPart I (px 4 d) (A + r.val) t
      + (devPart I (px 3 d) (A + r.val) t + devPart I (px 7 d) (A + r.val) t) := by
  have hr : r.val < 128 := r.isLt
  refine (v3'_apply I d _ t).trans ?_
  have e : a2 d + (Fin.ofNat 256 (A - a2 d + r.val)).val = A + r.val := by
    show a2 d + (A - a2 d + r.val) % 256 = A + r.val
    omega
  simp only [e]

/-- The sum over all devices, in the order of one device's partners. -/
theorem sum_px (f : Dev nD → EReal) (d : Dev nD) :
    ∑ c, f c = f d + f (px 4 d) + (f (px 3 d) + f (px 7 d)) + (f (px 1 d) + f (px 5 d) + (f (px 2 d) + f (px 6 d))) := by
  have h : ∑ m : Fin 8, f (px m d) = ∑ c, f c :=
    Fintype.sum_bijective (fun m : Fin 8 => px m d) (by revert d; decide) _ _ fun _ => rfl
  rw [← h, Fin.sum_univ_eight, px_zero]
  abel

theorem v4_apply (d : Dev nD) (r : Fin 128) (t : Fin 1024) : v4 I d (ix2 r t) = ∑ c, devPart I c (a3 d + r.val) t := by
  have hr : r.val < 128 := r.isLt
  have hd := quarter_of_eighth d
  unfold v4
  rw [pay74_apply, v3'_row I d _ hd.1 hd.2.1, sum_px _ d]
  refine congrArg _ ?_
  have e : (Fin.ofNat 128 (0 + r.val)) = r := Fin.ext (by show (0 + r.val) % 128 = r.val; omega)
  show s3 I (px 1 d) (ix2 (Fin.ofNat 128 (0 + r.val)) t) = _
  rw [e]
  unfold s3
  rw [px_px]
  refine (v3'_row I (px 1 d) (a3 d) (by rw [hd.2.2]; exact hd.1) (by rw [hd.2.2]; exact hd.2.1) r t).trans ?_
  rw [px_4_1, px_3_1, px_7_1]

/-- The kernel's result: at each place the sum of the devices' partial projections. -/
theorem total_apply (r t : Fin 1024) : total I (ix2 r t) = ∑ c, devPart I c r.val t := by
  have hr : r.val < 1024 := r.isLt
  refine (v4_apply I _ _ t).trans (Finset.sum_congr rfl fun c _ => congrArg (devPart I c · t) ?_)
  show 128 * (r.val / 128 % 8) + r.val % 128 = r.val
  omega

/-- Head `h`'s output in batch `b` at query `q` and column `e`, among the device's outputs. -/
theorem attn_apply (d : Dev nD) (b : Fin 4) (q : Fin 256) (h : Fin 8) (e : Fin 128) (R K : ℕ) (hR : R = 256 * b.val + q.val)
    (hK : K = 128 * h.val + e.val) :
    attn I d (at2 R K) = soft (hScore (kBlk I d b.val h.val) (qBlk I d b.val h.val) q) (fun j => I.vv d (ix4 b j h e)) := by
  have hb := b.isLt; have hq := q.isLt; have hh := h.isLt; have he := e.isLt
  subst hR hK
  unfold attn
  have e0 : ((at2 (256 * b.val + q.val) (128 * h.val + e.val)) 0).val = 256 * b.val + q.val := Nat.mod_eq_of_lt (by omega)
  have e1 : ((at2 (256 * b.val + q.val) (128 * h.val + e.val)) 1).val = 128 * h.val + e.val := Nat.mod_eq_of_lt (by omega)
  rw [e0, e1, show (256 * b.val + q.val) / 256 = b.val by omega, show (128 * h.val + e.val) / 128 = h.val by omega,
    show Fin.ofNat 256 (256 * b.val + q.val) = q from Fin.ext (by show (256 * b.val + q.val) % 256 = q.val; omega),
    show Fin.ofNat 128 (128 * h.val + e.val) = e from Fin.ext (by show (128 * h.val + e.val) % 128 = e.val; omega)]
  unfold headOut
  refine (headPay_apply _ _ _ q e).trans (congrArg (soft _) (funext fun j => ?_))
  show I.vv d (ix4 (Fin.ofNat 4 b.val) j (Fin.ofNat 8 h.val) e) = _
  rw [show Fin.ofNat 4 b.val = b from Fin.ext (Nat.mod_eq_of_lt hb), show Fin.ofNat 8 h.val = h from Fin.ext (Nat.mod_eq_of_lt hh)]

/-- A head's scores in the inputs: the query's projection, scaled, against the key. -/
theorem score_apply (d : Dev nD) (b : Fin 4) (q : Fin 256) (h : Fin 8) (j : Fin 1024) :
    hScore (kBlk I d b.val h.val) (qBlk I d b.val h.val) q j
      = ∑ k : Fin 128, ((∑ c : Fin 1024, I.x d (ix3 b q c) * I.wq d (ix2 c (Fin.ofNat 1024 (128 * h.val + k.val)))) * sigma)
        * I.kk d (ix4 b j h k) := by
  have hb := b.isLt; have hq := q.isLt; have hh := h.isLt
  unfold hScore
  refine Finset.sum_congr rfl fun k _ => congrArg₂ (· * ·) ?_ ?_
  · exact pay1_apply (I.wq d) (I.x d) b q (Fin.ofNat 1024 (256 * b.val + q.val)) (Fin.ofNat 1024 (128 * h.val + k.val))
      (Nat.mod_eq_of_lt (by omega))
  · show I.kk d (ix4 (Fin.ofNat 4 b.val) j (Fin.ofNat 8 h.val) k) = _
    rw [show Fin.ofNat 4 b.val = b from Fin.ext (Nat.mod_eq_of_lt hb), show Fin.ofNat 8 h.val = h from Fin.ext (Nat.mod_eq_of_lt hh)]

end Sums

end Cert.KernelIdeal.Mha

end
-- ==== Proof.RValue.lean ====
/- The reference's result at the ideal floats: its scores, the weighted mean it takes of the values in each head, and the
   output projection. -/
module

public import proofs.«01_k».proof.Proof.Soft
public import proofs.«01_k».proof.Proof.Gen.ReferenceIdeal.Read
public import Idealize.ShloMosaic.Lib.ValueIdx

@[expose] public section

set_option maxRecDepth 16384

noncomputable section

namespace Cert.KernelIdeal.Mha

open Idealize.ShloMosaic
open Cert.ReferenceIdeal Cert.ReferenceIdeal.Gen Cert.ReferenceIdeal.Read
open Idealize.ShloMosaic.ValueIdx
open scoped BigOperators

/-- The pattern of minus infinity is the bottom, -/
theorem ofBits_bot : Ideal.ofBits .f32 0xFF800000#32 = ⊥ := by
  simp [Ideal.ofBits, Ideal.ieee]

section Reference
variable (x0 : S4x256x1024.Idx → EReal) (x1 : S1024x8192.Idx → EReal) (x2 x3 : S4x1024x64x128.Idx → EReal) (x4 : S8192x1024.Idx → EReal)

/-- The reference's scores of head `h` in batch `b`. -/
def rScore (b : Fin 4) (h : Fin 64) (q : Fin 256) (j : Fin 1024) : EReal :=
  (∑ k : Fin 128, (∑ c : Fin 1024, x0 (ix3 b q c) * x1 (ix2 c (Fin.ofNat 8192 (128 * h.val + k.val)))) * x2 (ix4 b j h k))
    * Ideal.ofBits .f32 0x3DB504F3#32

theorem v1_at (b : Fin 4) (q : Fin 256) (h : Fin 64) (k : Fin 128) :
    val_main_v1 (F := Ideal) x0 x1 (ix4 b q h k)
      = ∑ c : Fin 1024, x0 (ix3 b q c) * x1 (ix2 c (Fin.ofNat 8192 (128 * h.val + k.val))) := by
  have hb := b.isLt; have hq := q.isLt; have hh := h.isLt; have hk := k.isLt
  rw [val_main_v1_apply, val_main_v0_apply]
  refine Finset.sum_congr rfl fun c _ => congrArg₂ (· * ·) (congrArg x0 (funext fun a => Fin.ext ?_)) (congrArg x1 (funext fun a => Fin.ext ?_))
  · match a with
    | ⟨0, _⟩ => show (((b.val * 256 + q.val) * 64 + h.val) * 128 + k.val) / 2097152 = b.val; omega
    | ⟨1, _⟩ => show (((b.val * 256 + q.val) * 64 + h.val) * 128 + k.val) / 8192 % 256 = q.val; omega
    | ⟨2, _⟩ => rfl
  · match a with
    | ⟨0, _⟩ => rfl
    | ⟨1, _⟩ => show (((b.val * 256 + q.val) * 64 + h.val) * 128 + k.val) % 8192 = (128 * h.val + k.val) % 8192; omega

theorem v7_at (b : Fin 4) (h : Fin 64) (q : Fin 256) (j : Fin 1024) :
    val_main_v7 (F := Ideal) x0 x1 x2 (ix4 b h q j) = rScore x0 x1 x2 b h q j := by
  rw [val_main_v7_apply, val_main_v6_apply, val_main_cst_2_apply, val_main_v5_apply]
  refine congrArg (· * Ideal.ofBits .f32 0x3DB504F3#32) (Finset.sum_congr rfl fun k _ => congrArg₂ (· * ·) ?_ (congrArg x2 (funext fun a => Fin.ext ?_)))
  · refine (congrArg (val_main_v1 (F := Ideal) x0 x1) (funext fun a => Fin.ext ?_)).trans (v1_at x0 x1 b q h k)
    match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

/-- What the reference takes off the scores: their greatest. -/
def rMax (b : Fin 4) (h : Fin 64) (q : Fin 256) : EReal := val_main_v10 (F := Ideal) x0 x1 x2 (ix4 b h q 0)

/-- It is a real if the scores are. -/
theorem rMax_real (b : Fin 4) (h : Fin 64) (q : Fin 256) (hs : ∀ b h q j, ∃ s : ℝ, rScore x0 x1 x2 b h q j = s) :
    ∃ M : ℝ, rMax x0 x1 x2 b h q = M := by
  have h7 : ∀ i : S4x64x256x1024.Idx, ∃ s : ℝ, val_main_v7 (F := Ideal) x0 x1 x2 i = (s : EReal) := fun i => by
    obtain ⟨s, e⟩ := hs (i 0) (i 1) (i 2) (i 3)
    refine ⟨s, (congrArg (val_main_v7 (F := Ideal) x0 x1 x2) (funext fun a => ?_)).trans ((v7_at x0 x1 x2 (i 0) (i 1) (i 2) (i 3)).trans e)⟩
    fin_cases a <;> rfl
  have e8 : rMax x0 x1 x2 b h q = val_main_v8 (F := Ideal) x0 x1 x2 (ix3 b h q) := by
    unfold rMax
    rw [val_main_v10_apply, val_main_v3_apply, val_main_cst_0_apply, val_main_v9_apply]
    show max (Ideal.ofBits .f32 0xFF800000#32) _ = _
    rw [ofBits_bot, max_eq_right bot_le]
    refine congrArg (val_main_v8 (F := Ideal) x0 x1 x2) (funext fun a => Fin.ext ?_)
    match a with
    | ⟨0, _⟩ => rfl
    | ⟨1, _⟩ => rfl
    | ⟨2, _⟩ => rfl
  rw [e8]
  unfold val_main_v8
  rw [Host.reduce_eq_foldl]
  generalize hl : (((List.finRange S4x64x256x1024.numel).map S4x64x256x1024.rowMajor.symm).filter
    fun i => reducesTo_S4x64x256x1024_S4x64x256_d3.drop i = ix3 b h q) = l
  have hmem : (ix4 b h q 0 : S4x64x256x1024.Idx) ∈ l := by
    rw [← hl, List.mem_filter]
    refine ⟨List.mem_map.2 ⟨S4x64x256x1024.rowMajor (ix4 b h q 0), List.mem_finRange _, Equiv.symm_apply_apply _ _⟩, ?_⟩
    refine decide_eq_true (funext fun a => Fin.ext ?_)
    fin_cases a <;> rfl
  have hstart : val_main_cst_3 (F := Ideal) (Shape.Idx.first h_S_) = (⊥ : EReal) := ofBits_bot
  rw [hstart]
  generalize hv : val_main_v7 (F := Ideal) x0 x1 x2 = v at h7
  have ht := foldl_max_ne_top v (fun i => by obtain ⟨s, e⟩ := h7 i; rw [e]; exact EReal.coe_ne_top s) l ⊥ bot_ne_top
  have hb := mem_le_foldl_max v l ⊥ _ hmem
  obtain ⟨s, e⟩ := h7 (ix4 b h q 0)
  rw [e] at hb
  exact ⟨_, (EReal.coe_toReal ht (ne_bot_of_le_ne_bot (EReal.coe_ne_bot s) hb)).symm⟩

theorem v15_at (b : Fin 4) (h : Fin 64) (q : Fin 256) (j : Fin 1024) :
    val_main_v15 (F := Ideal) x0 x1 x2 (ix4 b h q j) = Ideal.exp (rScore x0 x1 x2 b h q j - rMax x0 x1 x2 b h q) := by
  rw [val_main_v15_apply, val_main_v14_apply, val_main_v13_apply, v7_at]
  refine congrArg (fun M => Ideal.exp (rScore x0 x1 x2 b h q j - M)) (congrArg (val_main_v10 (F := Ideal) x0 x1 x2) (funext fun a => Fin.ext ?_))
  match a with
  | ⟨0, _⟩ => rfl
  | ⟨1, _⟩ => rfl
  | ⟨2, _⟩ => rfl
  | ⟨3, _⟩ => rfl

/-- The output of head `h` in batch `b`: the weighted mean with the greatest score taken off. -/
theorem v28_at (b : Fin 4) (q : Fin 256) (h : Fin 64) (e : Fin 128) :
    val_main_v28 (F := Ideal) x0 x1 x2 x3 (ix4 b q h e)
      = softFrom (rMax x0 x1 x2 b h q) (rScore x0 x1 x2 b h q) (fun j => x3 (ix4 b j h e)) := by
  rw [val_main_v28_apply]
  unfold softFrom
  refine congrArg₂ Ideal.div ?_ ?_
  · rw [val_main_v25_apply, val_main_v22_apply, val_main_v2_apply, val_main_cst_apply, val_main_v24_apply, val_main_v23_apply]
    show Ideal.ofBits .f32 0x00000000#32 * _ + _ = _
    rw [Ideal.ofBits_zero_f32, zero_mul, zero_add]
    refine Finset.sum_congr rfl fun j _ => congrArg₂ (· * ·) (congrArg x3 (funext fun a => Fin.ext ?_)) ?_
    · match a with
      | ⟨0, _⟩ => rfl
      | ⟨1, _⟩ => rfl
      | ⟨2, _⟩ => rfl
      | ⟨3, _⟩ => rfl
    · rw [← v15_at]
      refine congrArg (val_main_v15 (F := Ideal) x0 x1 x2) (funext fun a => Fin.ext ?_)
      match a with
      | ⟨0, _⟩ => rfl
      | ⟨1, _⟩ => rfl
      | ⟨2, _⟩ => rfl
      | ⟨3, _⟩ => rfl
  · rw [val_main_v27_apply, val_main_v26_apply, val_main_v19_apply, val_main_v16_apply, val_main_v4_apply, val_main_cst_1_apply,
      val_main_v18_apply, val_main_v17_apply, val_main_cst_4_apply]
    show Ideal.ofBits .f32 0x00000000#32 * _ + (Ideal.ofBits .f32 0x00000000#32 + _) = _
    rw [Ideal.ofBits_zero_f32, zero_mul, zero_add, zero_add]
    refine Finset.sum_congr rfl fun j _ => ?_
    rw [← v15_at]
    refine congrArg (val_main_v15 (F := Ideal) x0 x1 x2) (funext fun a => Fin.ext ?_)
    match a with
    | ⟨0, _⟩ => rfl
    | ⟨1, _⟩ => rfl
    | ⟨2, _⟩ => rfl
    | ⟨3, _⟩ => rfl

/-- The reference's result at row `256 b + q`: the heads' outputs, side by side, against the output projection. -/
theorem v32_at (b : Fin 4) (q : Fin 256) (r t : Fin 1024) (hr : r.val = 256 * b.val + q.val) :
    val_main_v32 (F := Ideal) x0 x1 x2 x3 x4 (ix2 r t)
      = ∑ k : Fin 8192, val_main_v28 (F := Ideal) x0 x1 x2 x3 (ix4 b q (Fin.ofNat 64 (k.val / 128)) (Fin.ofNat 128 k.val)) * x4 (ix2 k t) := by
  have hb := b.isLt; have hq := q.isLt; have ht := t.isLt
  rw [val_main_v32_apply, val_main_v31_apply]
  refine (val_main_v30_apply x0 x1 x2 x3 x4 _).trans ?_
  refine Finset.sum_congr rfl fun k _ => congrArg₂ (· * ·) ?_ (congrArg x4 (funext fun a => Fin.ext ?_))
  · have hk := k.isLt
    rw [val_main_v29_apply]
    refine congrArg (val_main_v28 (F := Ideal) x0 x1 x2 x3) (funext fun a => Fin.ext ?_)
    have f0 : (r.val * 1024 + t.val) / 262144 = b.val := by omega
    have f1 : (r.val * 1024 + t.val) / 1024 % 256 = q.val := by omega
    match a with
    | ⟨0, _⟩ =>
      show (((r.val * 1024 + t.val) / 262144 * 256 + (r.val * 1024 + t.val) / 1024 % 256) * 8192 + k.val) / 2097152 = b.val
      rw [f0, f1]; omega
    | ⟨1, _⟩ =>
      show (((r.val * 1024 + t.val) / 262144 * 256 + (r.val * 1024 + t.val) / 1024 % 256) * 8192 + k.val) / 8192 % 256 = q.val
      rw [f0, f1]; omega
    | ⟨2, _⟩ =>
      show (((r.val * 1024 + t.val) / 262144 * 256 + (r.val * 1024 + t.val) / 1024 % 256) * 8192 + k.val) / 128 % 64 = k.val / 128 % 64
      rw [f0, f1]; omega
    | ⟨3, _⟩ =>
      show (((r.val * 1024 + t.val) / 262144 * 256 + (r.val * 1024 + t.val) / 1024 % 256) * 8192 + k.val) % 128 = k.val % 128
      rw [f0, f1]; omega
  · match a with
    | ⟨0, _⟩ => rfl
    | ⟨1, _⟩ => show (r.val * 1024 + t.val) % 1024 = t.val; omega

end Reference

end Cert.KernelIdeal.Mha

end
-- ==== Proof.Finite.lean ====
/- What the precondition gives: every element of the activations, of the query projection and of the keys is a real. -/
module

public import proofs.«01_k».proof.Defs
public import proofs.«01_k».proof.Proof.Gen.Pre_finite_KernelIdeal
public import Idealize.ShloMosaic.Lib.ReduceAll
public import Idealize.ShloMosaic.Lib.ValueIdx
public import Idealize.ShloMosaic.PureOps.Ideal.Laws

@[expose] public section

set_option maxRecDepth 16384

noncomputable section

namespace Cert.KernelIdeal.Mha

open Idealize.ShloMosaic Idealize.ShloMosaic.TcCoe Idealize.SL.Sem
open Idealize.ShloMosaic.ValueIdx
open Cert.Pre_finite_KernelIdeal Cert.Pre_finite_KernelIdeal.Gen

/-- The pattern of plus infinity is the top. -/
theorem ofBits_top : Ideal.ofBits .f32 0x7F800000#32 = ⊤ := by
  simp [Ideal.ofBits, Ideal.ieee]

/-- An extended real whose absolute value is below infinity is a real. -/
theorem real_of_abs (a : EReal) (h : Ideal.cmp .olt (max a (-a)) (Ideal.ofBits .f32 0x7F800000#32) = 1#1) : ∃ r : ℝ, a = r := by
  rw [ofBits_top] at h
  have hlt : max a (-a) < ⊤ := by
    by_contra hc
    have : Ideal.cmp .olt (max a (-a)) ⊤ = 0#1 := by
      show BitVec.ofBool (decide (max a (-a) < ⊤)) = 0#1
      rw [decide_eq_false hc]; rfl
    rw [this] at h
    exact absurd h (by decide)
  have h1 : a < ⊤ := (le_max_left _ _).trans_lt hlt
  have h2 : -a < ⊤ := (le_max_right _ _).trans_lt hlt
  refine ⟨a.toReal, (EReal.coe_toReal h1.ne fun e => ?_).symm⟩
  rw [e, EReal.neg_bot] at h2
  exact lt_irrefl _ h2

/-- A conjunction of two bits is one only if both are. -/
theorem and_one (x y : BitVec 1) (h : IntOp.andi x y = 1#1) : x = 1#1 ∧ y = 1#1 := by
  revert x y; decide

/-- An array all of whose absolute values the comparison finds below infinity is one of reals. -/
theorem reals_of_all {s : Shape} {axes : List (Fin s.rank)} (x : FVec Ideal s .f32) (hb : S_.BroadcastsInDim s (![] : Fin 0 → Fin s.rank))
    (hr : s.ReducesTo axes S_)
    (h : Host.reduce IntOp.andi (cmpf .olt (Host.absf x) (broadcastInDim s ![] hb (constant S_ .f32 0x7F800000#32 : FVec Ideal S_ .f32)))
      (constantI S_ 1 1#1) hr h_S_ ix0 = 1#1) (i : s.Idx) : ∃ r : ℝ, x i = r := by
  haveI : Subsingleton S_.Idx := ⟨fun a b => funext fun t => t.elim0⟩
  exact real_of_abs _ (Host.reduce_andi_all _ _ hr h_S_ ix0 h i)

theorem finite_of_pre (m : (ℓ : Loc nD τ sig) → Buf (Elt Ideal) ℓ) (h : Cert.Pre_KernelIdeal_finite_KernelIdeal m) (c : Dev nD) :
    (∀ i, ∃ r : ℝ, m ((c.tc : Thread nD τ).loc main_arg0) i = (r : EReal))
    ∧ (∀ i, ∃ r : ℝ, m ((c.tc : Thread nD τ).loc main_arg1) i = (r : EReal))
    ∧ (∀ i, ∃ r : ℝ, m ((c.tc : Thread nD τ).loc main_arg2) i = (r : EReal)) := by
  have e := congrFun (h c) ix0
  obtain ⟨e01, e2⟩ := and_one _ _ e
  obtain ⟨e0, e1⟩ := and_one _ _ e01
  exact ⟨reals_of_all _ _ _ e0, reals_of_all _ _ _ e1, reals_of_all _ _ _ e2⟩

end Cert.KernelIdeal.Mha

end
-- ==== Proof.Value.lean ====
/- The value: with real activations, query projections and keys, the kernel's result is the reference's; and the claim that
   compares the two runs. -/
module

public import proofs.«01_k».proof.Proof.KValue
public import proofs.«01_k».proof.Proof.RValue
public import proofs.«01_k».proof.Proof.Finite
public import proofs.«01_k».proof.Proof.Launch

@[expose] public section

set_option maxRecDepth 16384

noncomputable section

namespace Cert.KernelIdeal.Mha

open Idealize.ShloMosaic Idealize.ShloMosaic.TcCoe Idealize.SL.Sem
open Cert.KernelIdeal Cert.KernelIdeal.Gen
open Idealize.ShloMosaic.ValueIdx
open scoped BigOperators

/-- The factor on the queries is a real. -/
theorem sigma_real : ∃ s : ℝ, sigma = s := by
  unfold sigma Ideal.ofBits Ideal.ieee
  dsimp only
  rw [if_neg (by decide), if_neg (by decide)]
  exact ⟨_, rfl⟩

/-- Scaling the queries before the product with the keys, or the product after it: the same, for reals. -/
theorem scale_sum {n : ℕ} (A K : Fin n → ℝ) (s : ℝ) :
    ∃ z : ℝ, ∑ k, ((A k : EReal) * (s : EReal)) * (K k : EReal) = z ∧ (∑ k, (A k : EReal) * (K k : EReal)) * (s : EReal) = z := by
  refine ⟨∑ k, A k * s * K k, ?_, ?_⟩
  · simp only [← EReal.coe_mul, sum_coe]
  · simp only [← EReal.coe_mul, sum_coe]
    congr 1
    rw [Finset.sum_mul]
    exact Finset.sum_congr rfl fun k _ => by ring

section Equal
variable (I : Ins Ideal) (x0 : S4x256x1024.Idx → EReal) (x1 : (⟨2, ![1024, 8192]⟩ : Shape).Idx → EReal)
  (x2 x3 : (⟨4, ![4, 1024, 64, 128]⟩ : Shape).Idx → EReal) (x4 : (⟨2, ![8192, 1024]⟩ : Shape).Idx → EReal)

/-- The devices' inputs are the blocks of the reference's, and those that reach the scores are reals. -/
structure Shares : Prop where
  x : ∀ d, I.x d = x0
  wq : ∀ d, I.wq d = Layout.block ⟨2, ![1024, 1024]⟩ ⟨2, ![1024, 8192]⟩ 1 8 d x1
  kk : ∀ d, I.kk d = Layout.block ⟨4, ![4, 1024, 8, 128]⟩ ⟨4, ![4, 1024, 64, 128]⟩ 2 8 d x2
  vv : ∀ d, I.vv d = Layout.block ⟨4, ![4, 1024, 8, 128]⟩ ⟨4, ![4, 1024, 64, 128]⟩ 2 8 d x3
  wo : ∀ d, I.wo d = Layout.block ⟨2, ![1024, 1024]⟩ ⟨2, ![8192, 1024]⟩ 0 8 d x4
  xReal : ∀ d i, ∃ r : ℝ, I.x d i = r
  wqReal : ∀ d i, ∃ r : ℝ, I.wq d i = r
  kkReal : ∀ d i, ∃ r : ℝ, I.kk d i = r

variable {I x0 x1 x2 x3 x4} (S : Shares I x0 x1 x2 x3 x4)
include S

theorem Shares.wq_at (d : Dev nD) (c t : Fin 1024) (T : Fin 8192) (hT : T.val = 1024 * d.val + t.val) : I.wq d (ix2 c t) = x1 (ix2 c T) := by
  rw [S.wq d]
  refine congrArg x1 (funext fun a => Fin.ext ?_)
  match a with
  | ⟨0, _⟩ => rfl
  | ⟨1, _⟩ => show d.val * 1024 + t.val = T.val; omega

theorem Shares.wo_at (d : Dev nD) (k t : Fin 1024) (K : Fin 8192) (hK : K.val = 1024 * d.val + k.val) : I.wo d (ix2 k t) = x4 (ix2 K t) := by
  rw [S.wo d]
  refine congrArg x4 (funext fun a => Fin.ext ?_)
  match a with
  | ⟨0, _⟩ => show d.val * 1024 + k.val = K.val; omega
  | ⟨1, _⟩ => rfl

theorem Shares.kk_at (d : Dev nD) (b : Fin 4) (j : Fin 1024) (h : Fin 8) (k : Fin 128) (H : Fin 64) (hH : H.val = 8 * d.val + h.val) :
    I.kk d (ix4 b j h k) = x2 (ix4 b j H k) := by
  rw [S.kk d]
  refine congrArg x2 (funext fun a => Fin.ext ?_)
  match a with
  | ⟨0, _⟩ => rfl
  | ⟨1, _⟩ => rfl
  | ⟨2, _⟩ => show d.val * 8 + h.val = H.val; omega
  | ⟨3, _⟩ => rfl

theorem Shares.vv_at (d : Dev nD) (b : Fin 4) (j : Fin 1024) (h : Fin 8) (k : Fin 128) (H : Fin 64) (hH : H.val = 8 * d.val + h.val) :
    I.vv d (ix4 b j h k) = x3 (ix4 b j H k) := by
  rw [S.vv d]
  refine congrArg x3 (funext fun a => Fin.ext ?_)
  match a with
  | ⟨0, _⟩ => rfl
  | ⟨1, _⟩ => rfl
  | ⟨2, _⟩ => show d.val * 8 + h.val = H.val; omega
  | ⟨3, _⟩ => rfl

/-- The two programs' scores are one real. -/
theorem Shares.score (d : Dev nD) (b : Fin 4) (q : Fin 256) (h : Fin 8) (H : Fin 64) (hH : H.val = 8 * d.val + h.val) (j : Fin 1024) :
    ∃ z : ℝ, hScore (kBlk I d b.val h.val) (qBlk I d b.val h.val) q j = z ∧ rScore x0 x1 x2 b H q j = z := by
  have hh := h.isLt
  have hd : d.val < 8 := d.isLt
  choose fx ex using S.xReal d
  choose fw ew using S.wqReal d
  choose fk ek using S.kkReal d
  obtain ⟨s, es⟩ := sigma_real
  have hA : ∀ k : Fin 128, ∑ c : Fin 1024, I.x d (ix3 b q c) * I.wq d (ix2 c (Fin.ofNat 1024 (128 * h.val + k.val)))
      = ((∑ c : Fin 1024, fx (ix3 b q c) * fw (ix2 c (Fin.ofNat 1024 (128 * h.val + k.val))) : ℝ) : EReal) := fun k => by
    simp only [ex, ew, ← EReal.coe_mul, sum_coe]
  have hR : ∀ k : Fin 128, ∑ c : Fin 1024, x0 (ix3 b q c) * x1 (ix2 c (Fin.ofNat 8192 (128 * H.val + k.val)))
      = ((∑ c : Fin 1024, fx (ix3 b q c) * fw (ix2 c (Fin.ofNat 1024 (128 * h.val + k.val))) : ℝ) : EReal) := fun k => by
    have hk := k.isLt
    rw [← hA k]
    refine Finset.sum_congr rfl fun c _ => congrArg₂ (· * ·) (congrFun (S.x d) _).symm (S.wq_at d c _ _ ?_).symm
    show (128 * H.val + k.val) % 8192 = 1024 * d.val + (128 * h.val + k.val) % 1024
    omega
  obtain ⟨z, z1, z2⟩ := scale_sum (fun k : Fin 128 => ∑ c : Fin 1024, fx (ix3 b q c) * fw (ix2 c (Fin.ofNat 1024 (128 * h.val + k.val))))
    (fun k => fk (ix4 b j h k)) s
  refine ⟨z, ?_, ?_⟩
  · rw [score_apply, ← z1]
    refine Finset.sum_congr rfl fun k _ => ?_
    rw [hA k, es, ek]
  · rw [← z2]
    unfold rScore
    refine congrArg₂ (· * ·) (Finset.sum_congr rfl fun k _ => ?_) es
    rw [hR k, ← S.kk_at d b j h k H hH, ek]

/-- The two programs' outputs of a head are one. -/
theorem Shares.head (d : Dev nD) (b : Fin 4) (q : Fin 256) (h : Fin 8) (H : Fin 64) (hH : H.val = 8 * d.val + h.val) (e : Fin 128) :
    soft (hScore (kBlk I d b.val h.val) (qBlk I d b.val h.val) q) (fun j => I.vv d (ix4 b j h e))
      = Cert.ReferenceIdeal.Read.val_main_v28 (F := Ideal) x0 x1 x2 x3 (ix4 b q H e) := by
  rw [v28_at]
  obtain ⟨M, eM⟩ := rMax_real x0 x1 x2 b H q fun b h q j => by
    have hh := h.isLt
    obtain ⟨z, _, ez⟩ := S.score (⟨h.val / 8, by omega⟩ : Fin 8) b q ⟨h.val % 8, by omega⟩ h (by show h.val = 8 * (h.val / 8) + h.val % 8; omega) j
    exact ⟨z, ez⟩
  choose z ez er using fun j => S.score d b q h H hH j
  rw [eM, funext ez, funext er, soft_shift]
  exact congrArg (soft _) (funext fun j => S.vv_at d b j h e H hH)

/-- The kernel's result is the reference's. -/
theorem Shares.total_eq : total I = Cert.ReferenceIdeal.Read.val_main_v32 (F := Ideal) x0 x1 x2 x3 x4 := by
  have key : ∀ r t : Fin 1024, total I (ix2 r t) = Cert.ReferenceIdeal.Read.val_main_v32 (F := Ideal) x0 x1 x2 x3 x4 (ix2 r t) := fun r t => by
    have hr := r.isLt
    rw [total_apply, v32_at x0 x1 x2 x3 x4 ⟨r.val / 256, by omega⟩ ⟨r.val % 256, by omega⟩ r t
      (by show r.val = 256 * (r.val / 256) + r.val % 256; omega)]
    refine Eq.trans ?_ (Equiv.sum_comp (finProdFinEquiv (m := 8) (n := 1024)) _)
    rw [Fintype.sum_prod_type]
    refine Finset.sum_congr rfl fun d _ => Finset.sum_congr rfl fun k _ => ?_
    have hk := k.isLt
    have hd : d.val < 8 := d.isLt
    have hK : (finProdFinEquiv (m := 8) (n := 1024) (d, k)).val = 1024 * d.val + k.val := Nat.add_comm _ _
    refine congrArg₂ (· * ·) ?_ (S.wo_at d k t _ hK)
    refine (attn_apply I d ⟨r.val / 256, by omega⟩ ⟨r.val % 256, by omega⟩ ⟨k.val / 128, by omega⟩ ⟨k.val % 128, by omega⟩ r.val k.val
      (by show r.val = 256 * (r.val / 256) + r.val % 256; omega) (by show k.val = 128 * (k.val / 128) + k.val % 128; omega)).trans ?_
    rw [S.head d ⟨r.val / 256, by omega⟩ ⟨r.val % 256, by omega⟩ ⟨k.val / 128, by omega⟩
      (Fin.ofNat 64 ((finProdFinEquiv (m := 8) (n := 1024) (d, k)).val / 128))
      (by show (finProdFinEquiv (m := 8) (n := 1024) (d, k)).val / 128 % 64 = 8 * d.val + k.val / 128; rw [hK]; omega)]
    refine congrArg (fun e => Cert.ReferenceIdeal.Read.val_main_v28 (F := Ideal) x0 x1 x2 x3 (ix4 _ _ _ e)) (Fin.ext ?_)
    show k.val % 128 = (finProdFinEquiv (m := 8) (n := 1024) (d, k)).val % 128
    rw [hK]; omega
  funext i
  have hi : i = ix2 (i 0) (i 1) := funext fun a => by fin_cases a <;> rfl
  rw [hi]
  exact key (i 0) (i 1)

end Equal

/-- The value claim: from arguments that agree, the finite ones of them reals, both programs' runs end with the same result. -/
theorem algebraic : Cert.algebraic_KernelIdeal_ReferenceIdeal_pre_finite_KernelIdeal := by
  intro m ρ m' ρ' hpre hagree
  have S : Shares (ins m) _ _ _ _ _ := {
    x := fun d => (hagree d).1
    wq := fun d => (hagree d).2.1
    kk := fun d => (hagree d).2.2.1
    vv := fun d => (hagree d).2.2.2.1
    wo := fun d => (hagree d).2.2.2.2
    xReal := fun d => (finite_of_pre m hpre d).1
    wqReal := fun d => (finite_of_pre m hpre d).2.1
    kkReal := fun d => (finite_of_pre m hpre d).2.2 }
  refine ⟨total (ins m), ?_, ?_⟩
  · exact (θ_run (Cert.KernelIdeal.defs (F := Ideal)) _ _).mono (fun _ h => h.1) (run_arrays (F := Ideal) m ρ)
  · refine (θ_run (Cert.ReferenceIdeal.defs (F := Ideal)) _ _).mono (fun _ h => ⟨(h 0).1.trans ?_, (h 0).2⟩)
      (Cert.ReferenceIdeal.Value.run (F := Ideal) m' ρ')
    exact (Cert.ReferenceIdeal.Read.val_main_v32_eq m' 0).trans S.total_eq.symm

end Cert.KernelIdeal.Mha

end
-- ==== Proof.lean ====
/- The proof of the certificate's claim: the frames, the rewriting's (empty) preservation and the value. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_KernelIdeal
public import proofs.«01_k».proof.Proof.Gen.Pre_finite_ReferenceIdeal
public import proofs.«01_k».proof.Proof.Frames
public import proofs.«01_k».proof.Proof.Value

@[expose] public section

noncomputable section

namespace Cert.Proof

open Idealize.ShloMosaic Idealize.SL.Sem Cert.KernelIdeal.Mha

/-- The claim, whole: the programs' facts, the frames, the preservation and the value. -/
theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_bits, frame_ideal, fun m ρ _ => frame_ideal m ρ trivial, frame_reference, fun m ρ _ => frame_reference m ρ trivial,
  trivial, algebraic⟩

end Cert.Proof

end
